-- ==== Defs.lean ====
def Pre_Base (m : (ℓ : Loc Cert.Base.nD Cert.Base.τ Cert.Base.sig) → Buf (Elt Bits) ℓ) : Prop :=
  True

def Pre_BaseIdeal (m : (ℓ : Loc Cert.BaseIdeal.nD Cert.BaseIdeal.τ Cert.BaseIdeal.sig) → Buf (Elt Ideal) ℓ) : Prop :=
  True

def Pre_BaseRefIdeal (m : (ℓ : Loc Cert.BaseRefIdeal.nD Cert.BaseRefIdeal.τ Cert.BaseRefIdeal.sig) → Buf (Elt Ideal) ℓ) : Prop :=
  True

def Pre_AdaptersCmp (m : (ℓ : Loc Cert.AdaptersCmp.nD Cert.AdaptersCmp.τ Cert.AdaptersCmp.sig) → Buf (Elt Bits) ℓ) : Prop :=
  True

def Pre_AdaptersCmpIdeal (m : (ℓ : Loc Cert.AdaptersCmpIdeal.nD Cert.AdaptersCmpIdeal.τ Cert.AdaptersCmpIdeal.sig) → Buf (Elt Ideal) ℓ) : Prop :=
  True

def Pre_AdaptersRefIdeal (m : (ℓ : Loc Cert.AdaptersRefIdeal.nD Cert.AdaptersRefIdeal.τ Cert.AdaptersRefIdeal.sig) → Buf (Elt Ideal) ℓ) : Prop :=
  True

def quiescent_Base [hBase : Cert.Base.Facts] : Prop :=
  ∀ (m : (ℓ : Loc Cert.Base.nD Cert.Base.τ Cert.Base.sig) → Buf (Elt Bits) ℓ) (g : Dev Cert.Base.nD → PrngReg), Pre_Base m →
    θ_run (Cert.Base.defs (F := Bits)) (onTc (τ := Cert.Base.τ) (Cert.Base.main (F := Bits))) ⟨m, fun _ => 0, g⟩ (fun r => (∀ c : Dev Cert.Base.nD,
      r.2.mem ((c.tc : Thread Cert.Base.nD Cert.Base.τ).loc Cert.Base.main_arg0) = m ((c.tc : Thread Cert.Base.nD Cert.Base.τ).loc Cert.Base.main_arg0)
      ∧ r.2.mem ((c.tc : Thread Cert.Base.nD Cert.Base.τ).loc Cert.Base.main_arg1) = m ((c.tc : Thread Cert.Base.nD Cert.Base.τ).loc Cert.Base.main_arg1)
      ∧ r.2.mem ((c.tc : Thread Cert.Base.nD Cert.Base.τ).loc Cert.Base.main_arg2) = m ((c.tc : Thread Cert.Base.nD Cert.Base.τ).loc Cert.Base.main_arg2)
      ∧ r.2.mem ((c.tc : Thread Cert.Base.nD Cert.Base.τ).loc Cert.Base.main_arg3) = m ((c.tc : Thread Cert.Base.nD Cert.Base.τ).loc Cert.Base.main_arg3)
      ∧ r.2.mem ((c.tc : Thread Cert.Base.nD Cert.Base.τ).loc Cert.Base.main_arg4) = m ((c.tc : Thread Cert.Base.nD Cert.Base.τ).loc Cert.Base.main_arg4)
      ∧ r.2.mem ((c.tc : Thread Cert.Base.nD Cert.Base.τ).loc Cert.Base.main_arg5) = m ((c.tc : Thread Cert.Base.nD Cert.Base.τ).loc Cert.Base.main_arg5)
      ∧ r.2.mem ((c.tc : Thread Cert.Base.nD Cert.Base.τ).loc Cert.Base.main_arg6) = m ((c.tc : Thread Cert.Base.nD Cert.Base.τ).loc Cert.Base.main_arg6))
      ∧ r.2.sem = fun _ => 0)

def quiescent_BaseIdeal [hBaseIdeal : Cert.BaseIdeal.Facts] : Prop :=
  ∀ (m : (ℓ : Loc Cert.BaseIdeal.nD Cert.BaseIdeal.τ Cert.BaseIdeal.sig) → Buf (Elt Ideal) ℓ) (g : Dev Cert.BaseIdeal.nD → PrngReg), Pre_BaseIdeal m →
    θ_run (Cert.BaseIdeal.defs (F := Ideal)) (onTc (τ := Cert.BaseIdeal.τ) (Cert.BaseIdeal.main (F := Ideal))) ⟨m, fun _ => 0, g⟩ (fun r => (∀ c : Dev Cert.BaseIdeal.nD,
      r.2.mem ((c.tc : Thread Cert.BaseIdeal.nD Cert.BaseIdeal.τ).loc Cert.BaseIdeal.main_arg0) = m ((c.tc : Thread Cert.BaseIdeal.nD Cert.BaseIdeal.τ).loc Cert.BaseIdeal.main_arg0)
      ∧ r.2.mem ((c.tc : Thread Cert.BaseIdeal.nD Cert.BaseIdeal.τ).loc Cert.BaseIdeal.main_arg1) = m ((c.tc : Thread Cert.BaseIdeal.nD Cert.BaseIdeal.τ).loc Cert.BaseIdeal.main_arg1)
      ∧ r.2.mem ((c.tc : Thread Cert.BaseIdeal.nD Cert.BaseIdeal.τ).loc Cert.BaseIdeal.main_arg2) = m ((c.tc : Thread Cert.BaseIdeal.nD Cert.BaseIdeal.τ).loc Cert.BaseIdeal.main_arg2)
      ∧ r.2.mem ((c.tc : Thread Cert.BaseIdeal.nD Cert.BaseIdeal.τ).loc Cert.BaseIdeal.main_arg3) = m ((c.tc : Thread Cert.BaseIdeal.nD Cert.BaseIdeal.τ).loc Cert.BaseIdeal.main_arg3)
      ∧ r.2.mem ((c.tc : Thread Cert.BaseIdeal.nD Cert.BaseIdeal.τ).loc Cert.BaseIdeal.main_arg4) = m ((c.tc : Thread Cert.BaseIdeal.nD Cert.BaseIdeal.τ).loc Cert.BaseIdeal.main_arg4)
      ∧ r.2.mem ((c.tc : Thread Cert.BaseIdeal.nD Cert.BaseIdeal.τ).loc Cert.BaseIdeal.main_arg5) = m ((c.tc : Thread Cert.BaseIdeal.nD Cert.BaseIdeal.τ).loc Cert.BaseIdeal.main_arg5)
      ∧ r.2.mem ((c.tc : Thread Cert.BaseIdeal.nD Cert.BaseIdeal.τ).loc Cert.BaseIdeal.main_arg6) = m ((c.tc : Thread Cert.BaseIdeal.nD Cert.BaseIdeal.τ).loc Cert.BaseIdeal.main_arg6))
      ∧ r.2.sem = fun _ => 0)

def quiescent_BaseRefIdeal [hBaseRefIdeal : Cert.BaseRefIdeal.Facts] : Prop :=
  ∀ (m : (ℓ : Loc Cert.BaseRefIdeal.nD Cert.BaseRefIdeal.τ Cert.BaseRefIdeal.sig) → Buf (Elt Ideal) ℓ) (g : Dev Cert.BaseRefIdeal.nD → PrngReg), Pre_BaseRefIdeal m →
    θ_run (Cert.BaseRefIdeal.defs (F := Ideal)) (onTc (τ := Cert.BaseRefIdeal.τ) (Cert.BaseRefIdeal.main (F := Ideal))) ⟨m, fun _ => 0, g⟩ (fun r => (∀ c : Dev Cert.BaseRefIdeal.nD,
      r.2.mem ((c.tc : Thread Cert.BaseRefIdeal.nD Cert.BaseRefIdeal.τ).loc Cert.BaseRefIdeal.main_arg0) = m ((c.tc : Thread Cert.BaseRefIdeal.nD Cert.BaseRefIdeal.τ).loc Cert.BaseRefIdeal.main_arg0)
      ∧ r.2.mem ((c.tc : Thread Cert.BaseRefIdeal.nD Cert.BaseRefIdeal.τ).loc Cert.BaseRefIdeal.main_arg1) = m ((c.tc : Thread Cert.BaseRefIdeal.nD Cert.BaseRefIdeal.τ).loc Cert.BaseRefIdeal.main_arg1)
      ∧ r.2.mem ((c.tc : Thread Cert.BaseRefIdeal.nD Cert.BaseRefIdeal.τ).loc Cert.BaseRefIdeal.main_arg2) = m ((c.tc : Thread Cert.BaseRefIdeal.nD Cert.BaseRefIdeal.τ).loc Cert.BaseRefIdeal.main_arg2)
      ∧ r.2.mem ((c.tc : Thread Cert.BaseRefIdeal.nD Cert.BaseRefIdeal.τ).loc Cert.BaseRefIdeal.main_arg3) = m ((c.tc : Thread Cert.BaseRefIdeal.nD Cert.BaseRefIdeal.τ).loc Cert.BaseRefIdeal.main_arg3)
      ∧ r.2.mem ((c.tc : Thread Cert.BaseRefIdeal.nD Cert.BaseRefIdeal.τ).loc Cert.BaseRefIdeal.main_arg4) = m ((c.tc : Thread Cert.BaseRefIdeal.nD Cert.BaseRefIdeal.τ).loc Cert.BaseRefIdeal.main_arg4)
      ∧ r.2.mem ((c.tc : Thread Cert.BaseRefIdeal.nD Cert.BaseRefIdeal.τ).loc Cert.BaseRefIdeal.main_arg5) = m ((c.tc : Thread Cert.BaseRefIdeal.nD Cert.BaseRefIdeal.τ).loc Cert.BaseRefIdeal.main_arg5)
      ∧ r.2.mem ((c.tc : Thread Cert.BaseRefIdeal.nD Cert.BaseRefIdeal.τ).loc Cert.BaseRefIdeal.main_arg6) = m ((c.tc : Thread Cert.BaseRefIdeal.nD Cert.BaseRefIdeal.τ).loc Cert.BaseRefIdeal.main_arg6))
      ∧ r.2.sem = fun _ => 0)

def quiescent_AdaptersCmp [hAdaptersCmp : Cert.AdaptersCmp.Facts] : Prop :=
  ∀ (m : (ℓ : Loc Cert.AdaptersCmp.nD Cert.AdaptersCmp.τ Cert.AdaptersCmp.sig) → Buf (Elt Bits) ℓ) (g : Dev Cert.AdaptersCmp.nD → PrngReg), Pre_AdaptersCmp m →
    θ_run (Cert.AdaptersCmp.defs (F := Bits)) (onTc (τ := Cert.AdaptersCmp.τ) (Cert.AdaptersCmp.main (F := Bits))) ⟨m, fun _ => 0, g⟩ (fun r => (∀ c : Dev Cert.AdaptersCmp.nD,
      r.2.mem ((c.tc : Thread Cert.AdaptersCmp.nD Cert.AdaptersCmp.τ).loc Cert.AdaptersCmp.main_arg0) = m ((c.tc : Thread Cert.AdaptersCmp.nD Cert.AdaptersCmp.τ).loc Cert.AdaptersCmp.main_arg0)
      ∧ r.2.mem ((c.tc : Thread Cert.AdaptersCmp.nD Cert.AdaptersCmp.τ).loc Cert.AdaptersCmp.main_arg1) = m ((c.tc : Thread Cert.AdaptersCmp.nD Cert.AdaptersCmp.τ).loc Cert.AdaptersCmp.main_arg1)
      ∧ r.2.mem ((c.tc : Thread Cert.AdaptersCmp.nD Cert.AdaptersCmp.τ).loc Cert.AdaptersCmp.main_arg2) = m ((c.tc : Thread Cert.AdaptersCmp.nD Cert.AdaptersCmp.τ).loc Cert.AdaptersCmp.main_arg2)
      ∧ r.2.mem ((c.tc : Thread Cert.AdaptersCmp.nD Cert.AdaptersCmp.τ).loc Cert.AdaptersCmp.main_arg3) = m ((c.tc : Thread Cert.AdaptersCmp.nD Cert.AdaptersCmp.τ).loc Cert.AdaptersCmp.main_arg3)
      ∧ r.2.mem ((c.tc : Thread Cert.AdaptersCmp.nD Cert.AdaptersCmp.τ).loc Cert.AdaptersCmp.main_arg4) = m ((c.tc : Thread Cert.AdaptersCmp.nD Cert.AdaptersCmp.τ).loc Cert.AdaptersCmp.main_arg4)
      ∧ r.2.mem ((c.tc : Thread Cert.AdaptersCmp.nD Cert.AdaptersCmp.τ).loc Cert.AdaptersCmp.main_arg5) = m ((c.tc : Thread Cert.AdaptersCmp.nD Cert.AdaptersCmp.τ).loc Cert.AdaptersCmp.main_arg5)
      ∧ r.2.mem ((c.tc : Thread Cert.AdaptersCmp.nD Cert.AdaptersCmp.τ).loc Cert.AdaptersCmp.main_arg6) = m ((c.tc : Thread Cert.AdaptersCmp.nD Cert.AdaptersCmp.τ).loc Cert.AdaptersCmp.main_arg6)
      ∧ r.2.mem ((c.tc : Thread Cert.AdaptersCmp.nD Cert.AdaptersCmp.τ).loc Cert.AdaptersCmp.main_arg7) = m ((c.tc : Thread Cert.AdaptersCmp.nD Cert.AdaptersCmp.τ).loc Cert.AdaptersCmp.main_arg7))
      ∧ r.2.sem = fun _ => 0)

def quiescent_AdaptersCmpIdeal [hAdaptersCmpIdeal : Cert.AdaptersCmpIdeal.Facts] : Prop :=
  ∀ (m : (ℓ : Loc Cert.AdaptersCmpIdeal.nD Cert.AdaptersCmpIdeal.τ Cert.AdaptersCmpIdeal.sig) → Buf (Elt Ideal) ℓ) (g : Dev Cert.AdaptersCmpIdeal.nD → PrngReg), Pre_AdaptersCmpIdeal m →
    θ_run (Cert.AdaptersCmpIdeal.defs (F := Ideal)) (onTc (τ := Cert.AdaptersCmpIdeal.τ) (Cert.AdaptersCmpIdeal.main (F := Ideal))) ⟨m, fun _ => 0, g⟩ (fun r => (∀ c : Dev Cert.AdaptersCmpIdeal.nD,
      r.2.mem ((c.tc : Thread Cert.AdaptersCmpIdeal.nD Cert.AdaptersCmpIdeal.τ).loc Cert.AdaptersCmpIdeal.main_arg0) = m ((c.tc : Thread Cert.AdaptersCmpIdeal.nD Cert.AdaptersCmpIdeal.τ).loc Cert.AdaptersCmpIdeal.main_arg0)
      ∧ r.2.mem ((c.tc : Thread Cert.AdaptersCmpIdeal.nD Cert.AdaptersCmpIdeal.τ).loc Cert.AdaptersCmpIdeal.main_arg1) = m ((c.tc : Thread Cert.AdaptersCmpIdeal.nD Cert.AdaptersCmpIdeal.τ).loc Cert.AdaptersCmpIdeal.main_arg1)
      ∧ r.2.mem ((c.tc : Thread Cert.AdaptersCmpIdeal.nD Cert.AdaptersCmpIdeal.τ).loc Cert.AdaptersCmpIdeal.main_arg2) = m ((c.tc : Thread Cert.AdaptersCmpIdeal.nD Cert.AdaptersCmpIdeal.τ).loc Cert.AdaptersCmpIdeal.main_arg2)
      ∧ r.2.mem ((c.tc : Thread Cert.AdaptersCmpIdeal.nD Cert.AdaptersCmpIdeal.τ).loc Cert.AdaptersCmpIdeal.main_arg3) = m ((c.tc : Thread Cert.AdaptersCmpIdeal.nD Cert.AdaptersCmpIdeal.τ).loc Cert.AdaptersCmpIdeal.main_arg3)
      ∧ r.2.mem ((c.tc : Thread Cert.AdaptersCmpIdeal.nD Cert.AdaptersCmpIdeal.τ).loc Cert.AdaptersCmpIdeal.main_arg4) = m ((c.tc : Thread Cert.AdaptersCmpIdeal.nD Cert.AdaptersCmpIdeal.τ).loc Cert.AdaptersCmpIdeal.main_arg4)
      ∧ r.2.mem ((c.tc : Thread Cert.AdaptersCmpIdeal.nD Cert.AdaptersCmpIdeal.τ).loc Cert.AdaptersCmpIdeal.main_arg5) = m ((c.tc : Thread Cert.AdaptersCmpIdeal.nD Cert.AdaptersCmpIdeal.τ).loc Cert.AdaptersCmpIdeal.main_arg5)
      ∧ r.2.mem ((c.tc : Thread Cert.AdaptersCmpIdeal.nD Cert.AdaptersCmpIdeal.τ).loc Cert.AdaptersCmpIdeal.main_arg6) = m ((c.tc : Thread Cert.AdaptersCmpIdeal.nD Cert.AdaptersCmpIdeal.τ).loc Cert.AdaptersCmpIdeal.main_arg6)
      ∧ r.2.mem ((c.tc : Thread Cert.AdaptersCmpIdeal.nD Cert.AdaptersCmpIdeal.τ).loc Cert.AdaptersCmpIdeal.main_arg7) = m ((c.tc : Thread Cert.AdaptersCmpIdeal.nD Cert.AdaptersCmpIdeal.τ).loc Cert.AdaptersCmpIdeal.main_arg7))
      ∧ r.2.sem = fun _ => 0)

def quiescent_AdaptersRefIdeal [hAdaptersRefIdeal : Cert.AdaptersRefIdeal.Facts] : Prop :=
  ∀ (m : (ℓ : Loc Cert.AdaptersRefIdeal.nD Cert.AdaptersRefIdeal.τ Cert.AdaptersRefIdeal.sig) → Buf (Elt Ideal) ℓ) (g : Dev Cert.AdaptersRefIdeal.nD → PrngReg), Pre_AdaptersRefIdeal m →
    θ_run (Cert.AdaptersRefIdeal.defs (F := Ideal)) (onTc (τ := Cert.AdaptersRefIdeal.τ) (Cert.AdaptersRefIdeal.main (F := Ideal))) ⟨m, fun _ => 0, g⟩ (fun r => (∀ c : Dev Cert.AdaptersRefIdeal.nD,
      r.2.mem ((c.tc : Thread Cert.AdaptersRefIdeal.nD Cert.AdaptersRefIdeal.τ).loc Cert.AdaptersRefIdeal.main_arg0) = m ((c.tc : Thread Cert.AdaptersRefIdeal.nD Cert.AdaptersRefIdeal.τ).loc Cert.AdaptersRefIdeal.main_arg0)
      ∧ r.2.mem ((c.tc : Thread Cert.AdaptersRefIdeal.nD Cert.AdaptersRefIdeal.τ).loc Cert.AdaptersRefIdeal.main_arg1) = m ((c.tc : Thread Cert.AdaptersRefIdeal.nD Cert.AdaptersRefIdeal.τ).loc Cert.AdaptersRefIdeal.main_arg1)
      ∧ r.2.mem ((c.tc : Thread Cert.AdaptersRefIdeal.nD Cert.AdaptersRefIdeal.τ).loc Cert.AdaptersRefIdeal.main_arg2) = m ((c.tc : Thread Cert.AdaptersRefIdeal.nD Cert.AdaptersRefIdeal.τ).loc Cert.AdaptersRefIdeal.main_arg2)
      ∧ r.2.mem ((c.tc : Thread Cert.AdaptersRefIdeal.nD Cert.AdaptersRefIdeal.τ).loc Cert.AdaptersRefIdeal.main_arg3) = m ((c.tc : Thread Cert.AdaptersRefIdeal.nD Cert.AdaptersRefIdeal.τ).loc Cert.AdaptersRefIdeal.main_arg3)
      ∧ r.2.mem ((c.tc : Thread Cert.AdaptersRefIdeal.nD Cert.AdaptersRefIdeal.τ).loc Cert.AdaptersRefIdeal.main_arg4) = m ((c.tc : Thread Cert.AdaptersRefIdeal.nD Cert.AdaptersRefIdeal.τ).loc Cert.AdaptersRefIdeal.main_arg4)
      ∧ r.2.mem ((c.tc : Thread Cert.AdaptersRefIdeal.nD Cert.AdaptersRefIdeal.τ).loc Cert.AdaptersRefIdeal.main_arg5) = m ((c.tc : Thread Cert.AdaptersRefIdeal.nD Cert.AdaptersRefIdeal.τ).loc Cert.AdaptersRefIdeal.main_arg5)
      ∧ r.2.mem ((c.tc : Thread Cert.AdaptersRefIdeal.nD Cert.AdaptersRefIdeal.τ).loc Cert.AdaptersRefIdeal.main_arg6) = m ((c.tc : Thread Cert.AdaptersRefIdeal.nD Cert.AdaptersRefIdeal.τ).loc Cert.AdaptersRefIdeal.main_arg6)
      ∧ r.2.mem ((c.tc : Thread Cert.AdaptersRefIdeal.nD Cert.AdaptersRefIdeal.τ).loc Cert.AdaptersRefIdeal.main_arg7) = m ((c.tc : Thread Cert.AdaptersRefIdeal.nD Cert.AdaptersRefIdeal.τ).loc Cert.AdaptersRefIdeal.main_arg7))
      ∧ r.2.sem = fun _ => 0)

def preserves_Base_BaseIdeal : Prop :=
  True

def algebraic_BaseIdeal_BaseRefIdeal [hBaseIdeal : Cert.BaseIdeal.Facts] [hBaseRefIdeal : Cert.BaseRefIdeal.Facts] : Prop :=
  ∀ (m : (ℓ : Loc Cert.BaseIdeal.nD Cert.BaseIdeal.τ Cert.BaseIdeal.sig) → Buf (Elt Ideal) ℓ) (g : Dev Cert.BaseIdeal.nD → PrngReg)
    (m' : (ℓ : Loc Cert.BaseRefIdeal.nD Cert.BaseRefIdeal.τ Cert.BaseRefIdeal.sig) → Buf (Elt Ideal) ℓ) (g' : Dev Cert.BaseRefIdeal.nD → PrngReg), Pre_BaseIdeal m →
    (∀ c : Dev Cert.BaseIdeal.nD,
      m' ((c.tc : Thread Cert.BaseRefIdeal.nD Cert.BaseRefIdeal.τ).loc Cert.BaseRefIdeal.main_arg0) = m ((c.tc : Thread Cert.BaseIdeal.nD Cert.BaseIdeal.τ).loc Cert.BaseIdeal.main_arg0)
      ∧ m' ((c.tc : Thread Cert.BaseRefIdeal.nD Cert.BaseRefIdeal.τ).loc Cert.BaseRefIdeal.main_arg1) = m ((c.tc : Thread Cert.BaseIdeal.nD Cert.BaseIdeal.τ).loc Cert.BaseIdeal.main_arg1)
      ∧ m' ((c.tc : Thread Cert.BaseRefIdeal.nD Cert.BaseRefIdeal.τ).loc Cert.BaseRefIdeal.main_arg2) = m ((c.tc : Thread Cert.BaseIdeal.nD Cert.BaseIdeal.τ).loc Cert.BaseIdeal.main_arg2)
      ∧ m' ((c.tc : Thread Cert.BaseRefIdeal.nD Cert.BaseRefIdeal.τ).loc Cert.BaseRefIdeal.main_arg3) = m ((c.tc : Thread Cert.BaseIdeal.nD Cert.BaseIdeal.τ).loc Cert.BaseIdeal.main_arg3)
      ∧ m' ((c.tc : Thread Cert.BaseRefIdeal.nD Cert.BaseRefIdeal.τ).loc Cert.BaseRefIdeal.main_arg4) = m ((c.tc : Thread Cert.BaseIdeal.nD Cert.BaseIdeal.τ).loc Cert.BaseIdeal.main_arg4)
      ∧ m' ((c.tc : Thread Cert.BaseRefIdeal.nD Cert.BaseRefIdeal.τ).loc Cert.BaseRefIdeal.main_arg5) = m ((c.tc : Thread Cert.BaseIdeal.nD Cert.BaseIdeal.τ).loc Cert.BaseIdeal.main_arg5)
      ∧ m' ((c.tc : Thread Cert.BaseRefIdeal.nD Cert.BaseRefIdeal.τ).loc Cert.BaseRefIdeal.main_arg6) = m ((c.tc : Thread Cert.BaseIdeal.nD Cert.BaseIdeal.τ).loc Cert.BaseIdeal.main_arg6)) →
    ∃ (v0 : (c : Dev Cert.BaseIdeal.nD) → Buf (Elt Ideal) ((c.tc : Thread Cert.BaseIdeal.nD Cert.BaseIdeal.τ).loc Cert.BaseIdeal.main_v4)),
      θ_run (Cert.BaseIdeal.defs (F := Ideal)) (onTc (τ := Cert.BaseIdeal.τ) (Cert.BaseIdeal.main (F := Ideal))) ⟨m, fun _ => 0, g⟩ (fun r => ∀ c : Dev Cert.BaseIdeal.nD,
          r.2.mem ((c.tc : Thread Cert.BaseIdeal.nD Cert.BaseIdeal.τ).loc Cert.BaseIdeal.main_v4) = v0 c
          ∧ r.2.mem ((c.tc : Thread Cert.BaseIdeal.nD Cert.BaseIdeal.τ).loc Cert.BaseIdeal.main_arg0) = m ((c.tc : Thread Cert.BaseIdeal.nD Cert.BaseIdeal.τ).loc Cert.BaseIdeal.main_arg0)
          ∧ r.2.mem ((c.tc : Thread Cert.BaseIdeal.nD Cert.BaseIdeal.τ).loc Cert.BaseIdeal.main_arg1) = m ((c.tc : Thread Cert.BaseIdeal.nD Cert.BaseIdeal.τ).loc Cert.BaseIdeal.main_arg1)
          ∧ r.2.mem ((c.tc : Thread Cert.BaseIdeal.nD Cert.BaseIdeal.τ).loc Cert.BaseIdeal.main_arg2) = m ((c.tc : Thread Cert.BaseIdeal.nD Cert.BaseIdeal.τ).loc Cert.BaseIdeal.main_arg2)
          ∧ r.2.mem ((c.tc : Thread Cert.BaseIdeal.nD Cert.BaseIdeal.τ).loc Cert.BaseIdeal.main_arg3) = m ((c.tc : Thread Cert.BaseIdeal.nD Cert.BaseIdeal.τ).loc Cert.BaseIdeal.main_arg3)
          ∧ r.2.mem ((c.tc : Thread Cert.BaseIdeal.nD Cert.BaseIdeal.τ).loc Cert.BaseIdeal.main_arg4) = m ((c.tc : Thread Cert.BaseIdeal.nD Cert.BaseIdeal.τ).loc Cert.BaseIdeal.main_arg4)
          ∧ r.2.mem ((c.tc : Thread Cert.BaseIdeal.nD Cert.BaseIdeal.τ).loc Cert.BaseIdeal.main_arg5) = m ((c.tc : Thread Cert.BaseIdeal.nD Cert.BaseIdeal.τ).loc Cert.BaseIdeal.main_arg5)
          ∧ r.2.mem ((c.tc : Thread Cert.BaseIdeal.nD Cert.BaseIdeal.τ).loc Cert.BaseIdeal.main_arg6) = m ((c.tc : Thread Cert.BaseIdeal.nD Cert.BaseIdeal.τ).loc Cert.BaseIdeal.main_arg6))
      ∧ θ_run (Cert.BaseRefIdeal.defs (F := Ideal)) (onTc (τ := Cert.BaseRefIdeal.τ) (Cert.BaseRefIdeal.main (F := Ideal))) ⟨m', fun _ => 0, g'⟩ (fun r => ∀ c : Dev Cert.BaseRefIdeal.nD,
          r.2.mem ((c.tc : Thread Cert.BaseRefIdeal.nD Cert.BaseRefIdeal.τ).loc Cert.BaseRefIdeal.main_v20) = v0 c
          ∧ r.2.mem ((c.tc : Thread Cert.BaseRefIdeal.nD Cert.BaseRefIdeal.τ).loc Cert.BaseRefIdeal.main_arg0) = m' ((c.tc : Thread Cert.BaseRefIdeal.nD Cert.BaseRefIdeal.τ).loc Cert.BaseRefIdeal.main_arg0)
          ∧ r.2.mem ((c.tc : Thread Cert.BaseRefIdeal.nD Cert.BaseRefIdeal.τ).loc Cert.BaseRefIdeal.main_arg1) = m' ((c.tc : Thread Cert.BaseRefIdeal.nD Cert.BaseRefIdeal.τ).loc Cert.BaseRefIdeal.main_arg1)
          ∧ r.2.mem ((c.tc : Thread Cert.BaseRefIdeal.nD Cert.BaseRefIdeal.τ).loc Cert.BaseRefIdeal.main_arg2) = m' ((c.tc : Thread Cert.BaseRefIdeal.nD Cert.BaseRefIdeal.τ).loc Cert.BaseRefIdeal.main_arg2)
          ∧ r.2.mem ((c.tc : Thread Cert.BaseRefIdeal.nD Cert.BaseRefIdeal.τ).loc Cert.BaseRefIdeal.main_arg3) = m' ((c.tc : Thread Cert.BaseRefIdeal.nD Cert.BaseRefIdeal.τ).loc Cert.BaseRefIdeal.main_arg3)
          ∧ r.2.mem ((c.tc : Thread Cert.BaseRefIdeal.nD Cert.BaseRefIdeal.τ).loc Cert.BaseRefIdeal.main_arg4) = m' ((c.tc : Thread Cert.BaseRefIdeal.nD Cert.BaseRefIdeal.τ).loc Cert.BaseRefIdeal.main_arg4)
          ∧ r.2.mem ((c.tc : Thread Cert.BaseRefIdeal.nD Cert.BaseRefIdeal.τ).loc Cert.BaseRefIdeal.main_arg5) = m' ((c.tc : Thread Cert.BaseRefIdeal.nD Cert.BaseRefIdeal.τ).loc Cert.BaseRefIdeal.main_arg5)
          ∧ r.2.mem ((c.tc : Thread Cert.BaseRefIdeal.nD Cert.BaseRefIdeal.τ).loc Cert.BaseRefIdeal.main_arg6) = m' ((c.tc : Thread Cert.BaseRefIdeal.nD Cert.BaseRefIdeal.τ).loc Cert.BaseRefIdeal.main_arg6))

def preserves_AdaptersCmp_AdaptersCmpIdeal : Prop :=
  True

def algebraic_AdaptersCmpIdeal_AdaptersRefIdeal [hAdaptersCmpIdeal : Cert.AdaptersCmpIdeal.Facts] [hAdaptersRefIdeal : Cert.AdaptersRefIdeal.Facts] : Prop :=
  ∀ (m : (ℓ : Loc Cert.AdaptersCmpIdeal.nD Cert.AdaptersCmpIdeal.τ Cert.AdaptersCmpIdeal.sig) → Buf (Elt Ideal) ℓ) (g : Dev Cert.AdaptersCmpIdeal.nD → PrngReg)
    (m' : (ℓ : Loc Cert.AdaptersRefIdeal.nD Cert.AdaptersRefIdeal.τ Cert.AdaptersRefIdeal.sig) → Buf (Elt Ideal) ℓ) (g' : Dev Cert.AdaptersRefIdeal.nD → PrngReg), Pre_AdaptersCmpIdeal m →
    (∀ c : Dev Cert.AdaptersCmpIdeal.nD,
      m' ((c.tc : Thread Cert.AdaptersRefIdeal.nD Cert.AdaptersRefIdeal.τ).loc Cert.AdaptersRefIdeal.main_arg0) = m ((c.tc : Thread Cert.AdaptersCmpIdeal.nD Cert.AdaptersCmpIdeal.τ).loc Cert.AdaptersCmpIdeal.main_arg0)
      ∧ m' ((c.tc : Thread Cert.AdaptersRefIdeal.nD Cert.AdaptersRefIdeal.τ).loc Cert.AdaptersRefIdeal.main_arg1) = m ((c.tc : Thread Cert.AdaptersCmpIdeal.nD Cert.AdaptersCmpIdeal.τ).loc Cert.AdaptersCmpIdeal.main_arg1)
      ∧ m' ((c.tc : Thread Cert.AdaptersRefIdeal.nD Cert.AdaptersRefIdeal.τ).loc Cert.AdaptersRefIdeal.main_arg2) = m ((c.tc : Thread Cert.AdaptersCmpIdeal.nD Cert.AdaptersCmpIdeal.τ).loc Cert.AdaptersCmpIdeal.main_arg2)
      ∧ m' ((c.tc : Thread Cert.AdaptersRefIdeal.nD Cert.AdaptersRefIdeal.τ).loc Cert.AdaptersRefIdeal.main_arg3) = m ((c.tc : Thread Cert.AdaptersCmpIdeal.nD Cert.AdaptersCmpIdeal.τ).loc Cert.AdaptersCmpIdeal.main_arg3)
      ∧ m' ((c.tc : Thread Cert.AdaptersRefIdeal.nD Cert.AdaptersRefIdeal.τ).loc Cert.AdaptersRefIdeal.main_arg4) = m ((c.tc : Thread Cert.AdaptersCmpIdeal.nD Cert.AdaptersCmpIdeal.τ).loc Cert.AdaptersCmpIdeal.main_arg4)
      ∧ m' ((c.tc : Thread Cert.AdaptersRefIdeal.nD Cert.AdaptersRefIdeal.τ).loc Cert.AdaptersRefIdeal.main_arg5) = m ((c.tc : Thread Cert.AdaptersCmpIdeal.nD Cert.AdaptersCmpIdeal.τ).loc Cert.AdaptersCmpIdeal.main_arg5)
      ∧ m' ((c.tc : Thread Cert.AdaptersRefIdeal.nD Cert.AdaptersRefIdeal.τ).loc Cert.AdaptersRefIdeal.main_arg6) = m ((c.tc : Thread Cert.AdaptersCmpIdeal.nD Cert.AdaptersCmpIdeal.τ).loc Cert.AdaptersCmpIdeal.main_arg6)
      ∧ m' ((c.tc : Thread Cert.AdaptersRefIdeal.nD Cert.AdaptersRefIdeal.τ).loc Cert.AdaptersRefIdeal.main_arg7) = m ((c.tc : Thread Cert.AdaptersCmpIdeal.nD Cert.AdaptersCmpIdeal.τ).loc Cert.AdaptersCmpIdeal.main_arg7)) →
    ∃ (v0 : (c : Dev Cert.AdaptersCmpIdeal.nD) → Buf (Elt Ideal) ((c.tc : Thread Cert.AdaptersCmpIdeal.nD Cert.AdaptersCmpIdeal.τ).loc Cert.AdaptersCmpIdeal.main_v6_0)) (v1 : (c : Dev Cert.AdaptersCmpIdeal.nD) → Buf (Elt Ideal) ((c.tc : Thread Cert.AdaptersCmpIdeal.nD Cert.AdaptersCmpIdeal.τ).loc Cert.AdaptersCmpIdeal.main_v6_1)) (v2 : (c : Dev Cert.AdaptersCmpIdeal.nD) → Buf (Elt Ideal) ((c.tc : Thread Cert.AdaptersCmpIdeal.nD Cert.AdaptersCmpIdeal.τ).loc Cert.AdaptersCmpIdeal.main_v6_2)) (v3 : (c : Dev Cert.AdaptersCmpIdeal.nD) → Buf (Elt Ideal) ((c.tc : Thread Cert.AdaptersCmpIdeal.nD Cert.AdaptersCmpIdeal.τ).loc Cert.AdaptersCmpIdeal.main_v6_3)) (v4 : (c : Dev Cert.AdaptersCmpIdeal.nD) → Buf (Elt Ideal) ((c.tc : Thread Cert.AdaptersCmpIdeal.nD Cert.AdaptersCmpIdeal.τ).loc Cert.AdaptersCmpIdeal.main_v6_4)) (v5 : (c : Dev Cert.AdaptersCmpIdeal.nD) → Buf (Elt Ideal) ((c.tc : Thread Cert.AdaptersCmpIdeal.nD Cert.AdaptersCmpIdeal.τ).loc Cert.AdaptersCmpIdeal.main_v6_5)) (v6 : (c : Dev Cert.AdaptersCmpIdeal.nD) → Buf (Elt Ideal) ((c.tc : Thread Cert.AdaptersCmpIdeal.nD Cert.AdaptersCmpIdeal.τ).loc Cert.AdaptersCmpIdeal.main_v6_6)) (v7 : (c : Dev Cert.AdaptersCmpIdeal.nD) → Buf (Elt Ideal) ((c.tc : Thread Cert.AdaptersCmpIdeal.nD Cert.AdaptersCmpIdeal.τ).loc Cert.AdaptersCmpIdeal.main_v6_7)) (v8 : (c : Dev Cert.AdaptersCmpIdeal.nD) → Buf (Elt Ideal) ((c.tc : Thread Cert.AdaptersCmpIdeal.nD Cert.AdaptersCmpIdeal.τ).loc Cert.AdaptersCmpIdeal.main_v6_8)),
      θ_run (Cert.AdaptersCmpIdeal.defs (F := Ideal)) (onTc (τ := Cert.AdaptersCmpIdeal.τ) (Cert.AdaptersCmpIdeal.main (F := Ideal))) ⟨m, fun _ => 0, g⟩ (fun r => ∀ c : Dev Cert.AdaptersCmpIdeal.nD,
          r.2.mem ((c.tc : Thread Cert.AdaptersCmpIdeal.nD Cert.AdaptersCmpIdeal.τ).loc Cert.AdaptersCmpIdeal.main_v6_0) = v0 c
          ∧ r.2.mem ((c.tc : Thread Cert.AdaptersCmpIdeal.nD Cert.AdaptersCmpIdeal.τ).loc Cert.AdaptersCmpIdeal.main_v6_1) = v1 c
          ∧ r.2.mem ((c.tc : Thread Cert.AdaptersCmpIdeal.nD Cert.AdaptersCmpIdeal.τ).loc Cert.AdaptersCmpIdeal.main_v6_2) = v2 c
          ∧ r.2.mem ((c.tc : Thread Cert.AdaptersCmpIdeal.nD Cert.AdaptersCmpIdeal.τ).loc Cert.AdaptersCmpIdeal.main_v6_3) = v3 c
          ∧ r.2.mem ((c.tc : Thread Cert.AdaptersCmpIdeal.nD Cert.AdaptersCmpIdeal.τ).loc Cert.AdaptersCmpIdeal.main_v6_4) = v4 c
          ∧ r.2.mem ((c.tc : Thread Cert.AdaptersCmpIdeal.nD Cert.AdaptersCmpIdeal.τ).loc Cert.AdaptersCmpIdeal.main_v6_5) = v5 c
          ∧ r.2.mem ((c.tc : Thread Cert.AdaptersCmpIdeal.nD Cert.AdaptersCmpIdeal.τ).loc Cert.AdaptersCmpIdeal.main_v6_6) = v6 c
          ∧ r.2.mem ((c.tc : Thread Cert.AdaptersCmpIdeal.nD Cert.AdaptersCmpIdeal.τ).loc Cert.AdaptersCmpIdeal.main_v6_7) = v7 c
          ∧ r.2.mem ((c.tc : Thread Cert.AdaptersCmpIdeal.nD Cert.AdaptersCmpIdeal.τ).loc Cert.AdaptersCmpIdeal.main_v6_8) = v8 c
          ∧ r.2.mem ((c.tc : Thread Cert.AdaptersCmpIdeal.nD Cert.AdaptersCmpIdeal.τ).loc Cert.AdaptersCmpIdeal.main_arg0) = m ((c.tc : Thread Cert.AdaptersCmpIdeal.nD Cert.AdaptersCmpIdeal.τ).loc Cert.AdaptersCmpIdeal.main_arg0)
          ∧ r.2.mem ((c.tc : Thread Cert.AdaptersCmpIdeal.nD Cert.AdaptersCmpIdeal.τ).loc Cert.AdaptersCmpIdeal.main_arg1) = m ((c.tc : Thread Cert.AdaptersCmpIdeal.nD Cert.AdaptersCmpIdeal.τ).loc Cert.AdaptersCmpIdeal.main_arg1)
          ∧ r.2.mem ((c.tc : Thread Cert.AdaptersCmpIdeal.nD Cert.AdaptersCmpIdeal.τ).loc Cert.AdaptersCmpIdeal.main_arg2) = m ((c.tc : Thread Cert.AdaptersCmpIdeal.nD Cert.AdaptersCmpIdeal.τ).loc Cert.AdaptersCmpIdeal.main_arg2)
          ∧ r.2.mem ((c.tc : Thread Cert.AdaptersCmpIdeal.nD Cert.AdaptersCmpIdeal.τ).loc Cert.AdaptersCmpIdeal.main_arg3) = m ((c.tc : Thread Cert.AdaptersCmpIdeal.nD Cert.AdaptersCmpIdeal.τ).loc Cert.AdaptersCmpIdeal.main_arg3)
          ∧ r.2.mem ((c.tc : Thread Cert.AdaptersCmpIdeal.nD Cert.AdaptersCmpIdeal.τ).loc Cert.AdaptersCmpIdeal.main_arg4) = m ((c.tc : Thread Cert.AdaptersCmpIdeal.nD Cert.AdaptersCmpIdeal.τ).loc Cert.AdaptersCmpIdeal.main_arg4)
          ∧ r.2.mem ((c.tc : Thread Cert.AdaptersCmpIdeal.nD Cert.AdaptersCmpIdeal.τ).loc Cert.AdaptersCmpIdeal.main_arg5) = m ((c.tc : Thread Cert.AdaptersCmpIdeal.nD Cert.AdaptersCmpIdeal.τ).loc Cert.AdaptersCmpIdeal.main_arg5)
          ∧ r.2.mem ((c.tc : Thread Cert.AdaptersCmpIdeal.nD Cert.AdaptersCmpIdeal.τ).loc Cert.AdaptersCmpIdeal.main_arg6) = m ((c.tc : Thread Cert.AdaptersCmpIdeal.nD Cert.AdaptersCmpIdeal.τ).loc Cert.AdaptersCmpIdeal.main_arg6)
          ∧ r.2.mem ((c.tc : Thread Cert.AdaptersCmpIdeal.nD Cert.AdaptersCmpIdeal.τ).loc Cert.AdaptersCmpIdeal.main_arg7) = m ((c.tc : Thread Cert.AdaptersCmpIdeal.nD Cert.AdaptersCmpIdeal.τ).loc Cert.AdaptersCmpIdeal.main_arg7))
      ∧ θ_run (Cert.AdaptersRefIdeal.defs (F := Ideal)) (onTc (τ := Cert.AdaptersRefIdeal.τ) (Cert.AdaptersRefIdeal.main (F := Ideal))) ⟨m', fun _ => 0, g'⟩ (fun r => ∀ c : Dev Cert.AdaptersRefIdeal.nD,
          r.2.mem ((c.tc : Thread Cert.AdaptersRefIdeal.nD Cert.AdaptersRefIdeal.τ).loc Cert.AdaptersRefIdeal.main_v73) = v0 c
          ∧ r.2.mem ((c.tc : Thread Cert.AdaptersRefIdeal.nD Cert.AdaptersRefIdeal.τ).loc Cert.AdaptersRefIdeal.main_v64) = v1 c
          ∧ r.2.mem ((c.tc : Thread Cert.AdaptersRefIdeal.nD Cert.AdaptersRefIdeal.τ).loc Cert.AdaptersRefIdeal.main_v74) = v2 c
          ∧ r.2.mem ((c.tc : Thread Cert.AdaptersRefIdeal.nD Cert.AdaptersRefIdeal.τ).loc Cert.AdaptersRefIdeal.main_v61) = v3 c
          ∧ r.2.mem ((c.tc : Thread Cert.AdaptersRefIdeal.nD Cert.AdaptersRefIdeal.τ).loc Cert.AdaptersRefIdeal.main_v75) = v4 c
          ∧ r.2.mem ((c.tc : Thread Cert.AdaptersRefIdeal.nD Cert.AdaptersRefIdeal.τ).loc Cert.AdaptersRefIdeal.main_v1_0) = v5 c
          ∧ r.2.mem ((c.tc : Thread Cert.AdaptersRefIdeal.nD Cert.AdaptersRefIdeal.τ).loc Cert.AdaptersRefIdeal.main_v76) = v6 c
          ∧ r.2.mem ((c.tc : Thread Cert.AdaptersRefIdeal.nD Cert.AdaptersRefIdeal.τ).loc Cert.AdaptersRefIdeal.main_v65) = v7 c
          ∧ r.2.mem ((c.tc : Thread Cert.AdaptersRefIdeal.nD Cert.AdaptersRefIdeal.τ).loc Cert.AdaptersRefIdeal.main_v72) = v8 c
          ∧ r.2.mem ((c.tc : Thread Cert.AdaptersRefIdeal.nD Cert.AdaptersRefIdeal.τ).loc Cert.AdaptersRefIdeal.main_arg0) = m' ((c.tc : Thread Cert.AdaptersRefIdeal.nD Cert.AdaptersRefIdeal.τ).loc Cert.AdaptersRefIdeal.main_arg0)
          ∧ r.2.mem ((c.tc : Thread Cert.AdaptersRefIdeal.nD Cert.AdaptersRefIdeal.τ).loc Cert.AdaptersRefIdeal.main_arg1) = m' ((c.tc : Thread Cert.AdaptersRefIdeal.nD Cert.AdaptersRefIdeal.τ).loc Cert.AdaptersRefIdeal.main_arg1)
          ∧ r.2.mem ((c.tc : Thread Cert.AdaptersRefIdeal.nD Cert.AdaptersRefIdeal.τ).loc Cert.AdaptersRefIdeal.main_arg2) = m' ((c.tc : Thread Cert.AdaptersRefIdeal.nD Cert.AdaptersRefIdeal.τ).loc Cert.AdaptersRefIdeal.main_arg2)
          ∧ r.2.mem ((c.tc : Thread Cert.AdaptersRefIdeal.nD Cert.AdaptersRefIdeal.τ).loc Cert.AdaptersRefIdeal.main_arg3) = m' ((c.tc : Thread Cert.AdaptersRefIdeal.nD Cert.AdaptersRefIdeal.τ).loc Cert.AdaptersRefIdeal.main_arg3)
          ∧ r.2.mem ((c.tc : Thread Cert.AdaptersRefIdeal.nD Cert.AdaptersRefIdeal.τ).loc Cert.AdaptersRefIdeal.main_arg4) = m' ((c.tc : Thread Cert.AdaptersRefIdeal.nD Cert.AdaptersRefIdeal.τ).loc Cert.AdaptersRefIdeal.main_arg4)
          ∧ r.2.mem ((c.tc : Thread Cert.AdaptersRefIdeal.nD Cert.AdaptersRefIdeal.τ).loc Cert.AdaptersRefIdeal.main_arg5) = m' ((c.tc : Thread Cert.AdaptersRefIdeal.nD Cert.AdaptersRefIdeal.τ).loc Cert.AdaptersRefIdeal.main_arg5)
          ∧ r.2.mem ((c.tc : Thread Cert.AdaptersRefIdeal.nD Cert.AdaptersRefIdeal.τ).loc Cert.AdaptersRefIdeal.main_arg6) = m' ((c.tc : Thread Cert.AdaptersRefIdeal.nD Cert.AdaptersRefIdeal.τ).loc Cert.AdaptersRefIdeal.main_arg6)
          ∧ r.2.mem ((c.tc : Thread Cert.AdaptersRefIdeal.nD Cert.AdaptersRefIdeal.τ).loc Cert.AdaptersRefIdeal.main_arg7) = m' ((c.tc : Thread Cert.AdaptersRefIdeal.nD Cert.AdaptersRefIdeal.τ).loc Cert.AdaptersRefIdeal.main_arg7))

def Claim : Prop :=
  ∃ (hBase : Cert.Base.Facts) (hBaseIdeal : Cert.BaseIdeal.Facts) (hBaseRefIdeal : Cert.BaseRefIdeal.Facts) (hAdaptersCmp : Cert.AdaptersCmp.Facts) (hAdaptersCmpIdeal : Cert.AdaptersCmpIdeal.Facts) (hAdaptersRefIdeal : Cert.AdaptersRefIdeal.Facts),
    quiescent_Base (hBase := hBase)
    ∧ quiescent_BaseIdeal (hBaseIdeal := hBaseIdeal)
    ∧ quiescent_BaseRefIdeal (hBaseRefIdeal := hBaseRefIdeal)
    ∧ quiescent_AdaptersCmp (hAdaptersCmp := hAdaptersCmp)
    ∧ quiescent_AdaptersCmpIdeal (hAdaptersCmpIdeal := hAdaptersCmpIdeal)
    ∧ quiescent_AdaptersRefIdeal (hAdaptersRefIdeal := hAdaptersRefIdeal)
    ∧ preserves_Base_BaseIdeal
    ∧ algebraic_BaseIdeal_BaseRefIdeal (hBaseIdeal := hBaseIdeal) (hBaseRefIdeal := hBaseRefIdeal)
    ∧ preserves_AdaptersCmp_AdaptersCmpIdeal
    ∧ algebraic_AdaptersCmpIdeal_AdaptersRefIdeal (hAdaptersCmpIdeal := hAdaptersCmpIdeal) (hAdaptersRefIdeal := hAdaptersRefIdeal)
-- ==== Base.lean ====
abbrev S2048x8960 : Shape := ⟨2, ![2048, 8960]⟩
abbrev S2048 : Shape := ⟨1, ![2048]⟩
abbrev S160x2048 : Shape := ⟨2, ![160, 2048]⟩
abbrev S8960x1536 : Shape := ⟨2, ![8960, 1536]⟩
abbrev S70x12 : Shape := ⟨2, ![70, 12]⟩
abbrev S9x16x1536 : Shape := ⟨3, ![9, 16, 1536]⟩
abbrev S16x1536 : Shape := ⟨2, ![16, 1536]⟩
abbrev S144x1536 : Shape := ⟨2, ![144, 1536]⟩
abbrev S2048x1 : Shape := ⟨2, ![2048, 1]⟩
abbrev S2048x128 : Shape := ⟨2, ![2048, 128]⟩
abbrev S12x70 : Shape := ⟨2, ![12, 70]⟩
abbrev S2048x1536 : Shape := ⟨2, ![2048, 1536]⟩
abbrev S2048x1280 : Shape := ⟨2, ![2048, 1280]⟩
abbrev S1280x1536 : Shape := ⟨2, ![1280, 1536]⟩
abbrev S1x1 : Shape := ⟨2, ![1, 1]⟩
abbrev S128x128 : Shape := ⟨2, ![128, 128]⟩
abbrev S1024x1536 : Shape := ⟨2, ![1024, 1536]⟩
abbrev S1024x1280 : Shape := ⟨2, ![1024, 1280]⟩
abbrev S160x256 : Shape := ⟨2, ![160, 256]⟩
abbrev S144x256 : Shape := ⟨2, ![144, 256]⟩
abbrev S256x1536 : Shape := ⟨2, ![256, 1536]⟩
abbrev S16x256 : Shape := ⟨2, ![16, 256]⟩
abbrev S256x128 : Shape := ⟨2, ![256, 128]⟩

abbrev nBuf : Space → Nat
  | .hbm => 12
  | .vmem => 11
  | .smem => 1
  | _ => 0

abbrev bufTy : (tb : Table) → Fin (tcTables nBuf tb) → BufTy
  | .hbm, ⟨0, _⟩ => ⟨S2048x8960, .fp8e5m2⟩
  | .hbm, ⟨1, _⟩ => ⟨S2048, .f32⟩
  | .hbm, ⟨2, _⟩ => ⟨S160x2048, .bf16⟩
  | .hbm, ⟨3, _⟩ => ⟨S8960x1536, .fp8e4m3⟩
  | .hbm, ⟨4, _⟩ => ⟨S70x12, .f32⟩
  | .hbm, ⟨5, _⟩ => ⟨S9x16x1536, .bf16⟩
  | .hbm, ⟨6, _⟩ => ⟨S16x1536, .bf16⟩
  | .hbm, ⟨7, _⟩ => ⟨S144x1536, .bf16⟩
  | .hbm, ⟨8, _⟩ => ⟨S2048x1, .f32⟩
  | .hbm, ⟨9, _⟩ => ⟨S2048x128, .f32⟩
  | .hbm, ⟨10, _⟩ => ⟨S12x70, .f32⟩
  | .hbm, ⟨11, _⟩ => ⟨S2048x1536, .bf16⟩
  | .local _ .vmem, ⟨0, _⟩ => ⟨S2048x1280, .fp8e5m2⟩
  | .local _ .vmem, ⟨1, _⟩ => ⟨S2048x1280, .fp8e5m2⟩
  | .local _ .vmem, ⟨2, _⟩ => ⟨S1280x1536, .fp8e4m3⟩
  | .local _ .vmem, ⟨3, _⟩ => ⟨S1280x1536, .fp8e4m3⟩
  | .local _ .vmem, ⟨4, _⟩ => ⟨S160x2048, .bf16⟩
  | .local _ .vmem, ⟨5, _⟩ => ⟨S144x1536, .bf16⟩
  | .local _ .vmem, ⟨6, _⟩ => ⟨S16x1536, .bf16⟩
  | .local _ .vmem, ⟨7, _⟩ => ⟨S2048x128, .f32⟩
  | .local _ .vmem, ⟨8, _⟩ => ⟨S2048x1536, .bf16⟩
  | .local _ .vmem, ⟨9, _⟩ => ⟨S2048x1536, .f32⟩
  | .local _ .vmem, ⟨10, _⟩ => ⟨S1280x1536, .bf16⟩
  | .local _ .smem, ⟨0, _⟩ => ⟨S12x70, .f32⟩
  | _, _ => ⟨S2048x8960, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_scratch0 : Ref sig .tc := ⟨.vmem, 9, rfl⟩
abbrev cc0_scratch1 : Ref sig .tc := ⟨.vmem, 10, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![7], ![false]⟩

def k0_off1 (i : grid0.Coords) (c0_i32_1 : BitVec 32) : Fin 2 → Nat :=
  let c0 : Index := 0#32
  let arg0 : BitVec 32 := BitVec.ofNat 32 (i 0).val
  let c10_i32 : BitVec 32 := 10#32
  let v3 : BitVec 32 := Scalar.muli arg0 c10_i32
  let v4 : BitVec 32 := Scalar.addi v3 c0_i32_1
  let v5 : Index := Scalar.indexCast v4
  ![0, v5.toNat]
def k0_off2 (i : grid0.Coords) (c0_i32_7 : BitVec 32) : Fin 2 → Nat :=
  let c1 : Index := 1#32
  let arg0 : BitVec 32 := BitVec.ofNat 32 (i 0).val
  let c10_i32_6 : BitVec 32 := 10#32
  let v15 : BitVec 32 := Scalar.muli arg0 c10_i32_6
  let v16 : BitVec 32 := Scalar.addi v15 c0_i32_7
  let v17 : Index := Scalar.indexCast v16
  ![1, v17.toNat]
def k0_off3 (i : grid0.Coords) (c0_i32_12 : BitVec 32) : Fin 2 → Nat :=
  let c2 : Index := 2#32
  let arg0 : BitVec 32 := BitVec.ofNat 32 (i 0).val
  let c10_i32_11 : BitVec 32 := 10#32
  let v27 : BitVec 32 := Scalar.muli arg0 c10_i32_11
  let v28 : BitVec 32 := Scalar.addi v27 c0_i32_12
  let v29 : Index := Scalar.indexCast v28
  ![2, v29.toNat]
def k0_off4 (i : grid0.Coords) (c0_i32_17 : BitVec 32) : Fin 2 → Nat :=
  let c3 : Index := 3#32
  let arg0 : BitVec 32 := BitVec.ofNat 32 (i 0).val
  let c10_i32_16 : BitVec 32 := 10#32
  let v39 : BitVec 32 := Scalar.muli arg0 c10_i32_16
  let v40 : BitVec 32 := Scalar.addi v39 c0_i32_17
  let v41 : Index := Scalar.indexCast v40
  ![3, v41.toNat]
def k0_off5 (i : grid0.Coords) (c0_i32_22 : BitVec 32) : Fin 2 → Nat :=
  let c4 : Index := 4#32
  let arg0 : BitVec 32 := BitVec.ofNat 32 (i 0).val
  let c10_i32_21 : BitVec 32 := 10#32
  let v51 : BitVec 32 := Scalar.muli arg0 c10_i32_21
  let v52 : BitVec 32 := Scalar.addi v51 c0_i32_22
  let v53 : Index := Scalar.indexCast v52
  ![4, v53.toNat]
def k0_off6 (i : grid0.Coords) (c0_i32_27 : BitVec 32) : Fin 2 → Nat :=
  let c5 : Index := 5#32
  let arg0 : BitVec 32 := BitVec.ofNat 32 (i 0).val
  let c10_i32_26 : BitVec 32 := 10#32
  let v63 : BitVec 32 := Scalar.muli arg0 c10_i32_26
  let v64 : BitVec 32 := Scalar.addi v63 c0_i32_27
  let v65 : Index := Scalar.indexCast v64
  ![5, v65.toNat]
def k0_off7 (i : grid0.Coords) (c0_i32_32 : BitVec 32) : Fin 2 → Nat :=
  let c6 : Index := 6#32
  let arg0 : BitVec 32 := BitVec.ofNat 32 (i 0).val
  let c10_i32_31 : BitVec 32 := 10#32
  let v75 : BitVec 32 := Scalar.muli arg0 c10_i32_31
  let v76 : BitVec 32 := Scalar.addi v75 c0_i32_32
  let v77 : Index := Scalar.indexCast v76
  ![6, v77.toNat]
def k0_off8 (i : grid0.Coords) (c0_i32_37 : BitVec 32) : Fin 2 → Nat :=
  let c7 : Index := 7#32
  let arg0 : BitVec 32 := BitVec.ofNat 32 (i 0).val
  let c10_i32_36 : BitVec 32 := 10#32
  let v87 : BitVec 32 := Scalar.muli arg0 c10_i32_36
  let v88 : BitVec 32 := Scalar.addi v87 c0_i32_37
  let v89 : Index := Scalar.indexCast v88
  ![7, v89.toNat]
def k0_off9 (i : grid0.Coords) (c0_i32_42 : BitVec 32) : Fin 2 → Nat :=
  let c8 : Index := 8#32
  let arg0 : BitVec 32 := BitVec.ofNat 32 (i 0).val
  let c10_i32_41 : BitVec 32 := 10#32
  let v99 : BitVec 32 := Scalar.muli arg0 c10_i32_41
  let v100 : BitVec 32 := Scalar.addi v99 c0_i32_42
  let v101 : Index := Scalar.indexCast v100
  ![8, v101.toNat]
def k0_off10 (i : grid0.Coords) (c0_i32_47 : BitVec 32) : Fin 2 → Nat :=
  let c9 : Index := 9#32
  let arg0 : BitVec 32 := BitVec.ofNat 32 (i 0).val
  let c10_i32_46 : BitVec 32 := 10#32
  let v111 : BitVec 32 := Scalar.muli arg0 c10_i32_46
  let v112 : BitVec 32 := Scalar.addi v111 c0_i32_47
  let v113 : Index := Scalar.indexCast v112
  ![9, v113.toNat]
def k0_off11 (i : grid0.Coords) (c0_i32_52 : BitVec 32) : Fin 2 → Nat :=
  let c10 : Index := 10#32
  let arg0 : BitVec 32 := BitVec.ofNat 32 (i 0).val
  let c10_i32_51 : BitVec 32 := 10#32
  let v123 : BitVec 32 := Scalar.muli arg0 c10_i32_51
  let v124 : BitVec 32 := Scalar.addi v123 c0_i32_52
  let v125 : Index := Scalar.indexCast v124
  ![10, v125.toNat]
def k0_off12 (i : grid0.Coords) (c0_i32_57 : BitVec 32) : Fin 2 → Nat :=
  let c11 : Index := 11#32
  let arg0 : BitVec 32 := BitVec.ofNat 32 (i 0).val
  let c10_i32_56 : BitVec 32 := 10#32
  let v135 : BitVec 32 := Scalar.muli arg0 c10_i32_56
  let v136 : BitVec 32 := Scalar.addi v135 c0_i32_57
  let v137 : Index := Scalar.indexCast v136
  ![11, v137.toNat]
@[reducible] def k0_t1_loop : Scf.Loop 32 :=
  let c0_i32_808 : BitVec 32 := 0#32
  let c2_i32_809 : BitVec 32 := 2#32
  let v1443 : BitVec 32 := Scalar.addi c0_i32_808 c2_i32_809
  let c1_i32_810 : BitVec 32 := 1#32
  ⟨c0_i32_808, v1443, c1_i32_810⟩
def k0_mult1 (k0_t1 : Fin k0_t1_loop.trips) : BitVec 32 :=
  let c0_i32_808 : BitVec 32 := 0#32
  let c1_i32_810 : BitVec 32 := 1#32
  let arg11 : BitVec 32 := Scf.iv c0_i32_808 c1_i32_810 k0_t1
  let c1024_i32 : BitVec 32 := 1024#32
  let v1447 : BitVec 32 := Scalar.muli arg11 c1024_i32
  v1447
def k0_off13 (k0_t1 : Fin k0_t1_loop.trips) : Fin 2 → Nat :=
  let c0_i32_808 : BitVec 32 := 0#32
  let c1_i32_810 : BitVec 32 := 1#32
  let arg11 : BitVec 32 := Scf.iv c0_i32_808 c1_i32_810 k0_t1
  let c1024_i32 : BitVec 32 := 1024#32
  let v1447 : BitVec 32 := Scalar.muli arg11 c1024_i32
  let v1448 : BitVec 32 := v1447
  let v1449 : Index := Scalar.indexCast v1448
  let c0_814 : Index := 0#32
  ![v1449.toNat, 0]
def k0_off14 (k0_t1 : Fin k0_t1_loop.trips) : Fin 2 → Nat :=
  let c0_i32_808 : BitVec 32 := 0#32
  let c1_i32_810 : BitVec 32 := 1#32
  let arg11 : BitVec 32 := Scf.iv c0_i32_808 c1_i32_810 k0_t1
  let c1024_i32 : BitVec 32 := 1024#32
  let v1447 : BitVec 32 := Scalar.muli arg11 c1024_i32
  let v1448 : BitVec 32 := v1447
  let v1451 : Index := Scalar.indexCast v1448
  let c0_815 : Index := 0#32
  ![v1451.toNat, 0]
def k0_cond2 (i : grid0.Coords) : BitVec 1 :=
  let arg0 : BitVec 32 := BitVec.ofNat 32 (i 0).val
  let c6_i32_812 : BitVec 32 := 6#32
  let v1444 : BitVec 1 := Scalar.cmpi .eq arg0 c6_i32_812
  let v1445 : BitVec 32 := Scalar.extui v1444
  let c0_i32_813 : BitVec 32 := 0#32
  let v1446 : BitVec 1 := Scalar.cmpi .ne v1445 c0_i32_813
  v1446

@[reducible] def k0_t2_loop : Scf.Loop 32 :=
  let c0_i32_814 : BitVec 32 := 0#32
  let c8_i32_815 : BitVec 32 := 8#32
  let v1447 : BitVec 32 := Scalar.addi c0_i32_814 c8_i32_815
  let c1_i32_816 : BitVec 32 := 1#32
  ⟨c0_i32_814, v1447, c1_i32_816⟩
def k0_mult2 (k0_t2 : Fin k0_t2_loop.trips) : BitVec 32 :=
  let c0_i32_814 : BitVec 32 := 0#32
  let c1_i32_816 : BitVec 32 := 1#32
  let arg11 : BitVec 32 := Scf.iv c0_i32_814 c1_i32_816 k0_t2
  let c256_i32 : BitVec 32 := 256#32
  let v1448 : BitVec 32 := Scalar.muli arg11 c256_i32
  v1448
def k0_off15 (k0_t2 : Fin k0_t2_loop.trips) : Fin 2 → Nat :=
  let c0_818 : Index := 0#32
  let c0_i32_814 : BitVec 32 := 0#32
  let c1_i32_816 : BitVec 32 := 1#32
  let arg11 : BitVec 32 := Scf.iv c0_i32_814 c1_i32_816 k0_t2
  let c256_i32 : BitVec 32 := 256#32
  let v1448 : BitVec 32 := Scalar.muli arg11 c256_i32
  let v1449 : BitVec 32 := v1448
  let v1450 : Index := Scalar.indexCast v1449
  ![0, v1450.toNat]
def k0_off16 (k0_t2 : Fin k0_t2_loop.trips) : Fin 2 → Nat :=
  let c0_i32_814 : BitVec 32 := 0#32
  let c1_i32_816 : BitVec 32 := 1#32
  let arg11 : BitVec 32 := Scf.iv c0_i32_814 c1_i32_816 k0_t2
  let c256_i32 : BitVec 32 := 256#32
  let v1448 : BitVec 32 := Scalar.muli arg11 c256_i32
  let v1449 : BitVec 32 := v1448
  let v1460 : Index := Scalar.indexCast v1449
  let c0_824 : Index := 0#32
  ![v1460.toNat, 0]
def k0_off17 (k0_t2 : Fin k0_t2_loop.trips) : Fin 2 → Nat :=
  let c0_i32_814 : BitVec 32 := 0#32
  let c1_i32_816 : BitVec 32 := 1#32
  let arg11 : BitVec 32 := Scf.iv c0_i32_814 c1_i32_816 k0_t2
  let c256_i32 : BitVec 32 := 256#32
  let v1448 : BitVec 32 := Scalar.muli arg11 c256_i32
  let v1449 : BitVec 32 := v1448
  let v1464 : Index := Scalar.indexCast v1449
  let c0_825 : Index := 0#32
  ![v1464.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1280 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x1536 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S12x70 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S160x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S144x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== BaseRefIdeal.lean ====
abbrev S2048x8960 : Shape := ⟨2, ![2048, 8960]⟩
abbrev S2048 : Shape := ⟨1, ![2048]⟩
abbrev S160x2048 : Shape := ⟨2, ![160, 2048]⟩
abbrev S8960x1536 : Shape := ⟨2, ![8960, 1536]⟩
abbrev S70x12 : Shape := ⟨2, ![70, 12]⟩
abbrev S9x16x1536 : Shape := ⟨3, ![9, 16, 1536]⟩
abbrev S16x1536 : Shape := ⟨2, ![16, 1536]⟩
abbrev S70x128x12x128 : Shape := ⟨4, ![70, 128, 12, 128]⟩
abbrev S70x1x12x1 : Shape := ⟨4, ![70, 1, 12, 1]⟩
abbrev S2048x1536 : Shape := ⟨2, ![2048, 1536]⟩
abbrev S2048x1 : Shape := ⟨2, ![2048, 1]⟩
abbrev S144x2048 : Shape := ⟨2, ![144, 2048]⟩
abbrev S2048x144 : Shape := ⟨2, ![2048, 144]⟩
abbrev S16x2048 : Shape := ⟨2, ![16, 2048]⟩
abbrev S2048x16 : Shape := ⟨2, ![2048, 16]⟩
abbrev S144x1536 : Shape := ⟨2, ![144, 1536]⟩

abbrev nBuf : Space → Nat
  | .hbm => 29
  | .vmem => 4
  | .smem => 0
  | _ => 0

abbrev bufTy : (tb : Table) → Fin (tcTables nBuf tb) → BufTy
  | .hbm, ⟨0, _⟩ => ⟨S2048x8960, .fp8e5m2⟩
  | .hbm, ⟨1, _⟩ => ⟨S2048, .f32⟩
  | .hbm, ⟨2, _⟩ => ⟨S160x2048, .bf16⟩
  | .hbm, ⟨3, _⟩ => ⟨S8960x1536, .fp8e4m3⟩
  | .hbm, ⟨4, _⟩ => ⟨S70x12, .f32⟩
  | .hbm, ⟨5, _⟩ => ⟨S9x16x1536, .bf16⟩
  | .hbm, ⟨6, _⟩ => ⟨S16x1536, .bf16⟩
  | .hbm, ⟨7, _⟩ => ⟨S2048x8960, .bf16⟩
  | .hbm, ⟨8, _⟩ => ⟨S8960x1536, .bf16⟩
  | .hbm, ⟨9, _⟩ => ⟨S70x128x12x128, .bf16⟩
  | .hbm, ⟨10, _⟩ => ⟨S70x12, .bf16⟩
  | .hbm, ⟨11, _⟩ => ⟨S70x1x12x1, .bf16⟩
  | .hbm, ⟨12, _⟩ => ⟨S70x128x12x128, .bf16⟩
  | .hbm, ⟨13, _⟩ => ⟨S70x128x12x128, .bf16⟩
  | .hbm, ⟨14, _⟩ => ⟨S8960x1536, .bf16⟩
  | .hbm, ⟨15, _⟩ => ⟨S2048x1536, .f32⟩
  | .hbm, ⟨16, _⟩ => ⟨S2048x1, .f32⟩
  | .hbm, ⟨17, _⟩ => ⟨S2048x1536, .f32⟩
  | .hbm, ⟨18, _⟩ => ⟨S2048x1536, .f32⟩
  | .hbm, ⟨19, _⟩ => ⟨S144x2048, .bf16⟩
  | .hbm, ⟨20, _⟩ => ⟨S2048x144, .bf16⟩
  | .hbm, ⟨21, _⟩ => ⟨S16x2048, .bf16⟩
  | .hbm, ⟨22, _⟩ => ⟨S2048x16, .bf16⟩
  | .hbm, ⟨23, _⟩ => ⟨S144x1536, .bf16⟩
  | .hbm, ⟨24, _⟩ => ⟨S2048x1536, .f32⟩
  | .hbm, ⟨25, _⟩ => ⟨S2048x1536, .f32⟩
  | .hbm, ⟨26, _⟩ => ⟨S2048x1536, .f32⟩
  | .hbm, ⟨27, _⟩ => ⟨S2048x1536, .f32⟩
  | .hbm, ⟨28, _⟩ => ⟨S2048x1536, .bf16⟩
  | .local _ .vmem, ⟨0, _⟩ => ⟨S2048x8960, .fp8e5m2⟩
  | .local _ .vmem, ⟨1, _⟩ => ⟨S8960x1536, .fp8e4m3⟩
  | .local _ .vmem, ⟨2, _⟩ => ⟨S2048x8960, .bf16⟩
  | .local _ .vmem, ⟨3, _⟩ => ⟨S8960x1536, .bf16⟩
  | _, _ => ⟨S2048x8960, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2048x8960 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8960x1536 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x8960 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8960x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== AdaptersCmp.lean ====
abbrev S2048x1536 : Shape := ⟨2, ![2048, 1536]⟩
abbrev S2048x8960 : Shape := ⟨2, ![2048, 8960]⟩
abbrev S9x16x1536 : Shape := ⟨3, ![9, 16, 1536]⟩
abbrev S9x8960x16 : Shape := ⟨3, ![9, 8960, 16]⟩
abbrev S2048x2 : Shape := ⟨2, ![2048, 2]⟩
abbrev S16x1536 : Shape := ⟨2, ![16, 1536]⟩
abbrev S8960x16 : Shape := ⟨2, ![8960, 16]⟩
abbrev S144x1536 : Shape := ⟨2, ![144, 1536]⟩
abbrev S9x16x8960 : Shape := ⟨3, ![9, 16, 8960]⟩
abbrev S144x8960 : Shape := ⟨2, ![144, 8960]⟩
abbrev S16x8960 : Shape := ⟨2, ![16, 8960]⟩
abbrev S2x2048 : Shape := ⟨2, ![2, 2048]⟩
abbrev S16x128 : Shape := ⟨2, ![16, 128]⟩
abbrev S2048x128 : Shape := ⟨2, ![2048, 128]⟩
abbrev S160x2048 : Shape := ⟨2, ![160, 2048]⟩
abbrev S256x1536 : Shape := ⟨2, ![256, 1536]⟩
abbrev S256x8960 : Shape := ⟨2, ![256, 8960]⟩
abbrev S2x256 : Shape := ⟨2, ![2, 256]⟩
abbrev S256x128 : Shape := ⟨2, ![256, 128]⟩
abbrev S160x256 : Shape := ⟨2, ![160, 256]⟩
abbrev S144x256 : Shape := ⟨2, ![144, 256]⟩
abbrev S16x256 : Shape := ⟨2, ![16, 256]⟩
abbrev S2x256x128 : Shape := ⟨3, ![2, 256, 128]⟩
abbrev S1x256 : Shape := ⟨2, ![1, 256]⟩
abbrev S128x256 : Shape := ⟨2, ![128, 256]⟩
abbrev S1x256x128 : Shape := ⟨3, ![1, 256, 128]⟩
abbrev S256x1280 : Shape := ⟨2, ![256, 1280]⟩
abbrev S144x1280 : Shape := ⟨2, ![144, 1280]⟩
abbrev S16x1280 : Shape := ⟨2, ![16, 1280]⟩
abbrev S256 : Shape := ⟨1, ![256]⟩
abbrev S256x1 : Shape := ⟨2, ![256, 1]⟩
abbrev S1x128 : Shape := ⟨2, ![1, 128]⟩

abbrev nBuf : Space → Nat
  | .hbm => 23
  | .vmem => 29
  | .smem => 0
  | _ => 0

abbrev bufTy : (tb : Table) → Fin (tcTables nBuf tb) → BufTy
  | .hbm, ⟨0, _⟩ => ⟨S2048x1536, .bf16⟩
  | .hbm, ⟨1, _⟩ => ⟨S2048x8960, .bf16⟩
  | .hbm, ⟨2, _⟩ => ⟨S9x16x1536, .bf16⟩
  | .hbm, ⟨3, _⟩ => ⟨S9x8960x16, .bf16⟩
  | .hbm, ⟨4, _⟩ => ⟨S2048x2, .i32⟩
  | .hbm, ⟨5, _⟩ => ⟨S2048x2, .f32⟩
  | .hbm, ⟨6, _⟩ => ⟨S16x1536, .bf16⟩
  | .hbm, ⟨7, _⟩ => ⟨S8960x16, .bf16⟩
  | .hbm, ⟨8, _⟩ => ⟨S144x1536, .bf16⟩
  | .hbm, ⟨9, _⟩ => ⟨S9x16x8960, .bf16⟩
  | .hbm, ⟨10, _⟩ => ⟨S144x8960, .bf16⟩
  | .hbm, ⟨11, _⟩ => ⟨S16x8960, .bf16⟩
  | .hbm, ⟨12, _⟩ => ⟨S2x2048, .i32⟩
  | .hbm, ⟨13, _⟩ => ⟨S2x2048, .f32⟩
  | .hbm, ⟨14, _⟩ => ⟨S144x1536, .f32⟩
  | .hbm, ⟨15, _⟩ => ⟨S16x1536, .f32⟩
  | .hbm, ⟨16, _⟩ => ⟨S144x8960, .f32⟩
  | .hbm, ⟨17, _⟩ => ⟨S16x8960, .f32⟩
  | .hbm, ⟨18, _⟩ => ⟨S2x2048, .f32⟩
  | .hbm, ⟨19, _⟩ => ⟨S2048x8960, .fp8e5m2⟩
  | .hbm, ⟨20, _⟩ => ⟨S16x128, .f32⟩
  | .hbm, ⟨21, _⟩ => ⟨S2048x128, .f32⟩
  | .hbm, ⟨22, _⟩ => ⟨S160x2048, .bf16⟩
  | .local _ .vmem, ⟨0, _⟩ => ⟨S256x1536, .bf16⟩
  | .local _ .vmem, ⟨1, _⟩ => ⟨S256x1536, .bf16⟩
  | .local _ .vmem, ⟨2, _⟩ => ⟨S256x8960, .bf16⟩
  | .local _ .vmem, ⟨3, _⟩ => ⟨S256x8960, .bf16⟩
  | .local _ .vmem, ⟨4, _⟩ => ⟨S144x1536, .bf16⟩
  | .local _ .vmem, ⟨5, _⟩ => ⟨S16x1536, .bf16⟩
  | .local _ .vmem, ⟨6, _⟩ => ⟨S144x8960, .bf16⟩
  | .local _ .vmem, ⟨7, _⟩ => ⟨S16x8960, .bf16⟩
  | .local _ .vmem, ⟨8, _⟩ => ⟨S2x256, .i32⟩
  | .local _ .vmem, ⟨9, _⟩ => ⟨S2x256, .i32⟩
  | .local _ .vmem, ⟨10, _⟩ => ⟨S2x256, .f32⟩
  | .local _ .vmem, ⟨11, _⟩ => ⟨S2x256, .f32⟩
  | .local _ .vmem, ⟨12, _⟩ => ⟨S144x1536, .f32⟩
  | .local _ .vmem, ⟨13, _⟩ => ⟨S16x1536, .f32⟩
  | .local _ .vmem, ⟨14, _⟩ => ⟨S144x8960, .f32⟩
  | .local _ .vmem, ⟨15, _⟩ => ⟨S16x8960, .f32⟩
  | .local _ .vmem, ⟨16, _⟩ => ⟨S2x256, .f32⟩
  | .local _ .vmem, ⟨17, _⟩ => ⟨S2x256, .f32⟩
  | .local _ .vmem, ⟨18, _⟩ => ⟨S256x8960, .fp8e5m2⟩
  | .local _ .vmem, ⟨19, _⟩ => ⟨S256x8960, .fp8e5m2⟩
  | .local _ .vmem, ⟨20, _⟩ => ⟨S16x128, .f32⟩
  | .local _ .vmem, ⟨21, _⟩ => ⟨S256x128, .f32⟩
  | .local _ .vmem, ⟨22, _⟩ => ⟨S256x128, .f32⟩
  | .local _ .vmem, ⟨23, _⟩ => ⟨S160x256, .bf16⟩
  | .local _ .vmem, ⟨24, _⟩ => ⟨S160x256, .bf16⟩
  | .local _ .vmem, ⟨25, _⟩ => ⟨S144x256, .f32⟩
  | .local _ .vmem, ⟨26, _⟩ => ⟨S16x256, .f32⟩
  | .local _ .vmem, ⟨27, _⟩ => ⟨S256x128, .bf16⟩
  | .local _ .vmem, ⟨28, _⟩ => ⟨S2x256x128, .f32⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_v6_6 : Ref sig .tc := ⟨.hbm, 20, rfl⟩
abbrev main_v6_7 : Ref sig .tc := ⟨.hbm, 21, rfl⟩
abbrev main_v6_8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_38 : BitVec 32 := 0#32
  let c7_i32 : BitVec 32 := 7#32
  let v85 : BitVec 32 := Scalar.addi c0_i32_38 c7_i32
  let c1_i32_39 : BitVec 32 := 1#32
  ⟨c0_i32_38, v85, c1_i32_39⟩
def k0_mult1 (k0_t1 : Fin k0_t1_loop.trips) : BitVec 32 :=
  let c0_i32_38 : BitVec 32 := 0#32
  let c1_i32_39 : BitVec 32 := 1#32
  let arg22 : BitVec 32 := Scf.iv c0_i32_38 c1_i32_39 k0_t1
  let c1280_i32 : BitVec 32 := 1280#32
  let v290 : BitVec 32 := Scalar.muli arg22 c1280_i32
  v290
def k0_off1 (k0_t1 : Fin k0_t1_loop.trips) : Fin 2 → Nat :=
  let c0_136 : Index := 0#32
  let c0_i32_38 : BitVec 32 := 0#32
  let c1_i32_39 : BitVec 32 := 1#32
  let arg22 : BitVec 32 := Scf.iv c0_i32_38 c1_i32_39 k0_t1
  let c1280_i32 : BitVec 32 := 1280#32
  let v290 : BitVec 32 := Scalar.muli arg22 c1280_i32
  let v291 : BitVec 32 := v290
  let v292 : Index := Scalar.indexCast v291
  ![0, v292.toNat]
def k0_off2 (k0_t1 : Fin k0_t1_loop.trips) : Fin 2 → Nat :=
  let c0_139 : Index := 0#32
  let c0_i32_38 : BitVec 32 := 0#32
  let c1_i32_39 : BitVec 32 := 1#32
  let arg22 : BitVec 32 := Scf.iv c0_i32_38 c1_i32_39 k0_t1
  let c1280_i32 : BitVec 32 := 1280#32
  let v290 : BitVec 32 := Scalar.muli arg22 c1280_i32
  let v291 : BitVec 32 := v290
  let v295 : Index := Scalar.indexCast v291
  ![0, v295.toNat]
def k0_off3 (k0_t1 : Fin k0_t1_loop.trips) : Fin 2 → Nat :=
  let c0_145 : Index := 0#32
  let c0_i32_38 : BitVec 32 := 0#32
  let c1_i32_39 : BitVec 32 := 1#32
  let arg22 : BitVec 32 := Scf.iv c0_i32_38 c1_i32_39 k0_t1
  let c1280_i32 : BitVec 32 := 1280#32
  let v290 : BitVec 32 := Scalar.muli arg22 c1280_i32
  let v291 : BitVec 32 := v290
  let v304 : Index := Scalar.indexCast v291
  ![0, v304.toNat]
def k0_off4 (i : grid0.Coords) (c0_i32_124 : BitVec 32) : Fin 2 → Nat :=
  let arg0 : BitVec 32 := BitVec.ofNat 32 (i 0).val
  let c2_i32_123 : BitVec 32 := 2#32
  let v277 : BitVec 32 := Scalar.muli arg0 c2_i32_123
  let v278 : BitVec 32 := Scalar.addi v277 c0_i32_124
  let v279 : Index := Scalar.indexCast v278
  let c0_125 : Index := 0#32
  ![v279.toNat, 0]
@[reducible] def k0_t2_loop : Scf.Loop 32 :=
  let c0_i32_132 : BitVec 32 := 0#32
  let c7_i32_133 : BitVec 32 := 7#32
  let v289 : BitVec 32 := Scalar.addi c0_i32_132 c7_i32_133
  let c1_i32_134 : BitVec 32 := 1#32
  ⟨c0_i32_132, v289, c1_i32_134⟩
def k0_mult2 (k0_t2 : Fin k0_t2_loop.trips) : BitVec 32 :=
  let c0_i32_132 : BitVec 32 := 0#32
  let c1_i32_134 : BitVec 32 := 1#32
  let arg22 : BitVec 32 := Scf.iv c0_i32_132 c1_i32_134 k0_t2
  let c1280_i32 : BitVec 32 := 1280#32
  let v290 : BitVec 32 := Scalar.muli arg22 c1280_i32
  v290
def k0_off5 (k0_t2 : Fin k0_t2_loop.trips) : Fin 2 → Nat :=
  let c0_139 : Index := 0#32
  let c0_i32_132 : BitVec 32 := 0#32
  let c1_i32_134 : BitVec 32 := 1#32
  let arg22 : BitVec 32 := Scf.iv c0_i32_132 c1_i32_134 k0_t2
  let c1280_i32 : BitVec 32 := 1280#32
  let v290 : BitVec 32 := Scalar.muli arg22 c1280_i32
  let v291 : BitVec 32 := v290
  let v296 : Index := Scalar.indexCast v291
  ![0, v296.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8960 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S144x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S144x8960 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x8960 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x256 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S144x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S144x8960 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x8960 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x8960 .fp8e5m2 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S16x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S160x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== AdaptersRefIdeal.lean ====
abbrev S2048x1536 : Shape := ⟨2, ![2048, 1536]⟩
abbrev S2048x8960 : Shape := ⟨2, ![2048, 8960]⟩
abbrev S9x16x1536 : Shape := ⟨3, ![9, 16, 1536]⟩
abbrev S9x8960x16 : Shape := ⟨3, ![9, 8960, 16]⟩
abbrev S2048x2 : Shape := ⟨2, ![2048, 2]⟩
abbrev S16x1536 : Shape := ⟨2, ![16, 1536]⟩
abbrev S8960x16 : Shape := ⟨2, ![8960, 16]⟩
abbrev S2048x1 : Shape := ⟨2, ![2048, 1]⟩
abbrev S2048 : Shape := ⟨1, ![2048]⟩
abbrev S1x255 : Shape := ⟨2, ![1, 255]⟩
abbrev S2048x255 : Shape := ⟨2, ![2048, 255]⟩
abbrev S2048x9x16 : Shape := ⟨3, ![2048, 9, 16]⟩
abbrev S2048x2x1 : Shape := ⟨3, ![2048, 2, 1]⟩
abbrev S9 : Shape := ⟨1, ![9]⟩
abbrev S1x1x9 : Shape := ⟨3, ![1, 1, 9]⟩
abbrev S2048x2x9 : Shape := ⟨3, ![2048, 2, 9]⟩
abbrev S2048x1x9x16 : Shape := ⟨4, ![2048, 1, 9, 16]⟩
abbrev S2048x2x9x16 : Shape := ⟨4, ![2048, 2, 9, 16]⟩
abbrev S2048x2x9x1 : Shape := ⟨4, ![2048, 2, 9, 1]⟩
abbrev S_ : Shape := ⟨0, ![]⟩
abbrev S2048x2x144 : Shape := ⟨3, ![2048, 2, 144]⟩
abbrev S2048x1x8960 : Shape := ⟨3, ![2048, 1, 8960]⟩
abbrev S2048x2x8960 : Shape := ⟨3, ![2048, 2, 8960]⟩
abbrev S4096x8960 : Shape := ⟨2, ![4096, 8960]⟩
abbrev S4096x9x16 : Shape := ⟨3, ![4096, 9, 16]⟩
abbrev S9x16x8960 : Shape := ⟨3, ![9, 16, 8960]⟩
abbrev S2048x2x1x1 : Shape := ⟨4, ![2048, 2, 1, 1]⟩
abbrev S2048x16 : Shape := ⟨2, ![2048, 16]⟩
abbrev S16x8960 : Shape := ⟨2, ![16, 8960]⟩
abbrev S2048x128 : Shape := ⟨2, ![2048, 128]⟩
abbrev S2048x144 : Shape := ⟨2, ![2048, 144]⟩
abbrev S2048x160 : Shape := ⟨2, ![2048, 160]⟩
abbrev S160x2048 : Shape := ⟨2, ![160, 2048]⟩
abbrev S144x1536 : Shape := ⟨2, ![144, 1536]⟩
abbrev S144x8960 : Shape := ⟨2, ![144, 8960]⟩
abbrev S2x2048 : Shape := ⟨2, ![2, 2048]⟩
abbrev S16x128 : Shape := ⟨2, ![16, 128]⟩

abbrev nBuf : Space → Nat
  | .hbm => 98
  | .vmem => 3
  | .smem => 0
  | _ => 0

abbrev bufTy : (tb : Table) → Fin (tcTables nBuf tb) → BufTy
  | .hbm, ⟨0, _⟩ => ⟨S2048x1536, .bf16⟩
  | .hbm, ⟨1, _⟩ => ⟨S2048x8960, .bf16⟩
  | .hbm, ⟨2, _⟩ => ⟨S9x16x1536, .bf16⟩
  | .hbm, ⟨3, _⟩ => ⟨S9x8960x16, .bf16⟩
  | .hbm, ⟨4, _⟩ => ⟨S2048x2, .i32⟩
  | .hbm, ⟨5, _⟩ => ⟨S2048x2, .f32⟩
  | .hbm, ⟨6, _⟩ => ⟨S16x1536, .bf16⟩
  | .hbm, ⟨7, _⟩ => ⟨S8960x16, .bf16⟩
  | .hbm, ⟨8, _⟩ => ⟨S2048x8960, .f32⟩
  | .hbm, ⟨9, _⟩ => ⟨S2048x8960, .fp8e5m2⟩
  | .hbm, ⟨10, _⟩ => ⟨S2048x1, .f32⟩
  | .hbm, ⟨11, _⟩ => ⟨S2048x9x16, .f32⟩
  | .hbm, ⟨12, _⟩ => ⟨S2048x9x16, .f32⟩
  | .hbm, ⟨13, _⟩ => ⟨S2048x2x1, .i32⟩
  | .hbm, ⟨14, _⟩ => ⟨S9, .i32⟩
  | .hbm, ⟨15, _⟩ => ⟨S1x1x9, .i32⟩
  | .hbm, ⟨16, _⟩ => ⟨S2048x2x9, .i32⟩
  | .hbm, ⟨17, _⟩ => ⟨S2048x2x9, .i32⟩
  | .hbm, ⟨18, _⟩ => ⟨S2048x2x9, .i1⟩
  | .hbm, ⟨19, _⟩ => ⟨S2048x9x16, .f32⟩
  | .hbm, ⟨20, _⟩ => ⟨S2048x1x9x16, .f32⟩
  | .hbm, ⟨21, _⟩ => ⟨S2048x2x9x16, .f32⟩
  | .hbm, ⟨22, _⟩ => ⟨S2048x2x9x1, .i1⟩
  | .hbm, ⟨23, _⟩ => ⟨S2048x2x9x16, .i1⟩
  | .hbm, ⟨24, _⟩ => ⟨S_, .f32⟩
  | .hbm, ⟨25, _⟩ => ⟨S2048x2x9x16, .f32⟩
  | .hbm, ⟨26, _⟩ => ⟨S2048x2x9x16, .f32⟩
  | .hbm, ⟨27, _⟩ => ⟨S2048x2x144, .f32⟩
  | .hbm, ⟨28, _⟩ => ⟨S_, .f32⟩
  | .hbm, ⟨29, _⟩ => ⟨S2048x2, .f32⟩
  | .hbm, ⟨30, _⟩ => ⟨S_, .f32⟩
  | .hbm, ⟨31, _⟩ => ⟨S2048x2, .f32⟩
  | .hbm, ⟨32, _⟩ => ⟨S2048x2, .f32⟩
  | .hbm, ⟨33, _⟩ => ⟨S2048x2x1, .f32⟩
  | .hbm, ⟨34, _⟩ => ⟨S2048x1x8960, .f32⟩
  | .hbm, ⟨35, _⟩ => ⟨S2048x2x8960, .f32⟩
  | .hbm, ⟨36, _⟩ => ⟨S2048x2x8960, .f32⟩
  | .hbm, ⟨37, _⟩ => ⟨S2048x2x8960, .f32⟩
  | .hbm, ⟨38, _⟩ => ⟨S2048x2x8960, .bf16⟩
  | .hbm, ⟨39, _⟩ => ⟨S2048x9x16, .bf16⟩
  | .hbm, ⟨40, _⟩ => ⟨S2048x1x9x16, .bf16⟩
  | .hbm, ⟨41, _⟩ => ⟨S2048x2x9x16, .bf16⟩
  | .hbm, ⟨42, _⟩ => ⟨S2048x2x9x1, .i1⟩
  | .hbm, ⟨43, _⟩ => ⟨S2048x2x9x16, .i1⟩
  | .hbm, ⟨44, _⟩ => ⟨S_, .bf16⟩
  | .hbm, ⟨45, _⟩ => ⟨S2048x2x9x16, .bf16⟩
  | .hbm, ⟨46, _⟩ => ⟨S2048x2x9x16, .bf16⟩
  | .hbm, ⟨47, _⟩ => ⟨S4096x8960, .bf16⟩
  | .hbm, ⟨48, _⟩ => ⟨S4096x9x16, .bf16⟩
  | .hbm, ⟨49, _⟩ => ⟨S9x16x8960, .f32⟩
  | .hbm, ⟨50, _⟩ => ⟨S_, .f32⟩
  | .hbm, ⟨51, _⟩ => ⟨S9x16x8960, .f32⟩
  | .hbm, ⟨52, _⟩ => ⟨S9x16x8960, .f32⟩
  | .hbm, ⟨53, _⟩ => ⟨S2048x2x1x1, .f32⟩
  | .hbm, ⟨54, _⟩ => ⟨S2048x1x9x16, .f32⟩
  | .hbm, ⟨55, _⟩ => ⟨S2048x2x9x16, .f32⟩
  | .hbm, ⟨56, _⟩ => ⟨S2048x2x9x16, .f32⟩
  | .hbm, ⟨57, _⟩ => ⟨S2048x2x9x16, .f32⟩
  | .hbm, ⟨58, _⟩ => ⟨S2048x2x9x16, .bf16⟩
  | .hbm, ⟨59, _⟩ => ⟨S2048x2x9x1, .i1⟩
  | .hbm, ⟨60, _⟩ => ⟨S2048x2x9x16, .i1⟩
  | .hbm, ⟨61, _⟩ => ⟨S_, .bf16⟩
  | .hbm, ⟨62, _⟩ => ⟨S2048x2x9x16, .bf16⟩
  | .hbm, ⟨63, _⟩ => ⟨S2048x2x9x16, .bf16⟩
  | .hbm, ⟨64, _⟩ => ⟨S2048x2x9x16, .f32⟩
  | .hbm, ⟨65, _⟩ => ⟨S_, .f32⟩
  | .hbm, ⟨66, _⟩ => ⟨S2048x9x16, .f32⟩
  | .hbm, ⟨67, _⟩ => ⟨S2048x9x16, .bf16⟩
  | .hbm, ⟨68, _⟩ => ⟨S9x16x1536, .f32⟩
  | .hbm, ⟨69, _⟩ => ⟨S_, .f32⟩
  | .hbm, ⟨70, _⟩ => ⟨S9x16x1536, .f32⟩
  | .hbm, ⟨71, _⟩ => ⟨S9x16x1536, .f32⟩
  | .hbm, ⟨72, _⟩ => ⟨S2048x16, .f32⟩
  | .hbm, ⟨73, _⟩ => ⟨S2048x16, .f32⟩
  | .hbm, ⟨74, _⟩ => ⟨S2048x16, .bf16⟩
  | .hbm, ⟨75, _⟩ => ⟨S2048x16, .bf16⟩
  | .hbm, ⟨76, _⟩ => ⟨S16x8960, .f32⟩
  | .hbm, ⟨77, _⟩ => ⟨S_, .f32⟩
  | .hbm, ⟨78, _⟩ => ⟨S16x8960, .f32⟩
  | .hbm, ⟨79, _⟩ => ⟨S16x8960, .f32⟩
  | .hbm, ⟨80, _⟩ => ⟨S16x1536, .f32⟩
  | .hbm, ⟨81, _⟩ => ⟨S_, .f32⟩
  | .hbm, ⟨82, _⟩ => ⟨S16x1536, .f32⟩
  | .hbm, ⟨83, _⟩ => ⟨S16x1536, .f32⟩
  | .hbm, ⟨84, _⟩ => ⟨S2048x128, .f32⟩
  | .hbm, ⟨85, _⟩ => ⟨S_, .bf16⟩
  | .hbm, ⟨86, _⟩ => ⟨S2048x9x16, .bf16⟩
  | .hbm, ⟨87, _⟩ => ⟨S2048x9x16, .bf16⟩
  | .hbm, ⟨88, _⟩ => ⟨S2048x144, .bf16⟩
  | .hbm, ⟨89, _⟩ => ⟨S_, .bf16⟩
  | .hbm, ⟨90, _⟩ => ⟨S2048x16, .bf16⟩
  | .hbm, ⟨91, _⟩ => ⟨S2048x16, .bf16⟩
  | .hbm, ⟨92, _⟩ => ⟨S2048x160, .bf16⟩
  | .hbm, ⟨93, _⟩ => ⟨S160x2048, .bf16⟩
  | .hbm, ⟨94, _⟩ => ⟨S144x1536, .f32⟩
  | .hbm, ⟨95, _⟩ => ⟨S144x8960, .f32⟩
  | .hbm, ⟨96, _⟩ => ⟨S2x2048, .f32⟩
  | .hbm, ⟨97, _⟩ => ⟨S16x128, .f32⟩
  | .local _ .vmem, ⟨0, _⟩ => ⟨S2048x8960, .bf16⟩
  | .local _ .vmem, ⟨1, _⟩ => ⟨S2048x8960, .fp8e5m2⟩
  | .local _ .vmem, ⟨2, _⟩ => ⟨S2048x1, .f32⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_4 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_7 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_8 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_9 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_10 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2048x8960 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x8960 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Block.lean ====
/-
  The weight block a grid point leaves in its scratch: 120 blocks of 128 by 128, each the codes of the block times the
  block's one scale.  `Wd` is that product as one function of the index; the lemmas read the 120 stores back as `Wd`.
-/
module

public import proofs.«01_k».proof.Proof.Gen.BaseIdeal.Frame
public import Idealize.ShloMosaic.Lib.Pipeline.ValueKit
public import Idealize.ShloMosaic.Lib.Pointwise

@[expose] public section

set_option maxRecDepth 16384

noncomputable section

namespace Cert.Proof.Base

open Cert.BaseIdeal Cert.BaseIdeal.Gen Idealize.ShloMosaic Idealize.ShloMosaic.TcCoe Idealize.SL.Sem

theorem coord_lt (i : grid0.Coords) : (i 0).val < 7 := (i 0).isLt

/-- The scale of weight entry `y` in the slice that grid point `i` handles: column block `y 1 / 128`, row block
    `10 * i + y 0 / 128`. -/
def scaleIdx (i : grid0.Coords) (y : S1280x1536.Idx) : S12x70.Idx :=
  ix2 (⟨(y 1).val / 128, by have : (y 1).val < 1536 := (y 1).isLt; omega⟩ : Fin 12)
    (⟨10 * (i 0).val + (y 0).val / 128, by
      have h := coord_lt i; have : (y 0).val < 1280 := (y 0).isLt; omega⟩ : Fin 70)

/-- The dequantised weight slice of grid point `i`: code times block scale. -/
def Wd (i : grid0.Coords) (x1 : Vec Ideal S1280x1536 .fp8e4m3) (x2 : Vec Ideal S12x70 .f32) :
    Vec Ideal S1280x1536 .bf16 :=
  fun y => (show EReal from x1 y) * (show EReal from x2 (scaleIdx i y))

/-- The column a scale is read at, in closed form. -/
theorem col_eq : ∀ (i : grid0.Coords) (r : Fin 10),
    BitVec.toNat (Scalar.indexCast (Scalar.addi (Scalar.muli (BitVec.ofNat 32 (i 0).val) 10#32) (BitVec.ofNat 32 r.val)))
      = 10 * (i 0).val + r.val := by decide +kernel

variable (c : Dev nD) (i : grid0.Coords) (arg2 : Memref sig .tc .vmem S1280x1536 .fp8e4m3) (harg2 : arg2.IsWhole)
  (arg3 : Memref sig .tc .smem S12x70 .f32) (harg3 : arg3.IsWhole)
  (x1 : Vec Ideal S1280x1536 .fp8e4m3) (x2 : Vec Ideal S12x70 .f32)

/-- One block's payload at its local index is `Wd` at the global one. -/
theorem block_val {r0 r1 n kb : Nat} (hkb : kb < 10) (hr0 : r0 = 128 * kb) (hr1 : r1 = 128 * n)
    (inb : ∀ a, ![r0, r1] a + ![128, 128] a ≤ S1280x1536.size a)
    (sinb : ∀ a, ![n, BitVec.toNat (Scalar.indexCast (Scalar.addi (Scalar.muli (BitVec.ofNat 32 (i 0).val) 10#32)
      (BitVec.ofNat 32 kb)))] a + ![1, 1] a ≤ S12x70.size a)
    (hf : 0 < Shape.numel (Rect.unit (s := S12x70) _ _ sinb).shape)
    (hx : FTy.fp8e4m3.bits < FTy.bf16.bits) (ht : FTy.bf16.bits < FTy.f32.bits) (hs : S128x128.ShapeCasts S128x128)
    (x : S128x128.Idx) (y : S1280x1536.Idx) (h0 : (y 0).val = r0 + (x 0).val) (l0 : (x 0).val < 128)
    (h1 : (y 1).val = r1 + (x 1).val) (l1 : (x 1).val < 128) :
    shapeCast (α := Elt Ideal .bf16) S128x128
      (mulf (F := Ideal)
        (extf FTy.bf16
          (View.ld (View.read (Elt Ideal) arg2.view (harg2.unread x1)) (Rect.unit (s := S1280x1536) ![r0, r1] ![128, 128] inb)) hx)
        (truncf FTy.bf16
          (broadcast S128x128
            (View.ld (View.read (Elt Ideal) arg3.view (harg3.unread x2))
              (Rect.unit (s := S12x70) _ _ sinb)
              (Shape.Idx.first hf))) ht)) hs x = Wd i x1 x2 y := by
  refine (congrFun (shapeCast_self (s := S128x128) (α := Elt Ideal .bf16) _ hs) x).trans ?_
  rw [harg2.read_unread, harg3.read_unread]
  refine congrArg₂ (fun a b : EReal => a * b) ?_ ?_
  · exact View.ld_unit_apply_of x1 _ _ _ _ y (fun a => by
      match a with | ⟨0, _⟩ => exact h0 | ⟨1, _⟩ => exact h1)
  · exact View.ld_unit_apply_of x2 _ _ _ _ (scaleIdx i y) (fun a => by
      match a with
      | ⟨0, _⟩ => show (y 1).val / 128 = n + 0; omega
      | ⟨1, _⟩ =>
        refine Eq.trans (?_ : 10 * (i 0).val + (y 0).val / 128 = 10 * (i 0).val + kb + 0)
          (congrArg (· + 0) (col_eq i ⟨kb, hkb⟩)).symm
        omega)

end Cert.Proof.Base

end
-- ==== Proof.LoopValue.lean ====
/-
  The two loops of the body.  The row loop adds the product of the codes with the weight slice to the accumulator,
  half of the rows per trip; the closing loop scales the accumulator and adds the two low-rank products, an eighth of
  the rows per trip.
-/
module

public import proofs.«01_k».proof.Proof.Block
public import Idealize.ShloMosaic.Lib.WritesUnit

@[expose] public section

set_option maxRecDepth 16384

noncomputable section

namespace Cert.Proof.Base

open Cert.BaseIdeal Cert.BaseIdeal.Gen Idealize.ShloMosaic Idealize.ShloMosaic.TcCoe Idealize.SL.Sem

/-- One grid point's addition to the accumulator. -/
def accStep (a : Vec Ideal S2048x1536 .f32) (x : Vec Ideal S2048x1280 .fp8e5m2) (w : Vec Ideal S1280x1536 .bf16) :
    Vec Ideal S2048x1536 .f32 :=
  fun y => (show EReal from a y) + ∑ k : Fin 1280, (show EReal from x (ix2 (y 0) k)) * (show EReal from w (ix2 k (y 1)))

/-- The result from the full accumulator: times the row's scale, plus the two low-rank products. -/
def outVal (acc : Vec Ideal S2048x1536 .f32) (gu : Vec Ideal S160x2048 .bf16) (a : Vec Ideal S144x1536 .bf16)
    (s : Vec Ideal S16x1536 .bf16) (sc : Vec Ideal S2048x128 .f32) : Vec Ideal S2048x1536 .bf16 :=
  fun y => (show EReal from acc y) * (show EReal from sc (ix2 (y 0) (⟨(y 1).val % 128, Nat.mod_lt _ (by decide)⟩ : Fin 128)))
    + ((∑ k : Fin 144, (show EReal from gu (ix2 (⟨k.val, by omega⟩ : Fin 160) (y 0))) * (show EReal from a (ix2 k (y 1))))
      + ∑ k : Fin 16, (show EReal from gu (ix2 (⟨144 + k.val, by omega⟩ : Fin 160) (y 0))) * (show EReal from s (ix2 k (y 1))))

/-- A load through a unit rectangle whose offsets are known in closed form. -/
theorem ld_of {S : Shape} {e : EltTy} (X : S.Idx → Elt Ideal e) {off off' size : Fin S.rank → Nat} (ho : off = off')
    (inb : ∀ a, off a + size a ≤ S.size a) (x : (Rect.unit off size inb).shape.Idx) (i : S.Idx)
    (hi : ∀ a, (i a : Nat) = off' a + x a) : View.ld X (Rect.unit off size inb) x = X i := by
  subst ho; exact View.ld_unit_apply_of X _ _ _ x i hi

theorem pay2_apply (a : Vec Ideal S1024x1536 .f32) (x : Vec Ideal S1024x1280 .fp8e5m2) (w : Vec Ideal S1280x1536 .bf16)
    (y : S1024x1536.Idx) :
    k0_pay2 (F := Ideal) a x w y
      = (show EReal from a y) + ∑ k : Fin 1280, (show EReal from x (ix2 (y 0) k)) * (show EReal from w (ix2 k (y 1))) := by
  pointwise [k0_pay2]

theorem dite_val {α : Type} {p : Prop} [Decidable p] {f : p → α} {g : ¬p → α} {v : α} (hf : ∀ h, f h = v)
    (hg : ∀ h, g h = v) : dite p f g = v := by
  by_cases h : p
  · rw [dif_pos h]; exact hf h
  · rw [dif_neg h]; exact hg h

theorem sc_mod (sc : Vec Ideal S256x128 .f32) (y : S256x1536.Idx) (n : Nat) (h : n < 128) (hn : n = (y 1).val % 128) :
    sc (ix2 (y 0) (⟨n, h⟩ : Fin 128)) = sc (ix2 (y 0) (⟨(y 1).val % 128, Nat.mod_lt _ (by decide)⟩ : Fin 128)) := by
  subst hn; rfl

theorem pay3_apply (gu : Vec Ideal S160x256 .bf16) (a : Vec Ideal S144x1536 .bf16) (s : Vec Ideal S16x1536 .bf16)
    (sc : Vec Ideal S256x128 .f32) (acc : Vec Ideal S256x1536 .f32) (y : S256x1536.Idx) :
    k0_pay3 (F := Ideal) gu a s sc acc y
      = (show EReal from acc y) * (show EReal from sc (ix2 (y 0) (⟨(y 1).val % 128, Nat.mod_lt _ (by decide)⟩ : Fin 128)))
    + ((∑ k : Fin 144, (show EReal from gu (ix2 (⟨k.val, by omega⟩ : Fin 160) (y 0))) * (show EReal from a (ix2 k (y 1))))
      + ∑ k : Fin 16, (show EReal from gu (ix2 (⟨144 + k.val, by omega⟩ : Fin 160) (y 0))) * (show EReal from s (ix2 k (y 1)))) := by
  pointwise [k0_pay3]
  have hy : (y 1).val < 1536 := (y 1).isLt
  refine congrArg₂ (fun a b : EReal => a + b) (congrArg₂ (fun a b : EReal => a * b) rfl ?_) rfl
  iterate 11 refine dite_val (fun _ => sc_mod sc _ _ _ (by omega)) (fun _ => ?_)
  exact sc_mod sc _ _ _ (by omega)

variable (c : Dev nD) (i : grid0.Coords)
  (arg1 : Memref sig .tc .vmem S2048x1280 .fp8e5m2) (harg1 : arg1.IsWhole)
  (arg2 : Memref sig .tc .vmem S1280x1536 .fp8e4m3) (harg2 : arg2.IsWhole)
  (arg3 : Memref sig .tc .smem S12x70 .f32) (harg3 : arg3.IsWhole)
  (arg4 : Memref sig .tc .vmem S160x2048 .bf16) (harg4 : arg4.IsWhole)
  (arg5 : Memref sig .tc .vmem S144x1536 .bf16) (harg5 : arg5.IsWhole)
  (arg6 : Memref sig .tc .vmem S16x1536 .bf16) (harg6 : arg6.IsWhole)
  (arg7 : Memref sig .tc .vmem S2048x128 .f32) (harg7 : arg7.IsWhole)
  (arg8 : Memref sig .tc .vmem S2048x1536 .bf16) (harg8 : arg8.IsWhole)
  (arg9 : Memref sig .tc .vmem S2048x1536 .f32) (harg9 : arg9.IsWhole)
  (arg10 : Memref sig .tc .vmem S1280x1536 .bf16) (harg10 : arg10.IsWhole)

/-- The accumulator before row trip `k`: the first `1024 * k` rows have the product added. -/
theorem rows_upto (X1 : BufTy.Contents (Elt Ideal) arg1.view.ty) (X10 : BufTy.Contents (Elt Ideal) arg10.view.ty)
    (G : BufTy.Contents (Elt Ideal) arg9.view.ty) (k : Nat) (hk : k ≤ 2) (y : S2048x1536.Idx) :
    arg9.view.read (Elt Ideal) (arg9.view.writes (Elt Ideal) G (pb_k0_t1 (F := Ideal) Variants.none c none i arg1 harg1 arg2 harg2 arg3 harg3 arg4 harg4 arg5 harg5 arg6 harg6 arg7 harg7 arg8 harg8 arg9 harg9 arg10 harg10 X1 X10 G k)) y
      = if (y 0).val < 1024 * k then
          accStep (arg9.view.read (Elt Ideal) G) (arg1.view.read (Elt Ideal) X1) (arg10.view.read (Elt Ideal) X10) y
        else arg9.view.read (Elt Ideal) G y := by
  induction k with
  | zero => rw [if_neg (by omega)]; rfl
  | succ k ih =>
    have ih := ih (by omega)
    rw [pb_k0_t1_succ Variants.none c none i arg1 harg1 arg2 harg2 arg3 harg3 arg4 harg4 arg5 harg5 arg6 harg6 arg7 harg7 arg8 harg8 arg9 harg9 arg10 harg10 X1 X10 G ⟨k, show k < 2 by omega⟩]
    rw [View.writes_append]
    unfold tripL_k0_t1 trip_k0_t1
    dsimp only
    by_cases hm : 1024 * k ≤ (y 0).val ∧ (y 0).val < 1024 * (k + 1)
    · have hx : (y 0).val - 1024 * k < 1024 := by omega
      rw [if_pos hm.2]
      refine (View.read_writes_cons_rows_of_mem arg9.view _ _ _ _ y (ix2 (⟨(y 0).val - 1024 * k, hx⟩ : Fin 1024) (y 1) : S1024x1536.Idx)
        (k0_off13_eq ⟨k, show k < 2 by omega⟩) (by show (y 0).val = 1024 * k + ((y 0).val - 1024 * k); omega) rfl).trans ?_
      rw [pay2_apply]
      rw [if_neg (by omega)] at ih
      refine congrArg₂ (fun a b : EReal => a + b) ?_ (Finset.sum_congr rfl fun j _ => congrArg₂ (fun a b : EReal => a * b) ?_ ?_)
      · refine Eq.trans (ld_of _ (k0_off13_eq _) _ _ y fun a => ?_) ih
        match a with
        | ⟨0, _⟩ => show (y 0).val = 1024 * k + ((y 0).val - 1024 * k); omega
        | ⟨1, _⟩ => show (y 1).val = 0 + (y 1).val; omega
      · refine ld_of _ (k0_off14_eq _) _ _ (ix2 (y 0) j : S2048x1280.Idx) fun a => ?_
        match a with
        | ⟨0, _⟩ => show (y 0).val = 1024 * k + ((y 0).val - 1024 * k); omega
        | ⟨1, _⟩ => show j.val = 0 + j.val; omega
      · refine View.ld_unit_apply_of _ _ _ _ _ (ix2 j (y 1) : S1280x1536.Idx) fun a => ?_
        match a with
        | ⟨0, _⟩ => show j.val = 0 + j.val; omega
        | ⟨1, _⟩ => show (y 1).val = 0 + (y 1).val; omega
    · refine (View.read_writes_cons_rows_of_not_mem arg9.view _ _ _ _ y (k0_off13_eq ⟨k, show k < 2 by omega⟩) rfl
        (by show (y 0).val < 1024 * k ∨ 1024 * k + 1024 ≤ (y 0).val; omega)).trans ?_
      refine Eq.trans ih ?_
      by_cases h2 : (y 0).val < 1024 * k
      · rw [if_pos h2, if_pos (by omega)]
      · rw [if_neg h2, if_neg (by omega)]

/-- After the row loop the whole accumulator has the product added. -/
theorem rows_all (X1 : BufTy.Contents (Elt Ideal) arg1.view.ty) (X10 : BufTy.Contents (Elt Ideal) arg10.view.ty)
    (G : BufTy.Contents (Elt Ideal) arg9.view.ty) :
    arg9.view.read (Elt Ideal) (arg9.view.writes (Elt Ideal) G (pb_k0_t1 (F := Ideal) Variants.none c none i arg1 harg1 arg2 harg2 arg3 harg3 arg4 harg4 arg5 harg5 arg6 harg6 arg7 harg7 arg8 harg8 arg9 harg9 arg10 harg10 X1 X10 G
        (Scf.trips (0#32) (Scalar.addi 0#32 2#32) 1#32)))
      = accStep (arg9.view.read (Elt Ideal) G) (arg1.view.read (Elt Ideal) X1) (arg10.view.read (Elt Ideal) X10) := by
  funext y
  refine (rows_upto c i arg1 harg1 arg2 harg2 arg3 harg3 arg4 harg4 arg5 harg5 arg6 harg6 arg7 harg7 arg8 harg8 arg9 harg9 arg10 harg10 X1 X10 G 2 (le_refl 2) y).trans (if_pos ?_)
  have : (y 0).val < 2048 := (y 0).isLt
  omega

/-- The result block after `k` closing trips: its first `256 * k` rows hold `outVal`. -/
theorem out_upto (hc : k0_cond2 i = 1#1) (X4 : BufTy.Contents (Elt Ideal) arg4.view.ty) (X5 : BufTy.Contents (Elt Ideal) arg5.view.ty)
    (X6 : BufTy.Contents (Elt Ideal) arg6.view.ty) (X7 : BufTy.Contents (Elt Ideal) arg7.view.ty)
    (X9 : BufTy.Contents (Elt Ideal) arg9.view.ty) (G : BufTy.Contents (Elt Ideal) arg8.view.ty)
    (k : Nat) (hk : k ≤ 8) (y : S2048x1536.Idx) (hy : (y 0).val < 256 * k) :
    arg8.view.read (Elt Ideal) (arg8.view.writes (Elt Ideal) G (pb_k0_t2 (F := Ideal) Variants.none c none i arg1 harg1 arg2 harg2 arg3 harg3 arg4 harg4 arg5 harg5 arg6 harg6 arg7 harg7 arg8 harg8 arg9 harg9 arg10 harg10 hc X4 X5 X6 X7 X9 k)) y
      = outVal (arg9.view.read (Elt Ideal) X9) (arg4.view.read (Elt Ideal) X4) (arg5.view.read (Elt Ideal) X5)
          (arg6.view.read (Elt Ideal) X6) (arg7.view.read (Elt Ideal) X7) y := by
  induction k with
  | zero => exact absurd hy (by omega)
  | succ k ih =>
    rw [pb_k0_t2_succ Variants.none c none i arg1 harg1 arg2 harg2 arg3 harg3 arg4 harg4 arg5 harg5 arg6 harg6 arg7 harg7 arg8 harg8 arg9 harg9 arg10 harg10 hc X4 X5 X6 X7 X9 ⟨k, show k < 8 by omega⟩]
    unfold tripL_k0_t2 trip_k0_t2
    dsimp only
    by_cases hm : 256 * k ≤ (y 0).val
    · have hx : (y 0).val - 256 * k < 256 := by omega
      refine (View.read_writes_cons_rows_of_mem arg8.view _ _ _ _ y (ix2 (⟨(y 0).val - 256 * k, hx⟩ : Fin 256) (y 1) : S256x1536.Idx)
        (k0_off17_eq ⟨k, show k < 8 by omega⟩) (by show (y 0).val = 256 * k + ((y 0).val - 256 * k); omega) rfl).trans ?_
      rw [pay3_apply]
      refine congrArg₂ (fun a b : EReal => a + b) (congrArg₂ (fun a b : EReal => a * b) ?_ ?_)
        (congrArg₂ (fun a b : EReal => a + b)
          (Finset.sum_congr rfl fun j _ => congrArg₂ (fun a b : EReal => a * b) ?_ ?_)
          (Finset.sum_congr rfl fun j _ => congrArg₂ (fun a b : EReal => a * b) ?_ ?_))
      · refine ld_of _ (k0_off17_eq _) _ _ y fun a => ?_
        match a with
        | ⟨0, _⟩ => show (y 0).val = 256 * k + ((y 0).val - 256 * k); omega
        | ⟨1, _⟩ => show (y 1).val = 0 + (y 1).val; omega
      · refine ld_of _ (k0_off16_eq _) _ _ (ix2 (y 0) (⟨(y 1).val % 128, Nat.mod_lt _ (by decide)⟩ : Fin 128) : S2048x128.Idx) fun a => ?_
        match a with
        | ⟨0, _⟩ => show (y 0).val = 256 * k + ((y 0).val - 256 * k); omega
        | ⟨1, _⟩ => show (y 1).val % 128 = 0 + (y 1).val % 128; omega
      · refine ld_of _ (k0_off15_eq _) _ _ (ix2 (⟨j.val, by omega⟩ : Fin 160) (y 0) : S160x2048.Idx) fun a => ?_
        match a with
        | ⟨0, _⟩ => show j.val = 0 + j.val; omega
        | ⟨1, _⟩ => show (y 0).val = 256 * k + ((y 0).val - 256 * k); omega
      · refine View.ld_unit_apply_of _ _ _ _ _ (ix2 j (y 1) : S144x1536.Idx) fun a => ?_
        match a with
        | ⟨0, _⟩ => show j.val = 0 + j.val; omega
        | ⟨1, _⟩ => show (y 1).val = 0 + (y 1).val; omega
      · refine ld_of _ (k0_off15_eq _) _ _ (ix2 (⟨144 + j.val, by omega⟩ : Fin 160) (y 0) : S160x2048.Idx) fun a => ?_
        match a with
        | ⟨0, _⟩ => show 144 + j.val = 0 + (144 + j.val); omega
        | ⟨1, _⟩ => show (y 0).val = 256 * k + ((y 0).val - 256 * k); omega
      · refine View.ld_unit_apply_of _ _ _ _ _ (ix2 j (y 1) : S16x1536.Idx) fun a => ?_
        match a with
        | ⟨0, _⟩ => show j.val = 0 + j.val; omega
        | ⟨1, _⟩ => show (y 1).val = 0 + (y 1).val; omega
    · refine (View.read_writes_cons_rows_of_not_mem arg8.view _ _ _ _ y (k0_off17_eq ⟨k, show k < 8 by omega⟩) rfl
        (by show (y 0).val < 256 * k ∨ 256 * k + 256 ≤ (y 0).val; omega)).trans ?_
      exact ih (by omega) (by omega)

/-- After the closing loop the whole result block holds `outVal`. -/
theorem out_all (hc : k0_cond2 i = 1#1) (X4 : BufTy.Contents (Elt Ideal) arg4.view.ty) (X5 : BufTy.Contents (Elt Ideal) arg5.view.ty)
    (X6 : BufTy.Contents (Elt Ideal) arg6.view.ty) (X7 : BufTy.Contents (Elt Ideal) arg7.view.ty)
    (X9 : BufTy.Contents (Elt Ideal) arg9.view.ty) (G : BufTy.Contents (Elt Ideal) arg8.view.ty) :
    arg8.view.read (Elt Ideal) (arg8.view.writes (Elt Ideal) G (pb_k0_t2 (F := Ideal) Variants.none c none i arg1 harg1 arg2 harg2 arg3 harg3 arg4 harg4 arg5 harg5 arg6 harg6 arg7 harg7 arg8 harg8 arg9 harg9 arg10 harg10 hc X4 X5 X6 X7 X9
        (Scf.trips (0#32) (Scalar.addi 0#32 8#32) 1#32)))
      = outVal (arg9.view.read (Elt Ideal) X9) (arg4.view.read (Elt Ideal) X4) (arg5.view.read (Elt Ideal) X5)
          (arg6.view.read (Elt Ideal) X6) (arg7.view.read (Elt Ideal) X7) := by
  funext y
  have : (y 0).val < 2048 := (y 0).isLt
  exact out_upto c i arg1 harg1 arg2 harg2 arg3 harg3 arg4 harg4 arg5 harg5 arg6 harg6 arg7 harg7 arg8 harg8 arg9 harg9 arg10 harg10 hc X4 X5 X6 X7 X9 G 8 (le_refl 8) y (by omega)

end Cert.Proof.Base

end
-- ==== Proof.DequantA.lean ====
/-
  The weight block a grid point leaves in its scratch: its 120 stores read back as `Wd`, in the first point.
-/
module

public import proofs.«01_k».proof.Proof.Block

@[expose] public section

set_option maxRecDepth 16384

noncomputable section

namespace Cert.Proof.Base

open Cert.BaseIdeal Cert.BaseIdeal.Gen Idealize.ShloMosaic Idealize.ShloMosaic.TcCoe Idealize.SL.Sem

variable (c : Dev nD) (i : grid0.Coords) (arg2 : Memref sig .tc .vmem S1280x1536 .fp8e4m3) (harg2 : arg2.IsWhole)
  (arg3 : Memref sig .tc .smem S12x70 .f32) (harg3 : arg3.IsWhole)
  (x1 : Vec Ideal S1280x1536 .fp8e4m3) (x2 : Vec Ideal S12x70 .f32)

set_option maxHeartbeats 4000000 in
/-- The 120 stores, at an index, are `Wd`. -/
theorem wb_A (y : S1280x1536.Idx) :
    View.canon (kernelRun0_A.sl.HS1_120 (F := Ideal) c i arg2 harg2 arg3 harg3 x1 x2) y = Wd i x1 x2 y := by
  unfold kernelRun0_A.sl.HS1_120
  canon_tiles x h using View.cover_of_tiledL (s := S1280x1536) _ ![128, 128] (by sl_kernel_rfl) y
  all_goals
    sl_unfold_words; open_payloads
    refine block_val i arg2 harg2 arg3 harg3 x1 x2 ?_ ?_ ?_ _ _ _ _ _ _ x y ?_ x0_lt ?_ x1_lt <;> omega

end Cert.Proof.Base

end
-- ==== Proof.DequantB.lean ====
/-
  The weight block a grid point leaves in its scratch: its 120 stores read back as `Wd`, in the middle points.
-/
module

public import proofs.«01_k».proof.Proof.Block

@[expose] public section

set_option maxRecDepth 16384

noncomputable section

namespace Cert.Proof.Base

open Cert.BaseIdeal Cert.BaseIdeal.Gen Idealize.ShloMosaic Idealize.ShloMosaic.TcCoe Idealize.SL.Sem

variable (c : Dev nD) (i : grid0.Coords) (arg2 : Memref sig .tc .vmem S1280x1536 .fp8e4m3) (harg2 : arg2.IsWhole)
  (arg3 : Memref sig .tc .smem S12x70 .f32) (harg3 : arg3.IsWhole)
  (x1 : Vec Ideal S1280x1536 .fp8e4m3) (x2 : Vec Ideal S12x70 .f32)

set_option maxHeartbeats 4000000 in
/-- The 120 stores, at an index, are `Wd`. -/
theorem wb_B (y : S1280x1536.Idx) :
    View.canon (kernelRun0_B.sl.HS1_120 (F := Ideal) c i arg2 harg2 arg3 harg3 x1 x2) y = Wd i x1 x2 y := by
  unfold kernelRun0_B.sl.HS1_120
  canon_tiles x h using View.cover_of_tiledL (s := S1280x1536) _ ![128, 128] (by sl_kernel_rfl) y
  all_goals
    sl_unfold_words; open_payloads
    refine block_val i arg2 harg2 arg3 harg3 x1 x2 ?_ ?_ ?_ _ _ _ _ _ _ x y ?_ x0_lt ?_ x1_lt <;> omega

end Cert.Proof.Base

end
-- ==== Proof.DequantC.lean ====
/-
  The weight block a grid point leaves in its scratch: its 120 stores read back as `Wd`, in the last point.
-/
module

public import proofs.«01_k».proof.Proof.Block

@[expose] public section

set_option maxRecDepth 16384

noncomputable section

namespace Cert.Proof.Base

open Cert.BaseIdeal Cert.BaseIdeal.Gen Idealize.ShloMosaic Idealize.ShloMosaic.TcCoe Idealize.SL.Sem

variable (c : Dev nD) (i : grid0.Coords) (arg2 : Memref sig .tc .vmem S1280x1536 .fp8e4m3) (harg2 : arg2.IsWhole)
  (arg3 : Memref sig .tc .smem S12x70 .f32) (harg3 : arg3.IsWhole)
  (x1 : Vec Ideal S1280x1536 .fp8e4m3) (x2 : Vec Ideal S12x70 .f32)

set_option maxHeartbeats 4000000 in
/-- The 120 stores, at an index, are `Wd`. -/
theorem wb_C (y : S1280x1536.Idx) :
    View.canon (kernelRun0_C.sl.HS1_120 (F := Ideal) c i arg2 harg2 arg3 harg3 x1 x2) y = Wd i x1 x2 y := by
  unfold kernelRun0_C.sl.HS1_120
  canon_tiles x h using View.cover_of_tiledL (s := S1280x1536) _ ![128, 128] (by sl_kernel_rfl) y
  all_goals
    sl_unfold_words; open_payloads
    refine block_val i arg2 harg2 arg3 harg3 x1 x2 ?_ ?_ ?_ _ _ _ _ _ _ x y ?_ x0_lt ?_ x1_lt <;> omega

end Cert.Proof.Base

end
-- ==== Proof.CaseValue.lean ====
/-
  What each kind of grid point leaves: the accumulator one step further, and at the last point the result block.
-/
module

public import proofs.«01_k».proof.Proof.LoopValue
public import proofs.«01_k».proof.Proof.DequantA
public import proofs.«01_k».proof.Proof.DequantB
public import proofs.«01_k».proof.Proof.DequantC

@[expose] public section

set_option maxRecDepth 16384

noncomputable section

namespace Cert.Proof.Base

open Cert.BaseIdeal Cert.BaseIdeal.Gen Idealize.ShloMosaic Idealize.ShloMosaic.TcCoe Idealize.SL.Sem

variable (c : Dev nD) (i : grid0.Coords)
  (arg1 : Memref sig .tc .vmem S2048x1280 .fp8e5m2) (harg1 : arg1.IsWhole)
  (arg2 : Memref sig .tc .vmem S1280x1536 .fp8e4m3) (harg2 : arg2.IsWhole)
  (arg3 : Memref sig .tc .smem S12x70 .f32) (harg3 : arg3.IsWhole)
  (arg4 : Memref sig .tc .vmem S160x2048 .bf16) (harg4 : arg4.IsWhole)
  (arg5 : Memref sig .tc .vmem S144x1536 .bf16) (harg5 : arg5.IsWhole)
  (arg6 : Memref sig .tc .vmem S16x1536 .bf16) (harg6 : arg6.IsWhole)
  (arg7 : Memref sig .tc .vmem S2048x128 .f32) (harg7 : arg7.IsWhole)
  (arg8 : Memref sig .tc .vmem S2048x1536 .bf16) (harg8 : arg8.IsWhole)
  (arg9 : Memref sig .tc .vmem S2048x1536 .f32) (harg9 : arg9.IsWhole)
  (arg10 : Memref sig .tc .vmem S1280x1536 .bf16) (harg10 : arg10.IsWhole)
  (x0 : Vec Ideal S2048x1280 .fp8e5m2) (x1 : Vec Ideal S1280x1536 .fp8e4m3) (x2 : Vec Ideal S12x70 .f32)
  (x3 : Vec Ideal S160x2048 .bf16) (x4 : Vec Ideal S144x1536 .bf16) (x5 : Vec Ideal S16x1536 .bf16) (x6 : Vec Ideal S2048x128 .f32)

/-- The zero block the first point starts from. -/
theorem pay4_apply (y : S2048x1536.Idx) : k0_pay4 (F := Ideal) y = (0 : EReal) := by
  pointwise [k0_pay4]

/-- A middle point adds its product to the accumulator. -/
theorem sout_B (hc0 : ¬cond0_0 i) (hc1 : ¬cond0_1 i) (xs0 : Vec Ideal S2048x1536 .f32) :
    sout0_B_0 c i arg1 harg1 arg2 harg2 arg3 harg3 arg4 harg4 arg5 harg5 arg6 harg6 arg7 harg7 arg8 harg8 arg9 harg9 arg10 harg10 hc0 hc1 x0 x1 x2 x3 x4 x5 x6 xs0 = accStep xs0 x0 (Wd i x1 x2) := by
  have hcov := scover0_B_0 (F := Ideal) c i arg1 harg1 arg2 harg2 arg3 harg3 arg4 harg4 arg5 harg5 arg6 harg6 arg7 harg7 arg8 harg8 arg9 harg9 arg10 harg10 hc0 hc1 x0 x1 x2 x3 x4 x5 x6 xs0
  unfold sout0_B_0
  rw [View.read_writes_eq_canon _ _ _ hcov, ← View.read_writes_eq_canon arg9.view (harg9.unread xs0) _ hcov]
  unfold kernelRun0_B
  dsimp only
  refine (rows_all c i arg1 harg1 arg2 harg2 arg3 harg3 arg4 harg4 arg5 harg5 arg6 harg6 arg7 harg7 arg8 harg8 arg9 harg9 arg10 harg10 _ _ _).trans ?_
  rw [harg1.read_unread, harg9.read_unread]
  refine congrArg (accStep xs0 x0) ?_
  rw [View.read_writes_eq_canon _ _ _ (fun y => View.cover_of_tiledL (s := S1280x1536) _ ![128, 128] (by sl_kernel_rfl) y)]
  exact funext fun y => wb_B c i arg2 harg2 arg3 harg3 x1 x2 y

/-- The last point leaves the result of the accumulator with its own product added. -/
theorem out_C (hc0 : ¬cond0_0 i) (hc1 : cond0_1 i) (xs0 : Vec Ideal S2048x1536 .f32) :
    out0_C_7 c i arg1 harg1 arg2 harg2 arg3 harg3 arg4 harg4 arg5 harg5 arg6 harg6 arg7 harg7 arg8 harg8 arg9 harg9 arg10 harg10 hc0 hc1 x0 x1 x2 x3 x4 x5 x6 xs0 = outVal (accStep xs0 x0 (Wd i x1 x2)) x3 x4 x5 x6 := by
  have hcov := cover0_C_7 (F := Ideal) c i arg1 harg1 arg2 harg2 arg3 harg3 arg4 harg4 arg5 harg5 arg6 harg6 arg7 harg7 arg8 harg8 arg9 harg9 arg10 harg10 hc0 hc1 x0 x1 x2 x3 x4 x5 x6 xs0
  unfold out0_C_7
  rw [View.read_writes_eq_canon _ _ _ hcov, ← View.read_writes_eq_canon arg8.view arg8.view.junk _ hcov]
  unfold kernelRun0_C
  dsimp only
  refine (out_all c i arg1 harg1 arg2 harg2 arg3 harg3 arg4 harg4 arg5 harg5 arg6 harg6 arg7 harg7 arg8 harg8 arg9 harg9 arg10 harg10 _ _ _ _ _ _ _).trans ?_
  rw [harg4.read_unread, harg5.read_unread, harg6.read_unread, harg7.read_unread]
  refine congrArg (fun a => outVal a x3 x4 x5 x6) ?_
  refine (rows_all c i arg1 harg1 arg2 harg2 arg3 harg3 arg4 harg4 arg5 harg5 arg6 harg6 arg7 harg7 arg8 harg8 arg9 harg9 arg10 harg10 _ _ _).trans ?_
  rw [harg1.read_unread, harg9.read_unread]
  refine congrArg (accStep xs0 x0) ?_
  rw [View.read_writes_eq_canon _ _ _ (fun y => View.cover_of_tiledL (s := S1280x1536) _ ![128, 128] (by sl_kernel_rfl) y)]
  exact funext fun y => wb_C c i arg2 harg2 arg3 harg3 x1 x2 y

/-- The first point leaves its product alone. -/
theorem sout_A (hc0 : cond0_0 i) (hc1 : ¬cond0_1 i) :
    sout0_A_0 c i arg1 harg1 arg2 harg2 arg3 harg3 arg4 harg4 arg5 harg5 arg6 harg6 arg7 harg7 arg8 harg8 arg9 harg9 arg10 harg10 hc0 hc1 x0 x1 x2 x3 x4 x5 x6 = accStep (fun _ => (0 : EReal)) x0 (Wd i x1 x2) := by
  have hcov := scover0_A_0 (F := Ideal) c i arg1 harg1 arg2 harg2 arg3 harg3 arg4 harg4 arg5 harg5 arg6 harg6 arg7 harg7 arg8 harg8 arg9 harg9 arg10 harg10 hc0 hc1 x0 x1 x2 x3 x4 x5 x6
  unfold sout0_A_0
  rw [View.read_writes_eq_canon _ _ _ hcov, ← View.read_writes_eq_canon arg9.view arg9.view.junk _ hcov]
  unfold kernelRun0_A
  dsimp only
  rw [View.writes_append]
  refine (rows_all c i arg1 harg1 arg2 harg2 arg3 harg3 arg4 harg4 arg5 harg5 arg6 harg6 arg7 harg7 arg8 harg8 arg9 harg9 arg10 harg10 _ _ _).trans ?_
  rw [harg1.read_unread]
  have hz : (![0, 0] : Fin 2 → Nat) = fun _ => 0 := funext fun a => by fin_cases a <;> rfl
  refine congrArg₂ (fun a b => accStep a x0 b) ?_ ?_
  · unfold kernelRun0_A.sl.HS0_1
    rw [View.read_writes_eq_canon _ _ _ (fun y => View.cover_of_tiledL (s := S2048x1536) _ ![2048, 1536] (by sl_kernel_rfl) y),
      View.canon_unit_zero hz]
    exact funext pay4_apply
  · rw [View.read_writes_eq_canon _ _ _ (fun y => View.cover_of_tiledL (s := S1280x1536) _ ![128, 128] (by sl_kernel_rfl) y)]
    exact funext fun y => wb_A c i arg2 harg2 arg3 harg3 x1 x2 y

end Cert.Proof.Base

end
-- ==== Proof.Blocks.lean ====
/-
  The blocks the windows of the base product bring in, read as entries of the kernel's arguments: slices of the codes and
  of the weight, the transposed scales, the gathered rows, the adapters' factor matrices and the row scales.
-/
module

public import proofs.«01_k».proof.Proof.Gen.BaseIdeal.Value
public import Idealize.ShloMosaic.Lib.Pipeline.ValueKit
public import Idealize.ShloMosaic.Lib.Pointwise
public import Idealize.ShloMosaic.Lib.Claim

@[expose] public section

set_option maxRecDepth 16384

noncomputable section

namespace Cert.Proof.Base

open Cert.BaseIdeal Cert.BaseIdeal.Gen Idealize.ShloMosaic Idealize.ShloMosaic.TcCoe Idealize.SL.Sem

/-- Every window's block index at every point, and the point's own coordinate (decided). -/
theorem idx : ∀ t : Fin cfg0.N, win0_0.index t = ![0, t.val] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ (grid0.coords t 0).val = t.val ∧ t.val < 7 :=
  (by decide +kernel : ∀ t : Fin grid0.N, _)

variable (m : (ℓ : Loc nD τ sig) → Buf (Elt Ideal) ℓ) (c : Dev nD)

/-- The slice of the codes point `t` multiplies. -/
theorem iblk0 (t : Fin cfg0.N) (r : Fin 2048) (k : Fin 1280) (h : 1280 * t.val + k.val < 8960) :
    iblk m c 0 t (ix2 r k) = m ((c : Thread nD τ).loc main_arg0) (ix2 r (⟨1280 * t.val + k.val, h⟩ : Fin 8960)) := by
  blk_ext! [iblk, V, idx t]

/-- The slice of the weight codes point `t` dequantises. -/
theorem iblk1 (t : Fin cfg0.N) (k : Fin 1280) (n : Fin 1536) (h : 1280 * t.val + k.val < 8960) :
    iblk m c 1 t (ix2 k n) = m ((c : Thread nD τ).loc main_arg3) (ix2 (⟨1280 * t.val + k.val, h⟩ : Fin 8960) n) := by
  blk_ext! [iblk, V, idx t]

/-- The block scales, transposed by the host. -/
theorem iblk2 (t : Fin cfg0.N) (a : Fin 12) (b : Fin 70) :
    iblk m c 2 t (ix2 a b) = m ((c : Thread nD τ).loc main_arg4) (ix2 b a) := by
  blk_simp [iblk, idx t]
  entry_read
  pointwise
  blk_ext! [idx t]

/-- The gathered rows, whole. -/
theorem iblk3 (t : Fin cfg0.N) : iblk m c 3 t = m ((c : Thread nD τ).loc main_arg2) := by
  blk_ext! [iblk, V, idx t]

/-- The routed adapters' factors, stacked by the host: row `16 * e + r` is row `r` of adapter `e`. -/
theorem iblk4 (t : Fin cfg0.N) (e : Fin 144) (n : Fin 1536) :
    iblk m c 4 t (ix2 e n) = m ((c : Thread nD τ).loc main_arg5)
      (ix3 (⟨e.val / 16, by omega⟩ : Fin 9) (⟨e.val % 16, by omega⟩ : Fin 16) n) := by
  blk_simp [iblk, idx t]
  entry_read
  pointwise
  blk_ext! [idx t]

/-- The shared adapter's factor, whole. -/
theorem iblk5 (t : Fin cfg0.N) : iblk m c 5 t = m ((c : Thread nD τ).loc main_arg6) := by
  blk_ext! [iblk, V, idx t]

/-- The row scales, repeated over the lanes by the host. -/
theorem iblk6 (t : Fin cfg0.N) (r : Fin 2048) (l : Fin 128) :
    iblk m c 6 t (ix2 r l) = m ((c : Thread nD τ).loc main_arg1) (ix1 r) := by
  blk_simp [iblk, idx t]
  entry_read
  pointwise
  blk_ext! [idx t]

end Cert.Proof.Base

end
-- ==== Proof.FoldValue.lean ====
/-
  The result of the base product: after the seven grid points the accumulator is the whole contraction over the 8960
  columns of the codes, and the result array is that sum times the row scale, plus the two adapters' products.
-/
module

public import proofs.«01_k».proof.Proof.CaseValue
public import proofs.«01_k».proof.Proof.Blocks

@[expose] public section

set_option maxRecDepth 16384

noncomputable section

namespace Cert.Proof.Base

open Cert.BaseIdeal Cert.BaseIdeal.Gen Cert.BaseIdeal.Value Idealize.ShloMosaic Idealize.ShloMosaic.TcCoe Idealize.SL.Sem

/-- One product of the contraction: code `(r, k)` times the dequantised weight `(k, n)`; zero past the last column. -/
def term (codes : Vec Ideal S2048x8960 .fp8e5m2) (w : Vec Ideal S8960x1536 .fp8e4m3) (ws : Vec Ideal S70x12 .f32)
    (r : Fin 2048) (n : Fin 1536) (k : ℕ) : EReal :=
  if h : k < 8960 then
    (show EReal from codes (ix2 r (⟨k, h⟩ : Fin 8960))) * ((show EReal from w (ix2 (⟨k, h⟩ : Fin 8960) n))
      * (show EReal from ws (ix2 (⟨k / 128, by omega⟩ : Fin 70) (⟨n.val / 128, by omega⟩ : Fin 12))))
  else 0

variable (m : (ℓ : Loc nD τ sig) → Buf (Elt Ideal) ℓ) (c : Dev nD)

/-- The products of the arguments. -/
abbrev termOf (y : S2048x1536.Idx) (k : ℕ) : EReal :=
  term (m ((c : Thread nD τ).loc main_arg0)) (m ((c : Thread nD τ).loc main_arg3)) (m ((c : Thread nD τ).loc main_arg4))
    (y 0) (y 1) k

/-- One point's step adds the 1280 products of its slice. -/
theorem step_eq (t : Fin cfg0.N) (a : Vec Ideal S2048x1536 .f32) (y : S2048x1536.Idx) :
    accStep a (iblk m c 0 t) (Wd (grid0.coords t) (iblk m c 1 t) (iblk m c 2 t)) y
      = (show EReal from a y) + ∑ k ∈ Finset.range 1280, termOf m c y (t.val * 1280 + k) := by
  have ht := (idx t).2.2.2.2.2.2.2
  unfold accStep
  refine congrArg (fun b : EReal => (show EReal from a y) + b) ?_
  rw [Finset.sum_range]
  refine Finset.sum_congr rfl fun k _ => ?_
  have hk : t.val * 1280 + k.val < 8960 := by have := k.isLt; omega
  unfold termOf term
  rw [dif_pos hk]
  unfold Wd
  refine congrArg₂ (fun a b : EReal => a * b) ?_ (congrArg₂ (fun a b : EReal => a * b) ?_ ?_)
  · refine (iblk0 m c t (y 0) k (by omega)).trans ?_
    blk_ext! [idx t]
  · refine (iblk1 m c t k (y 1) (by omega)).trans ?_
    blk_ext! [idx t]
  · refine (iblk2 m c t _ _).trans ?_
    refine congrArg _ (funext fun b => Fin.ext ?_)
    match b with
    | ⟨0, _⟩ =>
      show 10 * (grid0.coords t 0).val + k.val / 128 = (t.val * 1280 + k.val) / 128
      omega
    | ⟨1, _⟩ => rfl

/-- The accumulator after point `j`, before the last: the products of the slices so far. -/
theorem acc_eq (j : ℕ) (hj : j < 6) (h : 0 + j < cfg0.N) :
    (Pipeline.accAt (fun n h => stAt0 m c n h junk0) (stAt0 m c) 0 j h).2
      = fun y => ∑ s ∈ Finset.range (j + 1), ∑ k ∈ Finset.range 1280, termOf m c y (s * 1280 + k) := by
  induction j with
  | zero =>
    refine (congrArg Prod.snd (stAt0_A m c ⟨0, h⟩ junk0 (by rfl) (by show ¬0 % 7 = 6; decide))).trans ?_
    refine (sout_A ..).trans (funext fun y => ?_)
    refine (step_eq m c ⟨0, h⟩ _ y).trans ?_
    rw [Finset.sum_range_one]
    exact zero_add _
  | succ j ih =>
    rw [Pipeline.accAt_succ]
    have h' : 0 + j < cfg0.N := by omega
    have e := stAt0_B m c ⟨0 + (j + 1), h⟩ (Pipeline.accAt (fun n h => stAt0 m c n h junk0) (stAt0 m c) 0 j h')
      (by show ¬(0 + (j + 1)) % 7 = 0; omega) (by show ¬(0 + (j + 1)) % 7 = 6; omega)
    refine (congrArg Prod.snd e).trans ?_
    refine (sout_B ..).trans (funext fun y => ?_)
    refine (step_eq m c _ _ y).trans ?_
    rw [ih (by omega) h', Finset.sum_range_succ _ (j + 1)]
    refine congrArg₂ (fun a b : EReal => a + b) rfl (Finset.sum_congr rfl fun k _ => ?_)
    show termOf m c y ((0 + (j + 1)) * 1280 + k) = _
    rw [Nat.zero_add]

/-- The result at an index, in the kernel's order of operations. -/
def result (codes : Vec Ideal S2048x8960 .fp8e5m2) (scale : Vec Ideal S2048 .f32) (gut : Vec Ideal S160x2048 .bf16)
    (w : Vec Ideal S8960x1536 .fp8e4m3) (ws : Vec Ideal S70x12 .f32) (A : Vec Ideal S9x16x1536 .bf16)
    (As : Vec Ideal S16x1536 .bf16) (y : S2048x1536.Idx) : EReal :=
  (∑ k : Fin 8960, (show EReal from codes (ix2 (y 0) k)) * ((show EReal from w (ix2 k (y 1)))
      * (show EReal from ws (ix2 (⟨k.val / 128, by omega⟩ : Fin 70)
          (⟨(y 1).val / 128, by have : (y 1).val < 1536 := (y 1).isLt; omega⟩ : Fin 12)))))
    * (show EReal from scale (ix1 (y 0)))
  + ((∑ k : Fin 144, (show EReal from gut (ix2 (⟨k.val, by omega⟩ : Fin 160) (y 0)))
        * (show EReal from A (ix3 (⟨k.val / 16, by omega⟩ : Fin 9) (⟨k.val % 16, by omega⟩ : Fin 16) (y 1))))
    + ∑ k : Fin 16, (show EReal from gut (ix2 (⟨144 + k.val, by omega⟩ : Fin 160) (y 0)))
        * (show EReal from As (ix2 k (y 1))))

/-- The products summed over the seven slices are the products summed over all columns. -/
theorem sum_term (y : S2048x1536.Idx) :
    ∑ s ∈ Finset.range 7, ∑ k ∈ Finset.range 1280, termOf m c y (s * 1280 + k)
      = ∑ k : Fin 8960, termOf m c y k.val := by
  rw [← Finset.sum_range_mul_split 7 1280 (fun k => termOf m c y k), Finset.sum_range]

/-- What the kernel leaves in its result array. -/
theorem G7_eq (y : S2048x1536.Idx) : G7 m c y = result (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) y := by
  have h6 : 0 + 6 < cfg0.N := lt_of_lt_of_eq (by decide) N_0.symm
  have h5 : 0 + 5 < cfg0.N := lt_of_lt_of_eq (by decide) N_0.symm
  have e := stAt0_C m c ⟨0 + (5 + 1), h6⟩ (Pipeline.accAt (fun n h => stAt0 m c n h junk0) (stAt0 m c) 0 5 h5)
    (by show ¬6 % 7 = 0; decide) (by rfl)
  have e' : G7 m c = (stAt0 m c (0 + (5 + 1)) h6 (Pipeline.accAt (fun n h => stAt0 m c n h junk0) (stAt0 m c) 0 5 h5)).1 :=
    (G7_last m c).trans (congrArg Prod.fst (Pipeline.accAt_succ (fun n h => stAt0 m c n h junk0) (stAt0 m c) 0 5 h6))
  refine (congrFun e' y).trans ?_
  refine (congrFun (congrArg Prod.fst e) y).trans ?_
  refine (congrFun (out_C ..) y).trans ?_
  rw [acc_eq m c 5 (by decide) h5]
  unfold outVal result
  refine congrArg₂ (fun a b : EReal => a + b) (congrArg₂ (fun a b : EReal => a * b) ?_ ?_)
    (congrArg₂ (fun a b : EReal => a + b) (Finset.sum_congr rfl fun k _ => congrArg₂ (fun a b : EReal => a * b) ?_ ?_)
      (Finset.sum_congr rfl fun k _ => congrArg₂ (fun a b : EReal => a * b) ?_ ?_))
  · refine (step_eq m c _ _ y).trans ?_
    show (∑ s ∈ Finset.range 6, ∑ k ∈ Finset.range 1280, termOf m c y (s * 1280 + k))
      + ∑ k ∈ Finset.range 1280, termOf m c y (6 * 1280 + k) = _
    rw [← Finset.sum_range_succ (fun s => ∑ k ∈ Finset.range 1280, termOf m c y (s * 1280 + k)) 6, sum_term m c y]
    refine Finset.sum_congr rfl fun k _ => ?_
    unfold termOf term
    rw [dif_pos k.isLt]
  · exact iblk6 m c _ _ _
  · rw [iblk3]
  · exact iblk4 m c _ _ _
  · rw [iblk3]
  · rw [iblk5]

end Cert.Proof.Base

end
-- ==== Proof.RefValue.lean ====
/-
  The reference of the base product, read at an index: the codes and the weight widened by its region, the weight times
  its block scales, and the three products.
-/
module

public import proofs.«01_k».proof.Proof.Gen.BaseRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.Proof.BaseRef

open Cert.BaseRefIdeal Cert.BaseRefIdeal.Gen Cert.BaseRefIdeal.Value Idealize.ShloMosaic Idealize.ShloMosaic.TcCoe Idealize.SL.Sem

/-- Every window's block index at the one point (decided). -/
theorem idx : ∀ t : Fin cfg0.N, win0_0.index t = ![0, 0] ∧ win0_1.index t = ![0, 0] ∧ win0_2.index t = ![0, 0]
    ∧ win0_3.index t = ![0, 0] :=
  (by decide +kernel : ∀ t : Fin grid0.N, _)

variable (m : (ℓ : Loc nD τ sig) → Buf (Elt Ideal) ℓ) (c : Dev nD)

/-- The codes the region widens are the argument, whole. -/
theorem iblk0 : iblk m c 0 t0_0 = m ((c : Thread nD τ).loc main_arg0) := by
  blk_ext! [iblk, V, idx t0_0]

/-- The weight codes the region widens are the argument, whole. -/
theorem iblk1 : iblk m c 1 t0_0 = m ((c : Thread nD τ).loc main_arg3) := by
  blk_ext! [iblk, V, idx t0_0]

/-- The region's first result: the codes, unchanged in the reals. -/
theorem reg0_eq : reg_main_v0_0 m c = (fun y => (show EReal from m ((c : Thread nD τ).loc main_arg0) y)) := by
  unfold reg_main_v0_0
  refine (dats m 0 c).arrAt_eq_of_after_last 2 t0_0 (by decide +kernel) _ fun j => ?_
  blk_simp
  rw [after0_2]
  frame_out
  rw [iblk0]
  pointwise [k0_pay1]

/-- The region's second result: the weight codes, unchanged in the reals. -/
theorem reg1_eq : reg_main_v0_1 m c = (fun y => (show EReal from m ((c : Thread nD τ).loc main_arg3) y)) := by
  unfold reg_main_v0_1
  refine (dats m 0 c).arrAt_eq_of_after_last 3 t0_0 (by decide +kernel) _ fun j => ?_
  blk_simp
  rw [after0_3]
  frame_out
  rw [iblk1]
  pointwise [k0_pay2]

end Cert.Proof.BaseRef

end
-- ==== Proof.Equal.lean ====
/-
  Kernel and reference of the base product leave the same array: the same three sums, added in the other order.
-/
module

public import proofs.«01_k».proof.Proof.FoldValue
public import proofs.«01_k».proof.Proof.RefValue

@[expose] public section

set_option maxRecDepth 16384

noncomputable section

namespace Cert.Proof.BaseRef

open Cert.BaseRefIdeal Cert.BaseRefIdeal.Gen Cert.BaseRefIdeal.Value Idealize.ShloMosaic Idealize.ShloMosaic.TcCoe Idealize.SL.Sem

/-- The reference's value at an index, over the widened codes and weight: the kernel's result. -/
theorem ref_apply (codes : Vec Ideal S2048x8960 .bf16) (scale : Vec Ideal S2048 .f32) (gut : Vec Ideal S160x2048 .bf16)
    (w : Vec Ideal S8960x1536 .bf16) (ws : Vec Ideal S70x12 .f32) (A : Vec Ideal S9x16x1536 .bf16)
    (As : Vec Ideal S16x1536 .bf16) (y : S2048x1536.Idx) :
    Read.val_main_v20 (F := Ideal) scale gut ws A As codes w y
      = Base.result (fun y => (show EReal from codes y)) scale gut (fun y => (show EReal from w y)) ws A As y := by
  unfold Base.result
  pointwise [Read.val_main_v20, Read.val_main_v19, Read.val_main_v18, Read.val_main_v17, Read.val_main_v16, Read.val_main_v15, Read.val_main_v14, Read.val_main_v13, Read.val_main_v12, Read.val_main_v11, Read.val_main_v10, Read.val_main_v9, Read.val_main_v8, Read.val_main_v7, Read.val_main_v6, Read.val_main_v5, Read.val_main_v4, Read.val_main_v3, Read.val_main_v2, Read.val_main_v1]
  exact add_assoc (G := EReal) _ _ _

end Cert.Proof.BaseRef

end
-- ==== Proof.Cmp.Runs.lean ====
/-
  The frame kit of the adapters call: the arrays when the region is entered, each window's block at a point, the kinds of
  grid point, and what the runs of the body share.
-/
module

public import proofs.«01_k».proof.Proof.Gen.AdaptersCmp.Launch
public import proofs.«01_k».proof.Proof.Gen.AdaptersCmp.Skeleton
public import proofs.«01_k».proof.Proof.Gen.AdaptersCmp.Loops
public import proofs.«01_k».proof.Proof.Gen.AdaptersCmp.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.AdaptersCmp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1020000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_AdaptersCmp`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (Pipeline.RDat.FramePost.arr_in h c 3 rfl).trans ((hA c 3).trans (V_main_arg6 m c)),
      ((h c).2 main_arg7 (Pipeline.mem_restRefs_of main_arg7 (by decide) (by decide))).trans (V_main_arg7 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-! ## The kernel body on any staging memrefs: a subtype the run finds -/

/-- Each window's current staging memref at point `t`, spelled as the pipeline passes it (`bodyAt0`), and its wholeness. -/
abbrev ms0_0 (t : Fin cfg0.N) : Memref sig .tc .vmem S256x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x8960 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S144x1536 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x1536 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S144x8960 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x8960 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x256 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S144x1536 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S16x1536 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S144x8960 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S16x8960 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x8960 .fp8e5m2 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S16x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S160x256 .bf16 := win0_16.stage (cfg0.slots t 16)
abbrev hs0_16 (t : Fin cfg0.N) : (ms0_16 t).IsWhole := hstage0_16 ((cfg0.slots t 16).cast nbuf0_16)
/-- The scratch operands: whole scoped buffers of the kernel's own, passed beside the windows. -/
abbrev scM0_0 : Memref sig .tc .vmem S144x256 .f32 := Memref.whole cc0_scratch0
abbrev scM0_1 : Memref sig .tc .vmem S16x256 .f32 := Memref.whole cc0_scratch1
abbrev scM0_2 : Memref sig .tc .vmem S256x128 .bf16 := Memref.whole cc0_scratch2
abbrev scM0_3 : Memref sig .tc .vmem S2x256x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.AdaptersCmp.Gen

end
-- ==== Proof.Cmp.RunA.lean ====
/-
  The body at the first grid point, run whole.
-/
module

public import proofs.«01_k».proof.Proof.Cmp.Runs

@[expose] public section

-- membership in a rectangle of production extents (`View.cover_of_tiled`): the elaborator's structural look
-- recurses once per coordinate of the long axes
set_option maxRecDepth 16384

noncomputable section

namespace Cert.AdaptersCmp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: checking it walks past the default budget)
set_option maxHeartbeats 1000000 in
/-- The body's triple IN CASE A (`scf.if` 0 taken: points 0): on whole staging memrefs — the inputs' at their contents,
    the FORGOTTEN outputs' (8, 9, 10, 11, 12, 13, 14, 15, 16) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) :
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
          ⊢ wp frame (wpE (defs₀ (F := F)) Variants.none c none) E (cc0_adapters i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
    intro E K
    simp only [cc0_adapters_eq_skeleton]; unfold cc0_adapters_skel
    simp only [k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.AdaptersCmp.Gen

end
-- ==== Proof.Cmp.RunB.lean ====
/-
  The body at a later grid point, run whole.
-/
module

public import proofs.«01_k».proof.Proof.Cmp.RunA

@[expose] public section

-- membership in a rectangle of production extents (`View.cover_of_tiled`): the elaborator's structural look
-- recurses once per coordinate of the long axes
set_option maxRecDepth 16384

noncomputable section

namespace Cert.AdaptersCmp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: checking it walks past the default budget)
set_option maxHeartbeats 1000000 in
/-- The body's triple IN CASE B (`scf.if` 0 not taken: points 1, 2, … 7: 7 of 8): on whole staging memrefs — the inputs' at their contents,
    the FORGOTTEN outputs' (8, 9, 10, 11, 12, 13, 14, 15, 16) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : ¬cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) :
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
          ⊢ wp frame (wpE (defs₀ (F := F)) Variants.none c none) E (cc0_adapters i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
    intro E K
    simp only [cc0_adapters_eq_skeleton]; unfold cc0_adapters_skel
    simp only [k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.AdaptersCmp.Gen

end
-- ==== Proof.Cmp.Frame.lean ====
/-
  The proof data of the adapters call, its body obligation, its run and its frame.  The `scale` window (14) receives two rows
  at a point, so its contents after a point depend on what it held before; they are not stated here.
-/
module

public import proofs.«01_k».proof.Proof.Cmp.RunB
public import Idealize.ShloMosaic.Lib.Claim

@[expose] public section

-- membership in a rectangle of production extents (`View.cover_of_tiled`): the elaborator's structural look
-- recurses once per coordinate of the long axes
set_option maxRecDepth 16384

noncomputable section

namespace Cert.AdaptersCmp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## The pipeline's proof data -/

/-- The output windows this certificate FORGETS (8, 9, 10, 11, 12, 13, 14, 15, 16): nothing reads what the kernel leaves in them, so nothing
    of it is named (Lib/Pipeline/Dat.lean `Dat.toRForget`). -/
def forgets0 : Fin 17 → Bool := fun w => w.val == 8 || w.val == 9 || w.val == 10 || w.val == 11 || w.val == 12 || w.val == 13 || w.val == 14 || w.val == 15 || w.val == 16

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨_ + 17, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d))

set_option maxHeartbeats 4000000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  have hN : t.val < 8 := lt_of_lt_of_eq t.isLt (show cfg0.N = 8 from N_0)
  by_cases h0 : t.val % 8 = 0
  · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRun0_A c (grid0.coords t) _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 8, 9, 10, 11, 12, 13, 14, 15, 16) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- THE FRAME: `Cert.quiescent_AdaptersCmp`'s statement (Defs.lean) at any `F` — Proof.lean cites it at `Bits`:
    `theorem Cert.Proof.claim : Cert.Claim := ⟨Cert.AdaptersCmp.Gen.facts, fun m ρ _ => Cert.AdaptersCmp.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.AdaptersCmp.Gen

end
-- ==== Proof.CmpIdeal.Runs.lean ====
/-
  The frame kit of the adapters call: the arrays when the region is entered, each window's block at a point, the kinds of
  grid point, and what the runs of the body share.
-/
module

public import proofs.«01_k».proof.Proof.Gen.AdaptersCmpIdeal.Launch
public import proofs.«01_k».proof.Proof.Gen.AdaptersCmpIdeal.Skeleton
public import proofs.«01_k».proof.Proof.Gen.AdaptersCmpIdeal.Loops
public import proofs.«01_k».proof.Proof.Gen.AdaptersCmpIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.AdaptersCmpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1020000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_AdaptersCmpIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (Pipeline.RDat.FramePost.arr_in h c 3 rfl).trans ((hA c 3).trans (V_main_arg6 m c)),
      ((h c).2 main_arg7 (Pipeline.mem_restRefs_of main_arg7 (by decide) (by decide))).trans (V_main_arg7 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-! ## The kernel body on any staging memrefs: a subtype the run finds -/

/-- One staging buffer of output window 8, through which its contents are stated (`View.read_writes_of_cover`: the
    choice does not matter). -/
abbrev VO0_8 : View sig .tc .vmem S144x1536 .f32 := (Memref.whole cc0_stg8_0 : Memref sig .tc .vmem S144x1536 .f32).view
/-- One staging buffer of output window 9, through which its contents are stated (`View.read_writes_of_cover`: the
    choice does not matter). -/
abbrev VO0_9 : View sig .tc .vmem S16x1536 .f32 := (Memref.whole cc0_stg9_0 : Memref sig .tc .vmem S16x1536 .f32).view
/-- One staging buffer of output window 10, through which its contents are stated (`View.read_writes_of_cover`: the
    choice does not matter). -/
abbrev VO0_10 : View sig .tc .vmem S144x8960 .f32 := (Memref.whole cc0_stg10_0 : Memref sig .tc .vmem S144x8960 .f32).view
/-- One staging buffer of output window 11, through which its contents are stated (`View.read_writes_of_cover`: the
    choice does not matter). -/
abbrev VO0_11 : View sig .tc .vmem S16x8960 .f32 := (Memref.whole cc0_stg11_0 : Memref sig .tc .vmem S16x8960 .f32).view
/-- One staging buffer of output window 12, through which its contents are stated (`View.read_writes_of_cover`: the
    choice does not matter). -/
abbrev VO0_12 : View sig .tc .vmem S2x256 .f32 := (Memref.whole cc0_stg12_0 : Memref sig .tc .vmem S2x256 .f32).view
/-- One staging buffer of output window 13, through which its contents are stated (`View.read_writes_of_cover`: the
    choice does not matter). -/
abbrev VO0_13 : View sig .tc .vmem S256x8960 .fp8e5m2 := (Memref.whole cc0_stg13_0 : Memref sig .tc .vmem S256x8960 .fp8e5m2).view
/-- One staging buffer of output window 15, through which its contents are stated (`View.read_writes_of_cover`: the
    choice does not matter). -/
abbrev VO0_15 : View sig .tc .vmem S256x128 .f32 := (Memref.whole cc0_stg15_0 : Memref sig .tc .vmem S256x128 .f32).view
/-- One staging buffer of output window 16, through which its contents are stated (`View.read_writes_of_cover`: the
    choice does not matter). -/
abbrev VO0_16 : View sig .tc .vmem S160x256 .bf16 := (Memref.whole cc0_stg16_0 : Memref sig .tc .vmem S160x256 .bf16).view
/-- Each window's current staging memref at point `t`, spelled as the pipeline passes it (`bodyAt0`), and its wholeness. -/
abbrev ms0_0 (t : Fin cfg0.N) : Memref sig .tc .vmem S256x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x8960 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S144x1536 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x1536 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S144x8960 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x8960 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x256 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S144x1536 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S16x1536 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S144x8960 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S16x8960 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x8960 .fp8e5m2 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S16x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S160x256 .bf16 := win0_16.stage (cfg0.slots t 16)
abbrev hs0_16 (t : Fin cfg0.N) : (ms0_16 t).IsWhole := hstage0_16 ((cfg0.slots t 16).cast nbuf0_16)
/-- The scratch operands: whole scoped buffers of the kernel's own, passed beside the windows. -/
abbrev scM0_0 : Memref sig .tc .vmem S144x256 .f32 := Memref.whole cc0_scratch0
abbrev scM0_1 : Memref sig .tc .vmem S16x256 .f32 := Memref.whole cc0_scratch1
abbrev scM0_2 : Memref sig .tc .vmem S256x128 .bf16 := Memref.whole cc0_scratch2
abbrev scM0_3 : Memref sig .tc .vmem S2x256x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.AdaptersCmpIdeal.Gen

end
-- ==== Proof.CmpIdeal.RunA.lean ====
/-
  The body at the first grid point, run whole.
-/
module

public import proofs.«01_k».proof.Proof.CmpIdeal.Runs

@[expose] public section

-- membership in a rectangle of production extents (`View.cover_of_tiled`): the elaborator's structural look
-- recurses once per coordinate of the long axes
set_option maxRecDepth 16384

noncomputable section

namespace Cert.AdaptersCmpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Output 14, which no point covers, is handed over at `x14` and handed back with its pieces (two rows) written over it. -/
noncomputable def kernelRun0_A (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) :
    Σ' (L8 : List (View.Piece (Elt F) S144x1536 .f32)), Σ' (L9 : List (View.Piece (Elt F) S16x1536 .f32)), Σ' (L10 : List (View.Piece (Elt F) S144x8960 .f32)), Σ' (L11 : List (View.Piece (Elt F) S16x8960 .f32)), Σ' (L12 : List (View.Piece (Elt F) S2x256 .f32)), Σ' (L13 : List (View.Piece (Elt F) S256x8960 .fp8e5m2)), Σ' (L15 : List (View.Piece (Elt F) S256x128 .f32)), Σ' (L16 : List (View.Piece (Elt F) S160x256 .bf16)), { L14 : List (View.Piece (Elt F) S16x128 .f32) //
      ∀ (x14 : Vec F S16x128 .f32) (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, ⌜arg15.view.read (Elt F) f = x14⌝ ∗ arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
          ⊢ wp frame (wpE (defs₀ (F := F)) Variants.none c none) E (cc0_adapters i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, ?_, fun x14 E K => ?run⟩
  case run =>
    simp only [cc0_adapters_eq_skeleton]; unfold cc0_adapters_skel
    simp only [k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%f14, %hf14, H14⟩, ⟨%d15, %f15, -, H15⟩, ⟨%d16, %f16, -, H16⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]
    · iexists f14; isplitr; · ipureintro; exact hf14
      iexact H14
    isplitl [H15]; · iexists _; iexact H15
    isplitl [H16]; · iexists _; iexact H16
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.AdaptersCmpIdeal.Gen

end
-- ==== Proof.CmpIdeal.RunB.lean ====
/-
  The body at a later grid point, run whole.
-/
module

public import proofs.«01_k».proof.Proof.CmpIdeal.RunA

@[expose] public section

-- membership in a rectangle of production extents (`View.cover_of_tiled`): the elaborator's structural look
-- recurses once per coordinate of the long axes
set_option maxRecDepth 16384

noncomputable section

namespace Cert.AdaptersCmpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 7: 7 of 8), WITH the
    proof that on whole staging memrefs — the inputs' at their contents, the outputs it reads before covering (8, 9, 10, 11) at their running contents `xo·`, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Output 14, which no point covers, is handed over at `x14` and handed back with its pieces (two rows) written over it. -/
noncomputable def kernelRun0_B (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : ¬cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) (xo8 : Vec F S144x1536 .f32) (xo9 : Vec F S16x1536 .f32) (xo10 : Vec F S144x8960 .f32) (xo11 : Vec F S16x8960 .f32) :
    Σ' (L8 : List (View.Piece (Elt F) S144x1536 .f32)), Σ' (L9 : List (View.Piece (Elt F) S16x1536 .f32)), Σ' (L10 : List (View.Piece (Elt F) S144x8960 .f32)), Σ' (L11 : List (View.Piece (Elt F) S16x8960 .f32)), Σ' (L12 : List (View.Piece (Elt F) S2x256 .f32)), Σ' (L13 : List (View.Piece (Elt F) S256x8960 .fp8e5m2)), Σ' (L15 : List (View.Piece (Elt F) S256x128 .f32)), Σ' (L16 : List (View.Piece (Elt F) S160x256 .bf16)), { L14 : List (View.Piece (Elt F) S16x128 .f32) //
      ∀ (x14 : Vec F S16x128 .f32) (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo8 ∗ owns (c : Thread nD τ) arg10 fullShare xo9 ∗ owns (c : Thread nD τ) arg11 fullShare xo10 ∗ owns (c : Thread nD τ) arg12 fullShare xo11 ∗ (∃ d, owns (c : Thread nD τ) arg13 fullShare d) ∗ (∃ d, owns (c : Thread nD τ) arg14 fullShare d) ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, ⌜arg15.view.read (Elt F) f = x14⌝ ∗ arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
          ⊢ wp frame (wpE (defs₀ (F := F)) Variants.none c none) E (cc0_adapters i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, ?_, fun x14 E K => ?run⟩
  case run =>
    simp only [cc0_adapters_eq_skeleton]; unfold cc0_adapters_skel
    simp only [k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%d15, %f15, -, H15⟩, ⟨%d16, %f16, -, H16⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]
    · iexists f14; isplitr; · ipureintro; exact hf14
      iexact H14
    isplitl [H15]; · iexists _; iexact H15
    isplitl [H16]; · iexists _; iexact H16
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.AdaptersCmpIdeal.Gen

end
-- ==== Proof.CmpIdeal.Outs.lean ====
/-
  What each kind of grid point leaves in the windows it is asked about.
-/
module

public import proofs.«01_k».proof.Proof.CmpIdeal.RunB
public import Idealize.ShloMosaic.Lib.Claim

@[expose] public section

-- membership in a rectangle of production extents (`View.cover_of_tiled`): the elaborator's structural look
-- recurses once per coordinate of the long axes
set_option maxRecDepth 16384

noncomputable section

namespace Cert.AdaptersCmpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- Case A's pieces for output 8 tile its block (2 stores of `S144x1536`, checked by the kernel's evaluation: Lib/Ring.lean `Piece.tiledL`, linear in the pieces, through a loop's `@[irreducible]` trip theorem too), so they cover it. -/
theorem cover0_A_8 (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) (y : S144x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7).1 S144x1536.size (by sl_kernel_rfl) y

/-- What case A leaves in output 8's staging buffer: its pieces read back over junk. -/
def out0_A_8 (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) : Vec F S144x1536 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7).1)

/-- Case A's pieces for output 9 tile its block (2 stores of `S16x1536`, checked by the kernel's evaluation: Lib/Ring.lean `Piece.tiledL`, linear in the pieces, through a loop's `@[irreducible]` trip theorem too), so they cover it. -/
theorem cover0_A_9 (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) (y : S16x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7).2.1 S16x1536.size (by sl_kernel_rfl) y

/-- What case A leaves in output 9's staging buffer: its pieces read back over junk. -/
def out0_A_9 (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) : Vec F S16x1536 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7).2.1)

/-- Case A's pieces for output 10 are of SEVERAL sizes (8 stores of `S144x1280`, `S144x8960`): cut into blocks of `![144, 1280]` they tile its block (checked by the kernel's evaluation: Lib/Ring.lean `Piece.tiledBy`), so they cover it. -/
theorem cover0_A_10 (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) (y : S144x8960.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7).2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7).2.2.1 ![144, 1280] (by sl_kernel_rfl) y

/-- What case A leaves in output 10's staging buffer: its pieces read back over junk. -/
def out0_A_10 (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) : Vec F S144x8960 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7).2.2.1)

/-- Case A's pieces for output 11 are of SEVERAL sizes (8 stores of `S16x1280`, `S16x8960`): cut into blocks of `![16, 1280]` they tile its block (checked by the kernel's evaluation: Lib/Ring.lean `Piece.tiledBy`), so they cover it. -/
theorem cover0_A_11 (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) (y : S16x8960.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7).2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7).2.2.2.1 ![16, 1280] (by sl_kernel_rfl) y

/-- What case A leaves in output 11's staging buffer: its pieces read back over junk. -/
def out0_A_11 (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) : Vec F S16x8960 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7).2.2.2.1)

/-- Case A's pieces for output 12 tile its block (2 stores of `S1x256`, checked by the kernel's evaluation: Lib/Ring.lean `Piece.tiledL`, linear in the pieces, through a loop's `@[irreducible]` trip theorem too), so they cover it. -/
theorem cover0_A_12 (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) (y : S2x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7).2.2.2.2.1 S1x256.size (by sl_kernel_rfl) y

/-- What case A leaves in output 12's staging buffer: its pieces read back over junk. -/
def out0_A_12 (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) : Vec F S2x256 .f32 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7).2.2.2.2.1)

/-- Case A's pieces for output 13 tile its block (7 stores of `S256x1280`, checked by the kernel's evaluation: Lib/Ring.lean `Piece.tiledL`, linear in the pieces, through a loop's `@[irreducible]` trip theorem too), so they cover it. -/
theorem cover0_A_13 (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) (y : S256x8960.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7).2.2.2.2.2.1 S256x1280.size (by sl_kernel_rfl) y

/-- What case A leaves in output 13's staging buffer: its pieces read back over junk. -/
def out0_A_13 (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) : Vec F S256x8960 .fp8e5m2 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7).2.2.2.2.2.1)

/-- Case A's pieces for output 15 tile its block (1 store of `S256x128`, checked by the kernel's evaluation: Lib/Ring.lean `Piece.tiledL`, linear in the pieces, through a loop's `@[irreducible]` trip theorem too), so they cover it. -/
theorem cover0_A_15 (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7).2.2.2.2.2.2.1 S256x128.size (by sl_kernel_rfl) y

/-- What case A leaves in output 15's staging buffer: its pieces read back over junk. -/
def out0_A_15 (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) : Vec F S256x128 .f32 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7).2.2.2.2.2.2.1)

/-- Case A's pieces for output 16 are of SEVERAL sizes (2 stores of `S144x256`, `S16x256`): cut into blocks of `![16, 256]` they tile its block (checked by the kernel's evaluation: Lib/Ring.lean `Piece.tiledBy`), so they cover it. -/
theorem cover0_A_16 (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) (y : S160x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7).2.2.2.2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7).2.2.2.2.2.2.2.1 ![16, 256] (by sl_kernel_rfl) y

/-- What case A leaves in output 16's staging buffer: its pieces read back over junk. -/
def out0_A_16 (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) : Vec F S160x256 .bf16 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7).2.2.2.2.2.2.2.1)

/-- Case B's pieces for output 8 tile its block (1 store of `S144x1536`, checked by the kernel's evaluation: Lib/Ring.lean `Piece.tiledL`, linear in the pieces, through a loop's `@[irreducible]` trip theorem too), so they cover it. -/
theorem cover0_B_8 (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : ¬cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) (xo8 : Vec F S144x1536 .f32) (xo9 : Vec F S16x1536 .f32) (xo10 : Vec F S144x8960 .f32) (xo11 : Vec F S16x8960 .f32) (y : S144x1536.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11).1 S144x1536.size (by sl_kernel_rfl) y

/-- What case B leaves in output 8's staging buffer: its pieces read back over junk. -/
def out0_B_8 (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : ¬cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) (xo8 : Vec F S144x1536 .f32) (xo9 : Vec F S16x1536 .f32) (xo10 : Vec F S144x8960 .f32) (xo11 : Vec F S16x8960 .f32) : Vec F S144x1536 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11).1)

/-- Case B's pieces for output 9 tile its block (1 store of `S16x1536`, checked by the kernel's evaluation: Lib/Ring.lean `Piece.tiledL`, linear in the pieces, through a loop's `@[irreducible]` trip theorem too), so they cover it. -/
theorem cover0_B_9 (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : ¬cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) (xo8 : Vec F S144x1536 .f32) (xo9 : Vec F S16x1536 .f32) (xo10 : Vec F S144x8960 .f32) (xo11 : Vec F S16x8960 .f32) (y : S16x1536.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11).2.1 S16x1536.size (by sl_kernel_rfl) y

/-- What case B leaves in output 9's staging buffer: its pieces read back over junk. -/
def out0_B_9 (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : ¬cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) (xo8 : Vec F S144x1536 .f32) (xo9 : Vec F S16x1536 .f32) (xo10 : Vec F S144x8960 .f32) (xo11 : Vec F S16x8960 .f32) : Vec F S16x1536 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11).2.1)

/-- Case B's pieces for output 10 tile its block (7 stores of `S144x1280`, checked by the kernel's evaluation: Lib/Ring.lean `Piece.tiledL`, linear in the pieces, through a loop's `@[irreducible]` trip theorem too), so they cover it. -/
theorem cover0_B_10 (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : ¬cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) (xo8 : Vec F S144x1536 .f32) (xo9 : Vec F S16x1536 .f32) (xo10 : Vec F S144x8960 .f32) (xo11 : Vec F S16x8960 .f32) (y : S144x8960.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11).2.2.1 S144x1280.size (by sl_kernel_rfl) y

/-- What case B leaves in output 10's staging buffer: its pieces read back over junk. -/
def out0_B_10 (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : ¬cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) (xo8 : Vec F S144x1536 .f32) (xo9 : Vec F S16x1536 .f32) (xo10 : Vec F S144x8960 .f32) (xo11 : Vec F S16x8960 .f32) : Vec F S144x8960 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11).2.2.1)

/-- Case B's pieces for output 11 tile its block (7 stores of `S16x1280`, checked by the kernel's evaluation: Lib/Ring.lean `Piece.tiledL`, linear in the pieces, through a loop's `@[irreducible]` trip theorem too), so they cover it. -/
theorem cover0_B_11 (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : ¬cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) (xo8 : Vec F S144x1536 .f32) (xo9 : Vec F S16x1536 .f32) (xo10 : Vec F S144x8960 .f32) (xo11 : Vec F S16x8960 .f32) (y : S16x8960.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11).2.2.2.1 S16x1280.size (by sl_kernel_rfl) y

/-- What case B leaves in output 11's staging buffer: its pieces read back over junk. -/
def out0_B_11 (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : ¬cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) (xo8 : Vec F S144x1536 .f32) (xo9 : Vec F S16x1536 .f32) (xo10 : Vec F S144x8960 .f32) (xo11 : Vec F S16x8960 .f32) : Vec F S16x8960 .f32 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11).2.2.2.1)

/-- Case B's pieces for output 12 tile its block (2 stores of `S1x256`, checked by the kernel's evaluation: Lib/Ring.lean `Piece.tiledL`, linear in the pieces, through a loop's `@[irreducible]` trip theorem too), so they cover it. -/
theorem cover0_B_12 (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : ¬cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) (xo8 : Vec F S144x1536 .f32) (xo9 : Vec F S16x1536 .f32) (xo10 : Vec F S144x8960 .f32) (xo11 : Vec F S16x8960 .f32) (y : S2x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11).2.2.2.2.1 S1x256.size (by sl_kernel_rfl) y

/-- What case B leaves in output 12's staging buffer: its pieces read back over junk. -/
def out0_B_12 (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : ¬cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) (xo8 : Vec F S144x1536 .f32) (xo9 : Vec F S16x1536 .f32) (xo10 : Vec F S144x8960 .f32) (xo11 : Vec F S16x8960 .f32) : Vec F S2x256 .f32 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11).2.2.2.2.1)

/-- Case B's pieces for output 13 tile its block (7 stores of `S256x1280`, checked by the kernel's evaluation: Lib/Ring.lean `Piece.tiledL`, linear in the pieces, through a loop's `@[irreducible]` trip theorem too), so they cover it. -/
theorem cover0_B_13 (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : ¬cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) (xo8 : Vec F S144x1536 .f32) (xo9 : Vec F S16x1536 .f32) (xo10 : Vec F S144x8960 .f32) (xo11 : Vec F S16x8960 .f32) (y : S256x8960.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11).2.2.2.2.2.1 S256x1280.size (by sl_kernel_rfl) y

/-- What case B leaves in output 13's staging buffer: its pieces read back over junk. -/
def out0_B_13 (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : ¬cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) (xo8 : Vec F S144x1536 .f32) (xo9 : Vec F S16x1536 .f32) (xo10 : Vec F S144x8960 .f32) (xo11 : Vec F S16x8960 .f32) : Vec F S256x8960 .fp8e5m2 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11).2.2.2.2.2.1)

/-- Case B's pieces for output 15 tile its block (1 store of `S256x128`, checked by the kernel's evaluation: Lib/Ring.lean `Piece.tiledL`, linear in the pieces, through a loop's `@[irreducible]` trip theorem too), so they cover it. -/
theorem cover0_B_15 (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : ¬cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) (xo8 : Vec F S144x1536 .f32) (xo9 : Vec F S16x1536 .f32) (xo10 : Vec F S144x8960 .f32) (xo11 : Vec F S16x8960 .f32) (y : S256x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11).2.2.2.2.2.2.1 S256x128.size (by sl_kernel_rfl) y

/-- What case B leaves in output 15's staging buffer: its pieces read back over junk. -/
def out0_B_15 (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : ¬cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) (xo8 : Vec F S144x1536 .f32) (xo9 : Vec F S16x1536 .f32) (xo10 : Vec F S144x8960 .f32) (xo11 : Vec F S16x8960 .f32) : Vec F S256x128 .f32 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11).2.2.2.2.2.2.1)

/-- Case B's pieces for output 16 are of SEVERAL sizes (2 stores of `S144x256`, `S16x256`): cut into blocks of `![16, 256]` they tile its block (checked by the kernel's evaluation: Lib/Ring.lean `Piece.tiledBy`), so they cover it. -/
theorem cover0_B_16 (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : ¬cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) (xo8 : Vec F S144x1536 .f32) (xo9 : Vec F S16x1536 .f32) (xo10 : Vec F S144x8960 .f32) (xo11 : Vec F S16x8960 .f32) (y : S160x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11).2.2.2.2.2.2.2.1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11).2.2.2.2.2.2.2.1 ![16, 256] (by sl_kernel_rfl) y

/-- What case B leaves in output 16's staging buffer: its pieces read back over junk. -/
def out0_B_16 (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : ¬cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) (xo8 : Vec F S144x1536 .f32) (xo9 : Vec F S16x1536 .f32) (xo10 : Vec F S144x8960 .f32) (xo11 : Vec F S16x8960 .f32) : Vec F S160x256 .bf16 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11).2.2.2.2.2.2.2.1)

end Cert.AdaptersCmpIdeal.Gen

end
-- ==== Proof.CmpIdeal.Dense.lean ====
/-
  The two rows that a point stores in the dense scale window: row `2 i` holds the scales of the point's first 128 tokens,
  row `2 i + 1` those of its last 128.
-/
module

public import proofs.«01_k».proof.Proof.CmpIdeal.Outs
public import Idealize.ShloMosaic.Lib.WritesUnit
public import Idealize.ShloMosaic.Lib.Pointwise

@[expose] public section

set_option maxRecDepth 16384

noncomputable section

namespace Cert.AdaptersCmpIdeal.Gen

open Idealize.ShloMosaic Idealize.ShloMosaic.TcCoe
open Idealize.SL.Sem

variable {F : FTy → Type} [FloatOps F]

/-- The token of a point that lane `l` of row `p` of the point's two rows belongs to. -/
abbrev rowTok (p : ℕ) (l : Fin 128) : Fin 256 := ⟨128 * (p % 2) + l.val, by have := l.isLt; have := Nat.mod_lt p (by decide : 2 > 0); omega⟩

/-- The first stored row: lane `l` is column 0 of token `l`. -/
theorem pay2_at (v : FVec F S256x128 .f32) (p : ℕ) (hp : p % 2 = 0) (l : Fin 128) : k0_pay2 v (ix2 0 l) = v (ix2 (rowTok p l) 0) := by
  unfold k0_pay2 k0_pay1
  refine congrArg v (funext fun a => Fin.ext ?_)
  match a with
  | ⟨0, _⟩ => show 0 + (0 + l.val) = 128 * (p % 2) + l.val; omega
  | ⟨1, _⟩ => rfl

/-- The second stored row: lane `l` is column 0 of token `128 + l`. -/
theorem pay3_at (v : FVec F S256x128 .f32) (p : ℕ) (hp : p % 2 = 1) (l : Fin 128) : k0_pay3 v (ix2 0 l) = v (ix2 (rowTok p l) 0) := by
  unfold k0_pay3 k0_pay1
  refine congrArg v (funext fun a => Fin.ext ?_)
  match a with
  | ⟨0, _⟩ => show 0 + (128 + l.val) = 128 * (p % 2) + l.val; omega
  | ⟨1, _⟩ => rfl

/-- The pieces of the two rows, the newest first. -/
def rows (i : grid0.Coords) (v : FVec F S256x128 .f32) : List (View.Piece (Elt F) S16x128 .f32) :=
  [⟨Rect.unit (s := S16x128) (k0_off4 i 1#32) S1x128.size (k0_off4_inb i 1), k0_pay3 v⟩,
   ⟨Rect.unit (s := S16x128) (k0_off4 i 0#32) S1x128.size (k0_off4_inb i 0), k0_pay2 v⟩]

/-- The window after the two stores, at a row of the point. -/
theorem rows_hit {κ : _} {sp : _} (M : Memref sig κ sp S16x128 .f32) (f) (i : grid0.Coords) (v : FVec F S256x128 .f32) (r : Fin 16) (l : Fin 128)
    (h : r.val / 2 = (i 0).val) : M.view.read (Elt F) (M.view.writes (Elt F) f (rows i v)) (ix2 r l) = v (ix2 (rowTok r.val l) 0) := by
  have h1 := k0_off4_eq i 1
  have h0 := k0_off4_eq i 0
  unfold rows
  rcases Nat.mod_two_eq_zero_or_one r.val with e | e
  · refine (View.read_writes_cons_unit_of_not_mem M.view f _ _ _ (ix2 r l) h1 0 (.inl ?_)).trans ?_
    · show r.val < 2 * (i 0).val + 1; omega
    refine (View.read_writes_cons_unit_of_mem M.view f _ _ _ (ix2 r l) (ix2 0 l) h0 (fun a => ?_)).trans (pay2_at v r.val e l)
    match a with
    | ⟨0, _⟩ => show r.val = 2 * (i 0).val + 0 + 0; omega
    | ⟨1, _⟩ => exact (Nat.zero_add _).symm
  · refine (View.read_writes_cons_unit_of_mem M.view f _ _ _ (ix2 r l) (ix2 0 l) h1 (fun a => ?_)).trans (pay3_at v r.val e l)
    match a with
    | ⟨0, _⟩ => show r.val = 2 * (i 0).val + 1 + 0; omega
    | ⟨1, _⟩ => exact (Nat.zero_add _).symm

/-- The window after the two stores, at a row of another point. -/
theorem rows_miss {κ : _} {sp : _} (M : Memref sig κ sp S16x128 .f32) (f) (i : grid0.Coords) (v : FVec F S256x128 .f32) (r : Fin 16) (l : Fin 128)
    (h : r.val / 2 < (i 0).val) : M.view.read (Elt F) (M.view.writes (Elt F) f (rows i v)) (ix2 r l) = M.view.read (Elt F) f (ix2 r l) := by
  have h1 := k0_off4_eq i 1
  have h0 := k0_off4_eq i 0
  unfold rows
  refine (View.read_writes_cons_unit_of_not_mem M.view f _ _ _ (ix2 r l) h1 0 (.inl ?_)).trans ?_
  · show r.val < 2 * (i 0).val + 1; omega
  refine (View.read_writes_cons_unit_of_not_mem M.view f _ _ _ (ix2 r l) h0 0 (.inl ?_)).trans rfl
  show r.val < 2 * (i 0).val + 0; omega

/-- Case A's pieces for the dense scale window are the two rows of what it leaves in the scale columns' window. -/
theorem pieces_A (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7).2.2.2.2.2.2.2.2.1
      = rows i (out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7) := by
  refine Eq.trans (b := rows i ?v) ?h1 (congrArg (rows i) ?h2)
  case h1 => exact rfl
  symm
  unfold out0_A_15 kernelRun0_A
  dsimp only
  unfold kernelRun0_A.sl.H15_1
  exact funext fun y => View.read_writes_cons_unit_of_mem VO0_15 _ _ _ _ y y rfl (fun a => (by match a with | ⟨0, _⟩ => exact (Nat.zero_add _).symm | ⟨1, _⟩ => exact (Nat.zero_add _).symm))

/-- Case B's pieces for the dense scale window are the two rows of what it leaves in the scale columns' window. -/
theorem pieces_B (c : Dev nD) (i : grid0.Coords) (arg1 : Memref sig .tc .vmem S256x1536 .bf16) (harg1 : arg1.IsWhole) (arg2 : Memref sig .tc .vmem S256x8960 .bf16) (harg2 : arg2.IsWhole) (arg3 : Memref sig .tc .vmem S144x1536 .bf16) (harg3 : arg3.IsWhole) (arg4 : Memref sig .tc .vmem S16x1536 .bf16) (harg4 : arg4.IsWhole) (arg5 : Memref sig .tc .vmem S144x8960 .bf16) (harg5 : arg5.IsWhole) (arg6 : Memref sig .tc .vmem S16x8960 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S144x1536 .f32) (harg9 : arg9.IsWhole) (arg10 : Memref sig .tc .vmem S16x1536 .f32) (harg10 : arg10.IsWhole) (arg11 : Memref sig .tc .vmem S144x8960 .f32) (harg11 : arg11.IsWhole) (arg12 : Memref sig .tc .vmem S16x8960 .f32) (harg12 : arg12.IsWhole) (arg13 : Memref sig .tc .vmem S2x256 .f32) (harg13 : arg13.IsWhole) (arg14 : Memref sig .tc .vmem S256x8960 .fp8e5m2) (harg14 : arg14.IsWhole) (arg15 : Memref sig .tc .vmem S16x128 .f32) (harg15 : arg15.IsWhole) (arg16 : Memref sig .tc .vmem S256x128 .f32) (harg16 : arg16.IsWhole) (arg17 : Memref sig .tc .vmem S160x256 .bf16) (harg17 : arg17.IsWhole) (arg18 : Memref sig .tc .vmem S144x256 .f32) (harg18 : arg18.IsWhole) (arg19 : Memref sig .tc .vmem S16x256 .f32) (harg19 : arg19.IsWhole) (arg20 : Memref sig .tc .vmem S256x128 .bf16) (harg20 : arg20.IsWhole) (arg21 : Memref sig .tc .vmem S2x256x128 .f32) (harg21 : arg21.IsWhole) (hc0 : ¬cond0_0 i)
    (x0 : Vec F S256x1536 .bf16) (x1 : Vec F S256x8960 .bf16) (x2 : Vec F S144x1536 .bf16) (x3 : Vec F S16x1536 .bf16) (x4 : Vec F S144x8960 .bf16) (x5 : Vec F S16x8960 .bf16) (x6 : Vec F S2x256 .i32) (x7 : Vec F S2x256 .f32) (xo8 : Vec F S144x1536 .f32) (xo9 : Vec F S16x1536 .f32) (xo10 : Vec F S144x8960 .f32) (xo11 : Vec F S16x8960 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11).2.2.2.2.2.2.2.2.1
      = rows i (out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11) := by
  refine Eq.trans (b := rows i ?v) ?h1 (congrArg (rows i) ?h2)
  case h1 => exact rfl
  symm
  unfold out0_B_15 kernelRun0_B
  dsimp only
  unfold kernelRun0_B.sl.H15_1
  exact funext fun y => View.read_writes_cons_unit_of_mem VO0_15 _ _ _ _ y y rfl (fun a => (by match a with | ⟨0, _⟩ => exact (Nat.zero_add _).symm | ⟨1, _⟩ => exact (Nat.zero_add _).symm))

end Cert.AdaptersCmpIdeal.Gen

end
-- ==== Proof.CmpIdeal.Frame.lean ====
/-
  The proof data of the adapters call, its body obligation, its run and its frame.  The dense scale window (14) receives two rows
  at a point, so its contents after a point depend on what it held before; they are stated by a relation (`scaleRows`): after
  point `t` the rows of the points up to `t` hold what those points stored, and nothing is said of the others.
-/
module

public import proofs.«01_k».proof.Proof.CmpIdeal.Dense
public import Idealize.ShloMosaic.Lib.Pipeline.DatRel
public import Idealize.ShloMosaic.Lib.Claim

@[expose] public section

-- membership in a rectangle of production extents (`View.cover_of_tiled`): the elaborator's structural look
-- recurses once per coordinate of the long axes
set_option maxRecDepth 16384

noncomputable section

namespace Cert.AdaptersCmpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

variable (m : (ℓ : Loc nD τ sig) → Buf (Elt F) ℓ) (ρ : Dev nD → PrngReg)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S144x1536 .f32 × Vec F S16x1536 .f32 × Vec F S144x8960 .f32 × Vec F S16x8960 .f32 × Vec F S2x256 .f32 × Vec F S256x8960 .fp8e5m2 × Vec F S256x128 .f32 × Vec F S160x256 .bf16
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 8 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1)

/-- `outsAt0` at a point of case A: that case's contents. -/
theorem outsAt0_A (c : Dev nD) (t : Fin cfg0.N) (h0 : t.val % 8 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1) := by
  obtain ⟨n, hn⟩ := t
  cases n with
  | zero => exact (by exfalso; (try dsimp only at h0); exact absurd (Nat.zero_mod _) h0)
  | succ n => exact (dif_neg h0).trans rfl

/-! ## The pipeline's proof data -/

/-- The output window of which a relation is stated instead of exact contents (14). -/
def forgets0 : Fin 17 → Bool := fun w => w.val == 14
theorem forgets0_8 : forgets0 (8 : Fin 17) = false := by decide
theorem forgets0_9 : forgets0 (9 : Fin 17) = false := by decide
theorem forgets0_10 : forgets0 (10 : Fin 17) = false := by decide
theorem forgets0_11 : forgets0 (11 : Fin 17) = false := by decide
theorem forgets0_12 : forgets0 (12 : Fin 17) = false := by decide
theorem forgets0_13 : forgets0 (13 : Fin 17) = false := by decide
theorem forgets0_15 : forgets0 (15 : Fin 17) = false := by decide
theorem forgets0_16 : forgets0 (16 : Fin 17) = false := by decide

/-- The proof data of the one pipeline on core `c`: the arrays as the region finds them (`V`); after the body at
    point `t` each input's buffer at its block and the NAMED outputs' at `outsAt0` (window 14 at `Dat.unnamed`: `Rl0` says what is known of it); the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
    | ⟨11, _⟩ => (outsAt0 m c t.val t.isLt).2.2.2.1
    | ⟨12, _⟩ => (outsAt0 m c t.val t.isLt).2.2.2.2.1
    | ⟨13, _⟩ => (outsAt0 m c t.val t.isLt).2.2.2.2.2.1
    | ⟨14, h⟩ => Pipeline.Dat.unnamed (cfg := cfg0) ⟨14, h⟩ t
    | ⟨15, _⟩ => (outsAt0 m c t.val t.isLt).2.2.2.2.2.2.1
    | ⟨16, _⟩ => (outsAt0 m c t.val t.isLt).2.2.2.2.2.2.2
    | ⟨_ + 17, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]
theorem after0_11 (c : Dev nD) (t : Fin cfg0.N) : (dats m 0 c).after 11 t = (outsAt0 m c t.val t.isLt).2.2.2.1 := by dsimp only [dats]
theorem after0_12 (c : Dev nD) (t : Fin cfg0.N) : (dats m 0 c).after 12 t = (outsAt0 m c t.val t.isLt).2.2.2.2.1 := by dsimp only [dats]
theorem after0_13 (c : Dev nD) (t : Fin cfg0.N) : (dats m 0 c).after 13 t = (outsAt0 m c t.val t.isLt).2.2.2.2.2.1 := by dsimp only [dats]
theorem after0_15 (c : Dev nD) (t : Fin cfg0.N) : (dats m 0 c).after 15 t = (outsAt0 m c t.val t.isLt).2.2.2.2.2.2.1 := by dsimp only [dats]
theorem after0_16 (c : Dev nD) (t : Fin cfg0.N) : (dats m 0 c).after 16 t = (outsAt0 m c t.val t.isLt).2.2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
/-- At a point of case B output 8's current staging buffer holds what the body left at the point before: the point is
    not the first, the buffer was not written back between (`flush0_8`), the window is live and uncut (Lib/Pipeline/Frame.lean
    `Dat.before_out_kept`). -/
theorem before0_8_B (c : Dev nD) (t : Fin cfg0.N) (h0 : ¬t.val % 8 = 0) (d) :
    (dats m 0 c).before 8 t d = (outsAt0 m c (t.val - 1) (Nat.lt_of_le_of_lt (Nat.sub_le _ _) t.isLt)).1 := by
  have hN : t.val < 8 := lt_of_lt_of_eq t.isLt (show cfg0.N = 8 from N_0)
  rw [Dat.before_out_kept _ 8 rfl t (by omega) (Bool.eq_false_iff.mpr fun h => by have := (flush0_8 _).mp h; dsimp only at this; omega)
    (fun _ => rfl) (fun _ _ => rfl)]
  dsimp only [dats]
/-- At a point of case B output 9's current staging buffer holds what the body left at the point before: the point is
    not the first, the buffer was not written back between (`flush0_9`), the window is live and uncut (Lib/Pipeline/Frame.lean
    `Dat.before_out_kept`). -/
theorem before0_9_B (c : Dev nD) (t : Fin cfg0.N) (h0 : ¬t.val % 8 = 0) (d) :
    (dats m 0 c).before 9 t d = (outsAt0 m c (t.val - 1) (Nat.lt_of_le_of_lt (Nat.sub_le _ _) t.isLt)).2.1 := by
  have hN : t.val < 8 := lt_of_lt_of_eq t.isLt (show cfg0.N = 8 from N_0)
  rw [Dat.before_out_kept _ 9 rfl t (by omega) (Bool.eq_false_iff.mpr fun h => by have := (flush0_9 _).mp h; dsimp only at this; omega)
    (fun _ => rfl) (fun _ _ => rfl)]
  dsimp only [dats]
/-- At a point of case B output 10's current staging buffer holds what the body left at the point before: the point is
    not the first, the buffer was not written back between (`flush0_10`), the window is live and uncut (Lib/Pipeline/Frame.lean
    `Dat.before_out_kept`). -/
theorem before0_10_B (c : Dev nD) (t : Fin cfg0.N) (h0 : ¬t.val % 8 = 0) (d) :
    (dats m 0 c).before 10 t d = (outsAt0 m c (t.val - 1) (Nat.lt_of_le_of_lt (Nat.sub_le _ _) t.isLt)).2.2.1 := by
  have hN : t.val < 8 := lt_of_lt_of_eq t.isLt (show cfg0.N = 8 from N_0)
  rw [Dat.before_out_kept _ 10 rfl t (by omega) (Bool.eq_false_iff.mpr fun h => by have := (flush0_10 _).mp h; dsimp only at this; omega)
    (fun _ => rfl) (fun _ _ => rfl)]
  dsimp only [dats]
/-- At a point of case B output 11's current staging buffer holds what the body left at the point before: the point is
    not the first, the buffer was not written back between (`flush0_11`), the window is live and uncut (Lib/Pipeline/Frame.lean
    `Dat.before_out_kept`). -/
theorem before0_11_B (c : Dev nD) (t : Fin cfg0.N) (h0 : ¬t.val % 8 = 0) (d) :
    (dats m 0 c).before 11 t d = (outsAt0 m c (t.val - 1) (Nat.lt_of_le_of_lt (Nat.sub_le _ _) t.isLt)).2.2.2.1 := by
  have hN : t.val < 8 := lt_of_lt_of_eq t.isLt (show cfg0.N = 8 from N_0)
  rw [Dat.before_out_kept _ 11 rfl t (by omega) (Bool.eq_false_iff.mpr fun h => by have := (flush0_11 _).mp h; dsimp only at this; omega)
    (fun _ => rfl) (fun _ _ => rfl)]
  dsimp only [dats]

/-! ## The body obligation, at a generic point -/

/-- What the dense scale window holds after point `n`: in the rows of the points up to `n`, column 0 of what each of them leaves in
    the scale columns' window. -/
def scaleRows (c : Dev nD) (n : ℕ) (hn : n < cfg0.N) (X : Vec F S16x128 .f32) : Prop :=
  ∀ (r : Fin 16) (l : Fin 128) (h : r.val / 2 ≤ n),
    X (ix2 r l) = (outsAt0 m c (r.val / 2) (Nat.lt_of_le_of_lt h hn)).2.2.2.2.2.2.1 (ix2 (rowTok r.val l) 0)

/-- What is known of the windows that are held to a relation. -/
def Rl0 (c : Dev nD) : (w : Fin cfg0.W) → Fin cfg0.N → ((cfg0.win w).block.Idx → Elt F (cfg0.win w).elt) → Prop := fun w t X =>
  match w, X with
  | ⟨14, _⟩, X => scaleRows m c t.val t.isLt X
  | _, _ => True

/-- The point of a grid position. -/
theorem coord0 (t : Fin cfg0.N) : (grid0.coords t 0).val = t.val := by
  have hN : t.val < 8 := lt_of_lt_of_eq t.isLt (show cfg0.N = 8 from N_0)
  have e0 : (grid0.coords t 0).val = t.val / 1 % 8 := Pipeline.Grid.coords_val t 0 (by decide) rfl
  omega

/-- Storing a point's two rows takes the relation from the point before to the point. -/
theorem scaleRows_step (c : Dev nD) (t : Fin cfg0.N) (f) (v : FVec F S256x128 .f32) (hv : v = (outsAt0 m c t.val t.isLt).2.2.2.2.2.2.1)
    (hp : t.val ≠ 0 → scaleRows m c (t.val - 1) (Nat.lt_of_le_of_lt (Nat.sub_le _ _) t.isLt) ((ms0_14 t).view.read (Elt F) f)) :
    scaleRows m c t.val t.isLt ((ms0_14 t).view.read (Elt F) ((ms0_14 t).view.writes (Elt F) f (rows (grid0.coords t) v))) := by
  intro r l h
  have ec := coord0 t
  rcases Nat.lt_or_eq_of_le h with hl | he
  · exact (rows_miss (ms0_14 t) f (grid0.coords t) v r l (by omega)).trans (hp (by omega) r l (by omega))
  · refine (rows_hit (ms0_14 t) f (grid0.coords t) v r l (by omega)).trans ?_
    have e : ∀ n (hn : n < cfg0.N), n = t.val → v = (outsAt0 m c n hn).2.2.2.2.2.2.1 := by rintro _ _ rfl; exact hv
    exact congrFun (e _ _ he) _

/-- After the first point, the body finds the dense scale window as the relation at the point before says. -/
theorem finds14 (c : Dev nD) (t : Fin cfg0.N) (X : Vec F S16x128 .f32) (h : ((dats m 0 c).toRRel forgets0 (Rl0 m c)).Finds 14 t X) (ht : t.val ≠ 0) :
    scaleRows m c (t.val - 1) (Nat.lt_of_le_of_lt (Nat.sub_le _ _) t.isLt) X := by
  have hN : t.val < 8 := lt_of_lt_of_eq t.isLt (show cfg0.N = 8 from N_0)
  rcases (Pipeline.RDat.finds_of_pos _ ((cfg0.win 14).fetch_out rfl t) ht X).mp h with hf | hl
  · have := (flush0_14 _).mp hf
    dsimp only at this
    omega
  · exact (dats m 0 c).toRRel_leaves (w := (14 : Fin 17)) (by decide) hl

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ Y, ⌜((dats m 0 c).toRRel forgets0 (Rl0 m c)).Finds 14 t Y⌝ ∗ owns (c : Thread nD τ) (ms0_14 t) fullShare Y)
    ∗ (∃ d, owns (c : Thread nD τ) (ms0_15 t) fullShare ((dats m 0 c).before 15 t d))
    ∗ (∃ d, owns (c : Thread nD τ) (ms0_16 t) fullShare ((dats m 0 c).before 16 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ (∃ X, ⌜Rl0 m c 14 t X⌝ ∗ owns (c : Thread nD τ) (ms0_14 t) fullShare X)
    ∗ owns (c : Thread nD τ) (ms0_15 t) fullShare ((dats m 0 c).after 15 t)
    ∗ owns (c : Thread nD τ) (ms0_16 t) fullShare ((dats m 0 c).after 16 t))

set_option maxHeartbeats 4000000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_15, after0_16]
  rw [show (dats m 0 c).Φ t.castSucc = Pipeline.ΦA spec0 c from rfl, PhiA0_eq]
  have hN : t.val < 8 := lt_of_lt_of_eq t.isLt (show cfg0.N = 8 from N_0)
  by_cases h0 : t.val % 8 = 0
  · rw [outsAt0_A m c t h0]
    unfold out0_A_8 out0_A_9 out0_A_10 out0_A_11 out0_A_12 out0_A_13 out0_A_15 out0_A_16; (try dsimp only)
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, %hF, H14⟩, ⟨%d15, H15⟩, ⟨%d16, H16⟩⟩
    iapply ((kernelRun0_A c (grid0.coords t) _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2.2.2.2.2.2.2 d14 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexact H14
    isplitl [H15]; · iexists _; iexact H15
    isplitl [H16]; · iexists _; iexact H16
    isplitl [HS0]; · iexact HS0
    isplitl [HS1]; · iexact HS1
    isplitl [HS2]; · iexact HS2
    isplitl [HS3]; · iexact HS3
    iintro ⟨H0, H1, H2, H3, H4, H5, H6, H7, ⟨%e8, H8⟩, ⟨%e9, H9⟩, ⟨%e10, H10⟩, ⟨%e11, H11⟩, ⟨%e12, H12⟩, ⟨%e13, H13⟩, ⟨%f14, %hf14, H14⟩, ⟨%e15, H15⟩, ⟨%e16, H16⟩, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _)
    isplitl [H14]
    · iexists _
      isplitr
      swap
      · unfold owns
        iexists _; isplitr
        swap; · iexact H14
        ipureintro; rfl
      · ipureintro
        rw [pieces_A]
        exact scaleRows_step m c t f14 _ (congrArg (fun p => p.2.2.2.2.2.2.1) (outsAt0_A m c t h0)).symm (fun ht => hf14.symm ▸ finds14 m c t d14 hF ht)
    isplitl [H15]
    · unfold owns; iexists _; isplitr
      swap; · iexact H15
      ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _)
  · rw [outsAt0_B m c t h0]
    simp only [before0_8_B m c t h0, before0_9_B m c t h0, before0_10_B m c t h0, before0_11_B m c t h0]
    unfold out0_B_8 out0_B_9 out0_B_10 out0_B_11 out0_B_12 out0_B_13 out0_B_15 out0_B_16; (try dsimp only)
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, %hF, H14⟩, ⟨%d15, H15⟩, ⟨%d16, H16⟩⟩
    iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _ _ _ _).2.2.2.2.2.2.2.2.2 d14 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexact H14
    isplitl [H15]; · iexists _; iexact H15
    isplitl [H16]; · iexists _; iexact H16
    isplitl [HS0]; · iexact HS0
    isplitl [HS1]; · iexact HS1
    isplitl [HS2]; · iexact HS2
    isplitl [HS3]; · iexact HS3
    iintro ⟨H0, H1, H2, H3, H4, H5, H6, H7, ⟨%e8, H8⟩, ⟨%e9, H9⟩, ⟨%e10, H10⟩, ⟨%e11, H11⟩, ⟨%e12, H12⟩, ⟨%e13, H13⟩, ⟨%f14, %hf14, H14⟩, ⟨%e15, H15⟩, ⟨%e16, H16⟩, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _)
    isplitl [H14]
    · iexists _
      isplitr
      swap
      · unfold owns
        iexists _; isplitr
        swap; · iexact H14
        ipureintro; rfl
      · ipureintro
        rw [pieces_B]
        exact scaleRows_step m c t f14 _ (congrArg (fun p => p.2.2.2.2.2.2.1) (outsAt0_B m c t h0)).symm (fun ht => hf14.symm ▸ finds14 m c t d14 hF ht)
    isplitl [H15]
    · unfold owns; iexists _; isplitr
      swap; · iexact H15
      ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H16
    ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligationRel (dats (F := F) m 0 c) (defs₀ (F := F)) Variants.none () Set.univ forgets0 (Rl0 m c) := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRRel forgets0 (Rl0 m c)) (V m)) r ∧ r.2.sem = fun _ => 0) :=
  Pipeline.RDat.θ_run_frame (Q' := _) cfgs (0 : Fin 1) launch0 defs₀ Variants.none (fun c => (dats m 0 c).toRRel forgets0 (Rl0 m c)) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, window 14 held to its relation
    (Lib/Pipeline/Frame.lean `RDat.FramePost` over the proof data of DatRel.lean `Dat.toRRel`), and every other unscoped buffer at its region-entry contents. -/
theorem run_main : θ_run defs (onTc (τ := τ) (main (F := F))) (s₀ m ρ) (Pipeline.RDat.FramePost (cfgs 0) (fun c => (dats m 0 c).toRRel forgets0 (Rl0 m c)) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRRel forgets0 (Rl0 m c)) (A_eq m) (run_main m ρ)

/-- THE FRAME: `Cert.quiescent_AdaptersCmpIdeal`'s statement (Defs.lean) at any `F` — Proof.lean cites it at `Bits`:
    `theorem Cert.Proof.claim : Cert.Claim := ⟨Cert.AdaptersCmpIdeal.Gen.facts, fun m ρ _ => Cert.AdaptersCmpIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.AdaptersCmpIdeal.Gen

end
-- ==== Proof.CmpIdeal.Value.lean ====
/-
  The arrays the adapters call leaves, window by window, as folds over the grid points.
-/
module

public import proofs.«01_k».proof.Proof.CmpIdeal.Frame
public import Idealize.ShloMosaic.Lib.Pipeline.Value
public import Idealize.ShloMosaic.Lib.Pipeline.ArrRel

@[expose] public section

noncomputable section

namespace Cert.AdaptersCmpIdeal.Value

open Cert.AdaptersCmpIdeal Cert.AdaptersCmpIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 8's array: the run's contents for that window after the body (`Gen.outsAt0`: its component 0), read through the window's block. -/
theorem flushed8 (c : Dev nD) (t : Fin cfg0.N) :
    (dats m 0 c).flushed 8 t = (cfg0.win 8).cut (grid0.coords t) ((outsAt0 m c t.val t.isLt).1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 8 = 0) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  simp only [flushed8, outsAt0_A m c t h0]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 8 = 0) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1) := by
  simp only [flushed8, outsAt0_B m c t h0]

-- no `blocks8`: window 8's index map revisits a block index, or its points could not be enumerated here;
-- the final array is still the frame's `arrAt`, to read with Lib/Pipeline/Value.lean's lemmas by hand

/-- An index that no flushing point's block covers keeps output window 8's array contents at region entry. -/
theorem entry8 (c : Dev nD) (i : S144x1536.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body (`Gen.outsAt0`: its component 1), read through the window's block. -/
theorem flushed9 (c : Dev nD) (t : Fin cfg0.N) :
    (dats m 0 c).flushed 9 t = (cfg0.win 9).cut (grid0.coords t) ((outsAt0 m c t.val t.isLt).2.1) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — by the frame's rewriting lemma for the case. -/
theorem flushed9_A (c : Dev nD) (t : Fin cfg0.N) (h0 : t.val % 8 = 0) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  simp only [flushed9, outsAt0_A m c t h0]

/-- … so at a point where case B runs, what its write-back would write is that case's NAMED TERM for the window (`Gen.out0_B_9`: the pieces
    its run found, read back) at the point's memrefs and input blocks, and for an output the case reads back what the point before left (`Gen.outsAt0` at `t - 1`) — by the frame's rewriting lemma for the case. -/
theorem flushed9_B (c : Dev nD) (t : Fin cfg0.N) (h0 : ¬t.val % 8 = 0) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1) := by
  simp only [flushed9, outsAt0_B m c t h0]

-- no `blocks9`: window 9's index map revisits a block index, or its points could not be enumerated here;
-- the final array is still the frame's `arrAt`, to read with Lib/Pipeline/Value.lean's lemmas by hand

/-- An index that no flushing point's block covers keeps output window 9's array contents at region entry. -/
theorem entry9 (c : Dev nD) (i : S16x1536.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the run's contents for that window after the body (`Gen.outsAt0`: its component 2), read through the window's block. -/
theorem flushed10 (c : Dev nD) (t : Fin cfg0.N) :
    (dats m 0 c).flushed 10 t = (cfg0.win 10).cut (grid0.coords t) ((outsAt0 m c t.val t.isLt).2.2.1) := by
  show (cfg0.win 10).cut (grid0.coords t) ((dats m 0 c).after 10 t) = _
  rw [after0_10]

/-- … so at a point where case A runs, what its write-back would write is that case's NAMED TERM for the window (`Gen.out0_A_10`: the pieces
    its run found, read back) at the point's memrefs and input blocks, and for an output the case reads back what the point before left (`Gen.outsAt0` at `t - 1`) — by the frame's rewriting lemma for the case. -/
theorem flushed10_A (c : Dev nD) (t : Fin cfg0.N) (h0 : t.val % 8 = 0) :
    (dats m 0 c).flushed 10 t = (cfg0.win 10).cut (grid0.coords t) (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  simp only [flushed10, outsAt0_A m c t h0]

/-- … so at a point where case B runs, what its write-back would write is that case's NAMED TERM for the window (`Gen.out0_B_10`: the pieces
    its run found, read back) at the point's memrefs and input blocks, and for an output the case reads back what the point before left (`Gen.outsAt0` at `t - 1`) — by the frame's rewriting lemma for the case. -/
theorem flushed10_B (c : Dev nD) (t : Fin cfg0.N) (h0 : ¬t.val % 8 = 0) :
    (dats m 0 c).flushed 10 t = (cfg0.win 10).cut (grid0.coords t) (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1) := by
  simp only [flushed10, outsAt0_B m c t h0]

-- no `blocks10`: window 10's index map revisits a block index, or its points could not be enumerated here;
-- the final array is still the frame's `arrAt`, to read with Lib/Pipeline/Value.lean's lemmas by hand

/-- An index that no flushing point's block covers keeps output window 10's array contents at region entry. -/
theorem entry10 (c : Dev nD) (i : S144x8960.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- WHAT POINT `t` WRITES BACK to output window 11's array: the run's contents for that window after the body (`Gen.outsAt0`: its component 3), read through the window's block. -/
theorem flushed11 (c : Dev nD) (t : Fin cfg0.N) :
    (dats m 0 c).flushed 11 t = (cfg0.win 11).cut (grid0.coords t) ((outsAt0 m c t.val t.isLt).2.2.2.1) := by
  show (cfg0.win 11).cut (grid0.coords t) ((dats m 0 c).after 11 t) = _
  rw [after0_11]

/-- … so at a point where case A runs, what its write-back would write is that case's NAMED TERM for the window (`Gen.out0_A_11`: the pieces
    its run found, read back) at the point's memrefs and input blocks, and for an output the case reads back what the point before left (`Gen.outsAt0` at `t - 1`) — by the frame's rewriting lemma for the case. -/
theorem flushed11_A (c : Dev nD) (t : Fin cfg0.N) (h0 : t.val % 8 = 0) :
    (dats m 0 c).flushed 11 t = (cfg0.win 11).cut (grid0.coords t) (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  simp only [flushed11, outsAt0_A m c t h0]

/-- … so at a point where case B runs, what its write-back would write is that case's NAMED TERM for the window (`Gen.out0_B_11`: the pieces
    its run found, read back) at the point's memrefs and input blocks, and for an output the case reads back what the point before left (`Gen.outsAt0` at `t - 1`) — by the frame's rewriting lemma for the case. -/
theorem flushed11_B (c : Dev nD) (t : Fin cfg0.N) (h0 : ¬t.val % 8 = 0) :
    (dats m 0 c).flushed 11 t = (cfg0.win 11).cut (grid0.coords t) (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1) := by
  simp only [flushed11, outsAt0_B m c t h0]

-- no `blocks11`: window 11's index map revisits a block index, or its points could not be enumerated here;
-- the final array is still the frame's `arrAt`, to read with Lib/Pipeline/Value.lean's lemmas by hand

/-- An index that no flushing point's block covers keeps output window 11's array contents at region entry. -/
theorem entry11 (c : Dev nD) (i : S16x8960.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- WHAT POINT `t` WRITES BACK to output window 12's array: the run's contents for that window after the body (`Gen.outsAt0`: its component 4), read through the window's block. -/
theorem flushed12 (c : Dev nD) (t : Fin cfg0.N) :
    (dats m 0 c).flushed 12 t = (cfg0.win 12).cut (grid0.coords t) ((outsAt0 m c t.val t.isLt).2.2.2.2.1) := by
  show (cfg0.win 12).cut (grid0.coords t) ((dats m 0 c).after 12 t) = _
  rw [after0_12]

/-- … so at a point where case A runs, what its write-back would write is that case's NAMED TERM for the window (`Gen.out0_A_12`: the pieces
    its run found, read back) at the point's memrefs and input blocks, and for an output the case reads back what the point before left (`Gen.outsAt0` at `t - 1`) — by the frame's rewriting lemma for the case. -/
theorem flushed12_A (c : Dev nD) (t : Fin cfg0.N) (h0 : t.val % 8 = 0) :
    (dats m 0 c).flushed 12 t = (cfg0.win 12).cut (grid0.coords t) (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  simp only [flushed12, outsAt0_A m c t h0]

/-- … so at a point where case B runs, what its write-back would write is that case's NAMED TERM for the window (`Gen.out0_B_12`: the pieces
    its run found, read back) at the point's memrefs and input blocks, and for an output the case reads back what the point before left (`Gen.outsAt0` at `t - 1`) — by the frame's rewriting lemma for the case. -/
theorem flushed12_B (c : Dev nD) (t : Fin cfg0.N) (h0 : ¬t.val % 8 = 0) :
    (dats m 0 c).flushed 12 t = (cfg0.win 12).cut (grid0.coords t) (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1) := by
  simp only [flushed12, outsAt0_B m c t h0]

/-- The index map sends distinct grid points to distinct block indices (decided over the 8 points). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- BLOCK `t` OF THE FINAL ARRAY, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- An index that no flushing point's block covers keeps output window 12's array contents at region entry. -/
theorem entry12 (c : Dev nD) (i : S2x2048.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- WHAT POINT `t` WRITES BACK to output window 13's array: the run's contents for that window after the body (`Gen.outsAt0`: its component 5), read through the window's block. -/
theorem flushed13 (c : Dev nD) (t : Fin cfg0.N) :
    (dats m 0 c).flushed 13 t = (cfg0.win 13).cut (grid0.coords t) ((outsAt0 m c t.val t.isLt).2.2.2.2.2.1) := by
  show (cfg0.win 13).cut (grid0.coords t) ((dats m 0 c).after 13 t) = _
  rw [after0_13]

/-- … so at a point where case A runs, what its write-back would write is that case's NAMED TERM for the window (`Gen.out0_A_13`: the pieces
    its run found, read back) at the point's memrefs and input blocks, and for an output the case reads back what the point before left (`Gen.outsAt0` at `t - 1`) — by the frame's rewriting lemma for the case. -/
theorem flushed13_A (c : Dev nD) (t : Fin cfg0.N) (h0 : t.val % 8 = 0) :
    (dats m 0 c).flushed 13 t = (cfg0.win 13).cut (grid0.coords t) (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  simp only [flushed13, outsAt0_A m c t h0]

/-- … so at a point where case B runs, what its write-back would write is that case's NAMED TERM for the window (`Gen.out0_B_13`: the pieces
    its run found, read back) at the point's memrefs and input blocks, and for an output the case reads back what the point before left (`Gen.outsAt0` at `t - 1`) — by the frame's rewriting lemma for the case. -/
theorem flushed13_B (c : Dev nD) (t : Fin cfg0.N) (h0 : ¬t.val % 8 = 0) :
    (dats m 0 c).flushed 13 t = (cfg0.win 13).cut (grid0.coords t) (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1) := by
  simp only [flushed13, outsAt0_B m c t h0]

/-- The index map sends distinct grid points to distinct block indices (decided over the 8 points). -/
theorem idx_inj13 : ∀ t t' : Fin cfg0.N, win0_13.index t = win0_13.index t' → t = t' :=
  (by decide +kernel : ∀ t t' : Fin grid0.N, win0_13.index t = win0_13.index t' → t = t')

/-- So two flushing points' blocks share no array index (Lib/Pipeline/Cells.lean `Window.disjoint_blk`). -/
theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

/-- BLOCK `t` OF THE FINAL ARRAY, read back through the window, is what point `t` wrote back (`flushed13`), for every
    point that writes back: no other point's block meets it. -/
theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

/-- An index that no flushing point's block covers keeps output window 13's array contents at region entry. -/
theorem entry13 (c : Dev nD) (i : S2048x8960.Idx) (h : ∀ t : Fin cfg0.N, (cfg0.win 13).flush t = true → i ∉ ((cfg0.win 13).blk t).view.set) :
    (dats m 0 c).arrAt 13 cfg0.N i = V m c (Pipeline.arrRef spec0 13) i := by
  rw [(dats m 0 c).arrAt_apply_of_forall_not_mem 13 cfg0.N i (fun t _ hf => h t hf), A_eq]

/-- WHAT POINT `t` WRITES BACK to output window 15's array: the run's contents for that window after the body (`Gen.outsAt0`: its component 6), read through the window's block. -/
theorem flushed15 (c : Dev nD) (t : Fin cfg0.N) :
    (dats m 0 c).flushed 15 t = (cfg0.win 15).cut (grid0.coords t) ((outsAt0 m c t.val t.isLt).2.2.2.2.2.2.1) := by
  show (cfg0.win 15).cut (grid0.coords t) ((dats m 0 c).after 15 t) = _
  rw [after0_15]

/-- … so at a point where case A runs, what its write-back would write is that case's NAMED TERM for the window (`Gen.out0_A_15`: the pieces
    its run found, read back) at the point's memrefs and input blocks, and for an output the case reads back what the point before left (`Gen.outsAt0` at `t - 1`) — by the frame's rewriting lemma for the case. -/
theorem flushed15_A (c : Dev nD) (t : Fin cfg0.N) (h0 : t.val % 8 = 0) :
    (dats m 0 c).flushed 15 t = (cfg0.win 15).cut (grid0.coords t) (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  simp only [flushed15, outsAt0_A m c t h0]

/-- … so at a point where case B runs, what its write-back would write is that case's NAMED TERM for the window (`Gen.out0_B_15`: the pieces
    its run found, read back) at the point's memrefs and input blocks, and for an output the case reads back what the point before left (`Gen.outsAt0` at `t - 1`) — by the frame's rewriting lemma for the case. -/
theorem flushed15_B (c : Dev nD) (t : Fin cfg0.N) (h0 : ¬t.val % 8 = 0) :
    (dats m 0 c).flushed 15 t = (cfg0.win 15).cut (grid0.coords t) (out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1) := by
  simp only [flushed15, outsAt0_B m c t h0]

/-- The index map sends distinct grid points to distinct block indices (decided over the 8 points). -/
theorem idx_inj15 : ∀ t t' : Fin cfg0.N, win0_15.index t = win0_15.index t' → t = t' :=
  (by decide +kernel : ∀ t t' : Fin grid0.N, win0_15.index t = win0_15.index t' → t = t')

/-- So two flushing points' blocks share no array index (Lib/Pipeline/Cells.lean `Window.disjoint_blk`). -/
theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

/-- BLOCK `t` OF THE FINAL ARRAY, read back through the window, is what point `t` wrote back (`flushed15`), for every
    point that writes back: no other point's block meets it. -/
theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

/-- An index that no flushing point's block covers keeps output window 15's array contents at region entry. -/
theorem entry15 (c : Dev nD) (i : S2048x128.Idx) (h : ∀ t : Fin cfg0.N, (cfg0.win 15).flush t = true → i ∉ ((cfg0.win 15).blk t).view.set) :
    (dats m 0 c).arrAt 15 cfg0.N i = V m c (Pipeline.arrRef spec0 15) i := by
  rw [(dats m 0 c).arrAt_apply_of_forall_not_mem 15 cfg0.N i (fun t _ hf => h t hf), A_eq]

/-- WHAT POINT `t` WRITES BACK to output window 16's array: the run's contents for that window after the body (`Gen.outsAt0`: its component 7), read through the window's block. -/
theorem flushed16 (c : Dev nD) (t : Fin cfg0.N) :
    (dats m 0 c).flushed 16 t = (cfg0.win 16).cut (grid0.coords t) ((outsAt0 m c t.val t.isLt).2.2.2.2.2.2.2) := by
  show (cfg0.win 16).cut (grid0.coords t) ((dats m 0 c).after 16 t) = _
  rw [after0_16]

/-- … so at a point where case A runs, what its write-back would write is that case's NAMED TERM for the window (`Gen.out0_A_16`: the pieces
    its run found, read back) at the point's memrefs and input blocks, and for an output the case reads back what the point before left (`Gen.outsAt0` at `t - 1`) — by the frame's rewriting lemma for the case. -/
theorem flushed16_A (c : Dev nD) (t : Fin cfg0.N) (h0 : t.val % 8 = 0) :
    (dats m 0 c).flushed 16 t = (cfg0.win 16).cut (grid0.coords t) (out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  simp only [flushed16, outsAt0_A m c t h0]

/-- … so at a point where case B runs, what its write-back would write is that case's NAMED TERM for the window (`Gen.out0_B_16`: the pieces
    its run found, read back) at the point's memrefs and input blocks, and for an output the case reads back what the point before left (`Gen.outsAt0` at `t - 1`) — by the frame's rewriting lemma for the case. -/
theorem flushed16_B (c : Dev nD) (t : Fin cfg0.N) (h0 : ¬t.val % 8 = 0) :
    (dats m 0 c).flushed 16 t = (cfg0.win 16).cut (grid0.coords t) (out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1) := by
  simp only [flushed16, outsAt0_B m c t h0]

/-- The index map sends distinct grid points to distinct block indices (decided over the 8 points). -/
theorem idx_inj16 : ∀ t t' : Fin cfg0.N, win0_16.index t = win0_16.index t' → t = t' :=
  (by decide +kernel : ∀ t t' : Fin grid0.N, win0_16.index t = win0_16.index t' → t = t')

/-- So two flushing points' blocks share no array index (Lib/Pipeline/Cells.lean `Window.disjoint_blk`). -/
theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

/-- BLOCK `t` OF THE FINAL ARRAY, read back through the window, is what point `t` wrote back (`flushed16`), for every
    point that writes back: no other point's block meets it. -/
theorem blocks16 (c : Dev nD) (t : Fin cfg0.N) (hf : (cfg0.win 16).flush t = true) :
    ((cfg0.win 16).blk t).view.read (Elt F) ((dats m 0 c).arrAt 16 cfg0.N) = (dats m 0 c).flushed 16 t :=
  (dats m 0 c).read_blk_arrAt_eq_flushed 16 disjoint16 cfg0.N t t.isLt hf

/-- An index that no flushing point's block covers keeps output window 16's array contents at region entry. -/
theorem entry16 (c : Dev nD) (i : S160x2048.Idx) (h : ∀ t : Fin cfg0.N, (cfg0.win 16).flush t = true → i ∉ ((cfg0.win 16).blk t).view.set) :
    (dats m 0 c).arrAt 16 cfg0.N i = V m c (Pipeline.arrRef spec0 16) i := by
  rw [(dats m 0 c).arrAt_apply_of_forall_not_mem 16 cfg0.N i (fun t _ hf => h t hf), A_eq]

/-- A NAMED output window's array after the frame run: `(dats m 0 c).arrAt w N`, read off the run's relational post (`h`:
    the proof data with the window of `Gen.forgets0` held to a relation) at any other window `w` (`hw`). -/
theorem finalR_out0 (r : PUnit × MemSt nD τ sig (Elt F)) (h : Pipeline.RDat.FramePost (cfgs 0) (fun c => (dats m 0 c).toRRel forgets0 (Rl0 m c)) (V m) r) (c : Dev nD) (w : Fin 17) (hw : forgets0 w = false) :
    r.2.mem ((cfg0.spec w).arr.view.loc (c : Thread nD τ)) = (dats m 0 c).arrAt w cfg0.N :=
  (((dats m 0 c).toR.override_arrAt (by simp only [hw]) _ _).trans ((dats m 0 c).toR_arrAt_iff w _ _)).mp ((h c).1 w)

/-- After the frame run, output window 8's array is `(dats m 0 c).arrAt 8 N`. -/
theorem post8 (r : PUnit × MemSt nD τ sig (Elt F)) (h : Pipeline.RDat.FramePost (cfgs 0) (fun c => (dats m 0 c).toRRel forgets0 (Rl0 m c)) (V m) r) (c : Dev nD) :
    r.2.mem ((c : Thread nD τ).loc main_v6_0) = (dats m 0 c).arrAt 8 cfg0.N :=
  finalR_out0 m r h c 8 forgets0_8

/-- After the frame run, output window 9's array is `(dats m 0 c).arrAt 9 N`. -/
theorem post9 (r : PUnit × MemSt nD τ sig (Elt F)) (h : Pipeline.RDat.FramePost (cfgs 0) (fun c => (dats m 0 c).toRRel forgets0 (Rl0 m c)) (V m) r) (c : Dev nD) :
    r.2.mem ((c : Thread nD τ).loc main_v6_1) = (dats m 0 c).arrAt 9 cfg0.N :=
  finalR_out0 m r h c 9 forgets0_9

/-- After the frame run, output window 10's array is `(dats m 0 c).arrAt 10 N`. -/
theorem post10 (r : PUnit × MemSt nD τ sig (Elt F)) (h : Pipeline.RDat.FramePost (cfgs 0) (fun c => (dats m 0 c).toRRel forgets0 (Rl0 m c)) (V m) r) (c : Dev nD) :
    r.2.mem ((c : Thread nD τ).loc main_v6_2) = (dats m 0 c).arrAt 10 cfg0.N :=
  finalR_out0 m r h c 10 forgets0_10

/-- After the frame run, output window 11's array is `(dats m 0 c).arrAt 11 N`. -/
theorem post11 (r : PUnit × MemSt nD τ sig (Elt F)) (h : Pipeline.RDat.FramePost (cfgs 0) (fun c => (dats m 0 c).toRRel forgets0 (Rl0 m c)) (V m) r) (c : Dev nD) :
    r.2.mem ((c : Thread nD τ).loc main_v6_3) = (dats m 0 c).arrAt 11 cfg0.N :=
  finalR_out0 m r h c 11 forgets0_11

/-- After the frame run, output window 12's array is `(dats m 0 c).arrAt 12 N`. -/
theorem post12 (r : PUnit × MemSt nD τ sig (Elt F)) (h : Pipeline.RDat.FramePost (cfgs 0) (fun c => (dats m 0 c).toRRel forgets0 (Rl0 m c)) (V m) r) (c : Dev nD) :
    r.2.mem ((c : Thread nD τ).loc main_v6_4) = (dats m 0 c).arrAt 12 cfg0.N :=
  finalR_out0 m r h c 12 forgets0_12

/-- After the frame run, output window 13's array is `(dats m 0 c).arrAt 13 N`. -/
theorem post13 (r : PUnit × MemSt nD τ sig (Elt F)) (h : Pipeline.RDat.FramePost (cfgs 0) (fun c => (dats m 0 c).toRRel forgets0 (Rl0 m c)) (V m) r) (c : Dev nD) :
    r.2.mem ((c : Thread nD τ).loc main_v6_5) = (dats m 0 c).arrAt 13 cfg0.N :=
  finalR_out0 m r h c 13 forgets0_13

/-- After the frame run, output window 15's array is `(dats m 0 c).arrAt 15 N`. -/
theorem post15 (r : PUnit × MemSt nD τ sig (Elt F)) (h : Pipeline.RDat.FramePost (cfgs 0) (fun c => (dats m 0 c).toRRel forgets0 (Rl0 m c)) (V m) r) (c : Dev nD) :
    r.2.mem ((c : Thread nD τ).loc main_v6_7) = (dats m 0 c).arrAt 15 cfg0.N :=
  finalR_out0 m r h c 15 forgets0_15

/-- After the frame run, output window 16's array is `(dats m 0 c).arrAt 16 N`. -/
theorem post16 (r : PUnit × MemSt nD τ sig (Elt F)) (h : Pipeline.RDat.FramePost (cfgs 0) (fun c => (dats m 0 c).toRRel forgets0 (Rl0 m c)) (V m) r) (c : Dev nD) :
    r.2.mem ((c : Thread nD τ).loc main_v6_8) = (dats m 0 c).arrAt 16 cfg0.N :=
  finalR_out0 m r h c 16 forgets0_16

theorem lt_seven : 7 < cfg0.N := by rw [show cfg0.N = 8 from N_0]; decide

/-- The dense scale window is written back once, whole, after the last point. -/
theorem whole14 : (cfg0.win 14).WholeAt (⟨7, lt_seven⟩ : Fin cfg0.N) := by decide +kernel

/-- After the frame run, the dense scale array holds in row `r` the scales that point `r / 2` left: it is written back once, after the
    last point, when the relation names every row. -/
theorem post14 (r : PUnit × MemSt nD τ sig (Elt F)) (h : Pipeline.RDat.FramePost (cfgs 0) (fun c => (dats m 0 c).toRRel forgets0 (Rl0 m c)) (V m) r) (c : Dev nD)
    (p : Fin 16) (l : Fin 128) (hp : p.val / 2 < cfg0.N) :
    (show Vec F S16x128 .f32 from r.2.mem ((c : Thread nD τ).loc main_v6_6)) (ix2 p l)
      = (outsAt0 m c (p.val / 2) hp).2.2.2.2.2.2.1 (ix2 (rowTok p.val l) 0) := by
  obtain ⟨X, hX, hE⟩ := Pipeline.RDat.ArrAt.emb_eq_of_wholeAt ((h c).1 14) whole14
  have hR : scaleRows m c 7 lt_seven X := (dats m 0 c).toRRel_leaves (w := (14 : Fin 17)) (by decide) hX
  exact (hE (ix2 p l)).trans (hR p l (by have := p.isLt; omega))

/-- After the frame run, argument `main_arg0` is as launched: input window 0 stages it and never writes it back. -/
theorem kept_main_arg0 (r : PUnit × MemSt nD τ sig (Elt F)) (h : Pipeline.RDat.FramePost (cfgs 0) (fun c => (dats m 0 c).toRRel forgets0 (Rl0 m c)) (V m) r) (c : Dev nD) :
    r.2.mem ((c : Thread nD τ).loc main_arg0) = m ((c : Thread nD τ).loc main_arg0) :=
  (Pipeline.RDat.FramePost.arr_in h c 0 rfl).trans ((A_eq m c 0).trans (V_main_arg0 m c))

/-- After the frame run, argument `main_arg1` is as launched: input window 1 stages it and never writes it back. -/
theorem kept_main_arg1 (r : PUnit × MemSt nD τ sig (Elt F)) (h : Pipeline.RDat.FramePost (cfgs 0) (fun c => (dats m 0 c).toRRel forgets0 (Rl0 m c)) (V m) r) (c : Dev nD) :
    r.2.mem ((c : Thread nD τ).loc main_arg1) = m ((c : Thread nD τ).loc main_arg1) :=
  (Pipeline.RDat.FramePost.arr_in h c 1 rfl).trans ((A_eq m c 1).trans (V_main_arg1 m c))

/-- After the frame run, argument `main_arg2` is as launched: no window stages it, and the run leaves the region's other buffers as they were. -/
theorem kept_main_arg2 (r : PUnit × MemSt nD τ sig (Elt F)) (h : Pipeline.RDat.FramePost (cfgs 0) (fun c => (dats m 0 c).toRRel forgets0 (Rl0 m c)) (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.RDat.FramePost (cfgs 0) (fun c => (dats m 0 c).toRRel forgets0 (Rl0 m c)) (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.RDat.FramePost (cfgs 0) (fun c => (dats m 0 c).toRRel forgets0 (Rl0 m c)) (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.RDat.FramePost (cfgs 0) (fun c => (dats m 0 c).toRRel forgets0 (Rl0 m c)) (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: input window 3 stages it and never writes it back. -/
theorem kept_main_arg6 (r : PUnit × MemSt nD τ sig (Elt F)) (h : Pipeline.RDat.FramePost (cfgs 0) (fun c => (dats m 0 c).toRRel forgets0 (Rl0 m c)) (V m) r) (c : Dev nD) :
    r.2.mem ((c : Thread nD τ).loc main_arg6) = m ((c : Thread nD τ).loc main_arg6) :=
  (Pipeline.RDat.FramePost.arr_in h c 3 rfl).trans ((A_eq m c 3).trans (V_main_arg6 m c))

/-- After the frame run, argument `main_arg7` is as launched: no window stages it, and the run leaves the region's other buffers as they were. -/
theorem kept_main_arg7 (r : PUnit × MemSt nD τ sig (Elt F)) (h : Pipeline.RDat.FramePost (cfgs 0) (fun c => (dats m 0 c).toRRel forgets0 (Rl0 m c)) (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- The frame run with each output array the frame names after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v6_0) = (dats m 0 c).arrAt 8 cfg0.N
      ∧ r.2.mem ((c : Thread nD τ).loc main_v6_1) = (dats m 0 c).arrAt 9 cfg0.N
      ∧ r.2.mem ((c : Thread nD τ).loc main_v6_2) = (dats m 0 c).arrAt 10 cfg0.N
      ∧ r.2.mem ((c : Thread nD τ).loc main_v6_3) = (dats m 0 c).arrAt 11 cfg0.N
      ∧ r.2.mem ((c : Thread nD τ).loc main_v6_4) = (dats m 0 c).arrAt 12 cfg0.N
      ∧ r.2.mem ((c : Thread nD τ).loc main_v6_5) = (dats m 0 c).arrAt 13 cfg0.N
      ∧ (∀ (p : Fin 16) (l : Fin 128) (hp : p.val / 2 < cfg0.N), (show Vec F S16x128 .f32 from r.2.mem ((c : Thread nD τ).loc main_v6_6)) (ix2 p l)
        = (outsAt0 m c (p.val / 2) hp).2.2.2.2.2.2.1 (ix2 (rowTok p.val l) 0))
      ∧ r.2.mem ((c : Thread nD τ).loc main_v6_7) = (dats m 0 c).arrAt 15 cfg0.N
      ∧ r.2.mem ((c : Thread nD τ).loc main_v6_8) = (dats m 0 c).arrAt 16 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post8 m r h c,
      post9 m r h c,
      post10 m r h c,
      post11 m r h c,
      post12 m r h c,
      post13 m r h c,
      post14 m r h c,
      post15 m r h c,
      post16 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.AdaptersCmpIdeal.Value

end
-- ==== Proof.AdScale.lean ====
/-
  The exponent of the power-of-two scale.  The kernel finds the exponent field of a number by eight comparisons with powers
  of two, from the highest bit of the field down; the reference counts the powers of two that are at most the number.
  Both are the same word.
-/
module

public import Idealize.ShloMosaic.PureOps.Ideal
public import Idealize.ShloMosaic.Lib.Pointwise
public import Idealize.ShloMosaic.Lib.Pipeline.ValueKit
public import Idealize.ShloMosaic.Lib.Pointwise
public import Idealize.ShloMosaic.Lib.WritesUnit
public import Idealize.ShloMosaic.Lib.Claim

@[expose] public section

set_option maxRecDepth 16384

noncomputable section

namespace Cert.Proof.Ad

open Idealize.ShloMosaic Idealize.ShloMosaic.TcCoe Idealize.SL.Sem

/-- The number whose f32 word has exponent field `n` and nothing else: `2 ^ (n - 127)`, at 255 infinity. -/
def pw (n : ℕ) : EReal := Ideal.ofBits .f32 (BitVec.ofNat 32 n <<< 23)

theorem pw_fields : ∀ n : Fin 256, (BitVec.ofNat 32 n.val <<< 23).extractLsb' 31 1 = 0#1
    ∧ ((BitVec.ofNat 32 n.val <<< 23).extractLsb' 23 8).toNat = n.val
    ∧ ((BitVec.ofNat 32 n.val <<< 23).extractLsb' 0 23).toNat = 0 := by decide +kernel

theorem pw_of_lt (n : ℕ) (h0 : 0 < n) (h : n < 255) : pw n = ((8388608 * (2 : ℝ) ^ ((n : ℤ) - 127 - 23) : ℝ) : EReal) := by
  have hf := pw_fields ⟨n, by omega⟩
  dsimp only at hf
  unfold pw
  show Ideal.ieee 8 23 _ = _
  unfold Ideal.ieee
  simp only [hf.1, hf.2.1, hf.2.2]
  rw [if_neg (by omega), if_neg (by omega)]
  norm_num

theorem pw_255 : pw 255 = ⊤ := by
  simp [pw, Ideal.ofBits, Ideal.ieee]

theorem pw_succ (n : ℕ) (h0 : 0 < n) (h : n < 255) : pw n ≤ pw (n + 1) := by
  by_cases h1 : n + 1 < 255
  · rw [pw_of_lt n h0 h, pw_of_lt (n + 1) (by omega) h1, EReal.coe_le_coe_iff]
    refine mul_le_mul_of_nonneg_left ?_ (by norm_num)
    refine zpow_le_zpow_right₀ (by norm_num) ?_
    push_cast
    omega
  · have : n + 1 = 255 := by omega
    rw [this, pw_255]
    exact le_top

theorem pw_mono (n : ℕ) (h0 : 0 < n) (d : ℕ) (h : n + d ≤ 255) : pw n ≤ pw (n + d) := by
  induction d with
  | zero => exact le_refl _
  | succ d ih => exact (ih (by omega)).trans (pw_succ (n + d) (by omega) (by omega))

/-- The exponent field of a number: the last power of two that is at most it. -/
def field (y : EReal) : ℕ := by
  classical exact Nat.findGreatest (fun n => pw n ≤ y) 255

theorem field_le (y : EReal) : field y ≤ 255 := by
  classical exact Nat.findGreatest_le 255

theorem le_field (y : EReal) (n : ℕ) (h0 : 0 < n) (h : n ≤ 255) : pw n ≤ y ↔ n ≤ field y := by
  classical
  constructor
  · intro hp
    unfold field
    exact Nat.le_findGreatest (P := fun n => pw n ≤ y) h hp
  · intro hn
    have hf : pw (field y) ≤ y :=
      Nat.findGreatest_of_ne_zero (P := fun n => pw n ≤ y) (n := 255) (m := field y) rfl (by omega)
    have := pw_mono n h0 (field y - n) (by have := field_le y; omega)
    rw [Nat.add_sub_cancel' hn] at this
    exact this.trans hf

/-- One comparison of the search: add `b` to the field found so far if the number is at least that power of two. -/
def step (y : EReal) (cur b : BitVec 32) : BitVec 32 :=
  if Ideal.ofBits .f32 (IntOp.shli ArithUnit.vector (IntOp.addi (IntOp.subi (IntOp.addi cur b) 127#32) 127#32) 23#32) ≤ y then
    IntOp.addi cur b else cur

theorem step_bits : ∀ (j : Fin 8) (n : Fin 256),
    (if n.val / (2 * 2 ^ j.val) * (2 * 2 ^ j.val) + 2 ^ j.val ≤ n.val then
        BitVec.ofNat 32 (n.val / (2 * 2 ^ j.val) * (2 * 2 ^ j.val)) + BitVec.ofNat 32 (2 ^ j.val)
      else BitVec.ofNat 32 (n.val / (2 * 2 ^ j.val) * (2 * 2 ^ j.val)))
      = BitVec.ofNat 32 (n.val / 2 ^ j.val * 2 ^ j.val)
    ∧ n.val / (2 * 2 ^ j.val) * (2 * 2 ^ j.val) + 2 ^ j.val ≤ 255 := by decide +kernel

/-- After the comparison at bit `j` the word holds the field's bits from `j` on. -/
theorem step_eq (y : EReal) (j : Fin 8) :
    step y (BitVec.ofNat 32 (field y / (2 * 2 ^ j.val) * (2 * 2 ^ j.val))) (BitVec.ofNat 32 (2 ^ j.val))
      = BitVec.ofNat 32 (field y / 2 ^ j.val * 2 ^ j.val) := by
  have hb := step_bits j ⟨field y, by have := field_le y; omega⟩
  dsimp only at hb
  rw [← hb.1]
  unfold step
  have hw : IntOp.shli ArithUnit.vector (IntOp.addi (IntOp.subi (IntOp.addi
        (BitVec.ofNat 32 (field y / (2 * 2 ^ j.val) * (2 * 2 ^ j.val))) (BitVec.ofNat 32 (2 ^ j.val))) 127#32) 127#32) 23#32
      = BitVec.ofNat 32 (field y / (2 * 2 ^ j.val) * (2 * 2 ^ j.val) + 2 ^ j.val) <<< 23 := by
    show (if (23#32).toNat < 32 then _ else _) = _
    rw [if_pos (by decide)]
    show (BitVec.ofNat 32 (field y / (2 * 2 ^ j.val) * (2 * 2 ^ j.val)) + BitVec.ofNat 32 (2 ^ j.val) - 127#32 + 127#32) <<< 23#32 = _
    rw [BitVec.sub_add_cancel, BitVec.ofNat_add]
    rfl
  rw [hw]
  refine if_congr (le_field y _ ?_ hb.2) rfl rfl
  have : 0 < 2 ^ j.val := Nat.two_pow_pos _
  omega

/-- The whole search. -/
def search (y : EReal) : BitVec 32 :=
  step y (step y (step y (step y (step y (step y (step y (step y 0#32 128#32) 64#32) 32#32) 16#32) 8#32) 4#32) 2#32) 1#32

theorem search_eq (y : EReal) : search y = BitVec.ofNat 32 (field y) := by
  unfold search
  have h0 : (0#32) = BitVec.ofNat 32 (field y / (2 * 2 ^ 7) * (2 * 2 ^ 7)) := by
    rw [Nat.div_eq_of_lt (by have := field_le y; omega), Nat.zero_mul]
  rw [h0]
  rw [show step y (BitVec.ofNat 32 (field y / (2 * 2 ^ 7) * (2 * 2 ^ 7))) 128#32 = BitVec.ofNat 32 (field y / 2 ^ 7 * 2 ^ 7) from step_eq y 7]
  rw [show step y (BitVec.ofNat 32 (field y / 2 ^ 7 * 2 ^ 7)) 64#32 = BitVec.ofNat 32 (field y / 2 ^ 6 * 2 ^ 6) from step_eq y 6]
  rw [show step y (BitVec.ofNat 32 (field y / 2 ^ 6 * 2 ^ 6)) 32#32 = BitVec.ofNat 32 (field y / 2 ^ 5 * 2 ^ 5) from step_eq y 5]
  rw [show step y (BitVec.ofNat 32 (field y / 2 ^ 5 * 2 ^ 5)) 16#32 = BitVec.ofNat 32 (field y / 2 ^ 4 * 2 ^ 4) from step_eq y 4]
  rw [show step y (BitVec.ofNat 32 (field y / 2 ^ 4 * 2 ^ 4)) 8#32 = BitVec.ofNat 32 (field y / 2 ^ 3 * 2 ^ 3) from step_eq y 3]
  rw [show step y (BitVec.ofNat 32 (field y / 2 ^ 3 * 2 ^ 3)) 4#32 = BitVec.ofNat 32 (field y / 2 ^ 2 * 2 ^ 2) from step_eq y 2]
  rw [show step y (BitVec.ofNat 32 (field y / 2 ^ 2 * 2 ^ 2)) 2#32 = BitVec.ofNat 32 (field y / 2 ^ 1 * 2 ^ 1) from step_eq y 1]
  rw [show step y (BitVec.ofNat 32 (field y / 2 ^ 1 * 2 ^ 1)) 1#32 = BitVec.ofNat 32 (field y / 2 ^ 0 * 2 ^ 0) from step_eq y 0]
  congr 1
  show field y / 2 ^ 0 * 2 ^ 0 = _
  rw [Nat.pow_zero, Nat.div_one, Nat.mul_one]

/-- The word the reference compares with at place `k`, and what it adds to the count. -/
def vote (y : EReal) (k : Fin 255) : BitVec 32 :=
  BitVec.setWidth 32 (BitVec.ofBool (decide (Ideal.ofBits FTy.f32
    (IntOp.shli ArithUnit.vector (IntOp.addi (IntOp.subi (BitVec.ofNat 32 k.val) 126#32) 127#32) 23#32) ≤ y)))

theorem power_word : ∀ k : Fin 255,
    IntOp.shli ArithUnit.vector (IntOp.addi (IntOp.subi (BitVec.ofNat 32 k.val) 126#32) 127#32) 23#32
      = BitVec.ofNat 32 (k.val + 1) <<< 23 := by decide +kernel

theorem votes : ∀ f : Fin 256, Finset.fold IntOp.addi 0#32 (fun k : Fin 255 => BitVec.setWidth 32 (BitVec.ofBool (decide (k.val < f.val))))
    Finset.univ = BitVec.ofNat 32 f.val := by decide +kernel

/-- Counting the powers of two that are at most the number finds the same word. -/
theorem count_eq (y : EReal) : Finset.fold IntOp.addi 0#32 (vote y) Finset.univ = BitVec.ofNat 32 (field y) := by
  rw [← votes ⟨field y, by have := field_le y; omega⟩]
  congr 1
  funext k
  unfold vote
  rw [power_word]
  refine congrArg (fun b => BitVec.setWidth 32 (BitVec.ofBool b)) (decide_eq_decide.2 ?_)
  exact (le_field y (k.val + 1) (by omega) (by omega)).trans Nat.succ_le_iff

/-- The factor of the scale's ratio: one over the largest value of the format, as the program writes it. -/
def inv : EReal := Ideal.ofBits .f32 0x37924925#32

theorem inv_ne_zero : inv ≠ 0 := by
  simp [inv, Ideal.ofBits, Ideal.ieee, -EReal.coe_mul]

/-- The exponent of a row's scale, from the row's largest absolute value. -/
def expo (a : EReal) : BitVec 32 :=
  if a = 0 then 0#32 else IntOp.subi (BitVec.ofNat 32 (field (a * inv))) 126#32

/-- A power of two from its exponent. -/
def two (e : BitVec 32) : EReal := Ideal.ofBits .f32 (IntOp.shli ArithUnit.vector (IntOp.addi e 127#32) 23#32)

/-- An element of the row in the row's codes, before the conversion to 8 bits. -/
def code (a d : EReal) : EReal :=
  min (Ideal.ofBits .f32 0x47600000#32) (max (Ideal.ofBits .f32 0xC7600000#32) (d * two (IntOp.subi 0#32 (expo a))))
end Cert.Proof.Ad

end
-- ==== Proof.AdPay.lean ====
/-
  The values the adapters body computes from what it has read, at an index.
-/
module

public import proofs.«01_k».proof.Proof.AdScale
public import proofs.«01_k».proof.Proof.Gen.AdaptersCmpIdeal.Skeleton
public import Idealize.ShloMosaic.Lib.Pipeline.ValueKit
public import Idealize.ShloMosaic.Lib.Pointwise
public import Idealize.ShloMosaic.Lib.WritesUnit
public import Idealize.ShloMosaic.Lib.Claim

@[expose] public section

set_option maxRecDepth 16384

noncomputable section

namespace Cert.Proof.Ad

open Cert.AdaptersCmpIdeal Cert.AdaptersCmpIdeal.Gen Idealize.ShloMosaic Idealize.ShloMosaic.TcCoe Idealize.SL.Sem

/-- The number the program writes for the scale of the low-rank products. -/
def lora : EReal := Ideal.ofBits .f32 0x40000000#32

theorem dite_val {α : Type} {p : Prop} [Decidable p] {f : p → α} {g : ¬p → α} {v : α} (hf : ∀ h, f h = v)
    (hg : ∀ h, g h = v) : dite p f g = v := by
  by_cases h : p
  · rw [dif_pos h]; exact hf h
  · rw [dif_neg h]; exact hg h

/-- The lane of a column. -/
abbrev lane (n : ℕ) : Fin 128 := ⟨n % 128, Nat.mod_lt _ (by decide)⟩

theorem lane_mod {α : Type} (f : Fin 128 → α) (m n : ℕ) (h : m < 128) (hn : m = n % 128) : f ⟨m, h⟩ = f (lane n) := by
  subst hn; rfl

theorem zero12 (y : S144x8960.Idx) : k0_pay12 (F := Ideal) y = (0 : EReal) := by pointwise [k0_pay12]; try done
theorem zero13 (y : S16x8960.Idx) : k0_pay13 (F := Ideal) y = (0 : EReal) := by pointwise [k0_pay13]; try done
theorem zero14 (y : S144x1536.Idx) : k0_pay14 (F := Ideal) y = (0 : EReal) := by pointwise [k0_pay14]; try done
theorem zero15 (y : S16x1536.Idx) : k0_pay15 (F := Ideal) y = (0 : EReal) := by pointwise [k0_pay15]; try done
theorem zero27 (y : S144x256.Idx) : k0_pay27 (F := Ideal) y = (0 : EReal) := by pointwise [k0_pay27]; try done
theorem zero28 (y : S16x256.Idx) : k0_pay28 (F := Ideal) y = (0 : EReal) := by pointwise [k0_pay28]; try done
theorem zero29 (y : S256x128.Idx) : k0_pay29 (F := Ideal) y = (0 : EReal) := by pointwise [k0_pay29]; try done

theorem pay6_at (dy : Vec Ideal S256x1280 .bf16) (u : Vec Ideal S144x256 .f32) (b : Vec Ideal S144x1280 .bf16) (y : S144x256.Idx) :
    k0_pay6 (F := Ideal) dy u b y = (show EReal from u y) + ∑ x : Fin 1280, (show EReal from b (ix2 (y 0) x)) * (show EReal from dy (ix2 (y 1) x)) := by
  pointwise [k0_pay6]

theorem pay7_at (dy : Vec Ideal S256x1280 .bf16) (u : Vec Ideal S16x256 .f32) (b : Vec Ideal S16x1280 .bf16) (y : S16x256.Idx) :
    k0_pay7 (F := Ideal) dy u b y = (show EReal from u y) + ∑ x : Fin 1280, (show EReal from b (ix2 (y 0) x)) * (show EReal from dy (ix2 (y 1) x)) := by
  pointwise [k0_pay7]

/-- What bounds the running maximum of a lane. -/
theorem pay9_le (dy : Vec Ideal S256x1280 .bf16) (m : Vec Ideal S256x128 .bf16) (y : S256x128.Idx) (z : EReal) :
    (show EReal from k0_pay9 (F := Ideal) dy (k0_pay8 (F := Ideal) dy m) y) ≤ z ↔ (show EReal from m y) ≤ z
      ∧ ∀ s : Fin 10, FloatOps.absf (F := Ideal) (φ := .f32) (dy (ix2 (y 0) (⟨128 * s.val + (y 1).val, by have h : (y 1).val < 128 := (y 1).isLt; omega⟩ : Fin 1280))) ≤ z := by
  have hv : (show EReal from k0_pay9 (F := Ideal) dy (k0_pay8 (F := Ideal) dy m) y) = ?_ := by
    pointwise [k0_pay9, k0_pay8]
    exact rfl
  rw [hv]
  simp only [max_le_iff]
  have e0 : FloatOps.absf (F := Ideal) (φ := .f32) (dy (ix2 (y 0) (⟨128 * (0 : Fin 10).val + (y 1).val, by have h : (y 1).val < 128 := (y 1).isLt; show 128 * 0 + _ < 1280; omega⟩ : Fin 1280)))
      = FloatOps.absf (F := Ideal) (φ := .f32) (dy (ix2 (y 0) (⟨(y 1).val, by have h : (y 1).val < 128 := (y 1).isLt; omega⟩ : Fin 1280))) :=
    congrArg (fun l : Fin 1280 => FloatOps.absf (F := Ideal) (φ := .f32) (dy (ix2 (y 0) l))) (Fin.ext (by show 128 * 0 + (y 1).val = (y 1).val; omega))
  constructor
  · rintro ⟨⟨⟨⟨⟨⟨⟨⟨⟨⟨h, h0⟩, h1⟩, h2⟩, h3⟩, h4⟩, h5⟩, h6⟩, h7⟩, h8⟩, h9⟩
    refine ⟨h, fun s => ?_⟩
    match s with
    | 0 => exact e0.trans_le h0
    | 1 => exact h1
    | 2 => exact h2
    | 3 => exact h3
    | 4 => exact h4
    | 5 => exact h5
    | 6 => exact h6
    | 7 => exact h7
    | 8 => exact h8
    | 9 => exact h9
  · rintro ⟨h, hs⟩
    exact ⟨⟨⟨⟨⟨⟨⟨⟨⟨⟨h, e0.symm.trans_le (hs 0)⟩, hs 1⟩, hs 2⟩, hs 3⟩, hs 4⟩, hs 5⟩, hs 6⟩, hs 7⟩, hs 8⟩, hs 9⟩

theorem pay10_at (h0 h1 : FVec Ideal S144x256 .bf16) (dy : Vec Ideal S256x1280 .bf16) (g0 g1 : Vec Ideal S1x256x128 .f32)
    (db : Vec Ideal S144x1280 .f32) (y : S144x1280.Idx) :
    k0_pay10 (F := Ideal) h0 h1 dy g0 g1 db y = (show EReal from db y)
      + ((∑ x : Fin 256, (show EReal from h0 (ix2 (y 0) x)) * ((show EReal from g0 (ix3 0 x (lane (y 1).val))) * (show EReal from dy (ix2 x (y 1)))))
        + ∑ x : Fin 256, (show EReal from h1 (ix2 (y 0) x)) * ((show EReal from g1 (ix3 0 x (lane (y 1).val))) * (show EReal from dy (ix2 x (y 1))))) := by
  pointwise [k0_pay10]
  have hy : (y 1).val < 1280 := (y 1).isLt
  refine congrArg₂ (fun a b : EReal => a + b) rfl (congrArg₂ (fun a b : EReal => a + b)
    (Finset.sum_congr rfl fun x _ => congrArg₂ (fun a b : EReal => a * b) rfl (congrArg₂ (fun a b : EReal => a * b) ?_ rfl))
    (Finset.sum_congr rfl fun x _ => congrArg₂ (fun a b : EReal => a * b) rfl (congrArg₂ (fun a b : EReal => a * b) ?_ rfl)))
  · iterate 9 refine dite_val (fun _ => lane_mod (fun l => g0 (ix3 0 x l)) _ _ _ (by omega)) (fun _ => ?_)
    exact lane_mod (fun l => g0 (ix3 0 x l)) _ _ _ (by omega)
  · iterate 9 refine dite_val (fun _ => lane_mod (fun l => g1 (ix3 0 x l)) _ _ _ (by omega)) (fun _ => ?_)
    exact lane_mod (fun l => g1 (ix3 0 x l)) _ _ _ (by omega)

theorem pay11_at (h : FVec Ideal S16x256 .bf16) (dy : Vec Ideal S256x1280 .bf16) (db : Vec Ideal S16x1280 .f32) (y : S16x1280.Idx) :
    k0_pay11 (F := Ideal) h dy db y = (show EReal from db y) + ∑ x : Fin 256, (show EReal from h (ix2 (y 0) x)) * (show EReal from dy (ix2 x (y 1))) := by
  pointwise [k0_pay11]

/-- The codes of a slice from its row gains. -/
theorem pay5_at (g : Vec Ideal S1x256x128 .f32) (dy : Vec Ideal S256x1280 .bf16) (y : S256x1280.Idx) :
    k0_pay5 (F := Ideal) g dy y = min (Ideal.ofBits .f32 0x47600000#32) (max (Ideal.ofBits .f32 0xC7600000#32)
      ((show EReal from dy y) * (show EReal from g (ix3 0 (y 0) (lane (y 1).val))))) := by
  pointwise [k0_pay5]
  have hy : (y 1).val < 1280 := (y 1).isLt
  refine congrArg (fun b : EReal => min _ (max _ (_ * b))) ?_
  iterate 9 refine dite_val (fun _ => lane_mod (fun l => g (ix3 0 (y 0) l)) _ _ _ (by omega)) (fun _ => ?_)
  exact lane_mod (fun l => g (ix3 0 (y 0) l)) _ _ _ (by omega)

theorem pay16_at (x : Vec Ideal S256x1536 .bf16) (a : Vec Ideal S144x1536 .bf16) (y : S144x256.Idx) :
    k0_pay16 (F := Ideal) x a y = ∑ n : Fin 1536, (show EReal from a (ix2 (y 0) n)) * (show EReal from x (ix2 (y 1) n)) := by
  pointwise [k0_pay16]

theorem pay17_at (x : Vec Ideal S256x1536 .bf16) (a : Vec Ideal S16x1536 .bf16) (y : S16x256.Idx) :
    k0_pay17 (F := Ideal) x a y = ∑ n : Fin 1536, (show EReal from a (ix2 (y 0) n)) * (show EReal from x (ix2 (y 1) n)) := by
  pointwise [k0_pay17]

/-- The adapter a row of the stacked matrices belongs to, as the body computes it. -/
theorem pay18_at (y : S144x256.Idx) : k0_pay18 y = BitVec.ofNat 32 ((y 0).val / 16) := by
  have h : ∀ r : Fin 144, k0_pay18 (ix2 r (0 : Fin 256)) = BitVec.ofNat 32 (r.val / 16) := by
    intro r
    pointwise [k0_pay18]
    revert r
    decide +kernel
  have h2 : k0_pay18 y = k0_pay18 (ix2 (y 0) (0 : Fin 256)) := by
    pointwise [k0_pay18]
  rw [h2]
  exact h (y 0)

theorem pay19_at (j : Vec Ideal S1x256 .i32) (y : S144x256.Idx) :
    k0_pay19 (F := Ideal) j y = IntOp.cmpi .eq (BitVec.ofNat 32 ((y 0).val / 16)) (j (ix2 0 (y 1))) := by
  rw [← pay18_at]
  unfold k0_pay19
  generalize k0_pay18 = w
  pointwise []

theorem pay20_at (j : Vec Ideal S1x256 .i32) (y : S144x256.Idx) :
    k0_pay20 (F := Ideal) k0_pay18 j y = IntOp.cmpi .eq (BitVec.ofNat 32 ((y 0).val / 16)) (j (ix2 0 (y 1))) := by
  rw [← pay18_at]
  unfold k0_pay20
  generalize k0_pay18 = w
  pointwise []

theorem pay22_at (h : FVec Ideal S144x256 .f32) (m : IVec S144x256 1) (y : S144x256.Idx) :
    k0_pay22 (F := Ideal) h m y = Scalar.select (m y) ((show EReal from h y) * lora) (0 : EReal) := by
  pointwise [k0_pay22, k0_pay21]
  try rfl

theorem pay23_at (h : FVec Ideal S144x256 .f32) (j : Vec Ideal S1x256 .i32) (y : S144x256.Idx) :
    k0_pay23 (F := Ideal) h k0_pay18 j y = Scalar.select (k0_pay20 (F := Ideal) k0_pay18 j y) ((show EReal from h y) * lora) (0 : EReal) := by
  unfold k0_pay23
  generalize k0_pay20 (F := Ideal) k0_pay18 j = m
  pointwise [k0_pay21]
  try rfl

theorem pay24_at (h : FVec Ideal S16x256 .f32) (y : S16x256.Idx) : k0_pay24 (F := Ideal) h y = (show EReal from h y) * lora := by
  pointwise [k0_pay24]
  try rfl

theorem pay25_at (g : Vec Ideal S1x256 .f32) (y : S1x256x128.Idx) : k0_pay25 (F := Ideal) g y = g (ix2 0 (y 1)) := by
  pointwise [k0_pay25]

theorem pay26_at (g : Vec Ideal S1x256 .f32) (y : S1x256x128.Idx) : k0_pay26 (F := Ideal) g y = g (ix2 0 (y 1)) := by
  pointwise [k0_pay26]

theorem pay31_at (h : FVec Ideal S144x256 .f32) (m : IVec S144x256 1) (u : Vec Ideal S144x256 .f32) (y : S1x256.Idx) :
    k0_pay31 (F := Ideal) h m u y = lora * ∑ x : Fin 144, Scalar.select (m (ix2 x (y 1))) ((show EReal from u (ix2 x (y 1))) * (show EReal from h (ix2 x (y 1)))) (0 : EReal) := by
  pointwise [k0_pay31, k0_pay30]
  try rfl

theorem pay32_at (h : FVec Ideal S144x256 .f32) (m : IVec S144x256 1) (u : Vec Ideal S144x256 .f32) (y : S1x256.Idx) :
    k0_pay32 (F := Ideal) h m u y = lora * ∑ x : Fin 144, Scalar.select (m (ix2 x (y 1))) ((show EReal from u (ix2 x (y 1))) * (show EReal from h (ix2 x (y 1)))) (0 : EReal) := by
  pointwise [k0_pay32, k0_pay30]
  try rfl

theorem pay34_at (m m' : IVec S144x256 1) (u : Vec Ideal S144x256 .f32) (g0 g1 : Vec Ideal S1x256 .f32) (y : S144x256.Idx) :
    k0_pay34 (F := Ideal) m m' u (k0_pay33 (F := Ideal) g0) g1 y
      = (Scalar.select (m y) ((show EReal from g0 (ix2 0 (y 1))) * (show EReal from u y)) (0 : EReal)
        + Scalar.select (m' y) ((show EReal from g1 (ix2 0 (y 1))) * (show EReal from u y)) (0 : EReal)) * lora := by
  pointwise [k0_pay34, k0_pay33]
  try rfl

theorem pay35_at (u : Vec Ideal S16x256 .f32) (y : S16x256.Idx) : k0_pay35 (F := Ideal) u y = (show EReal from u y) * lora := by
  pointwise [k0_pay35]
  try rfl

theorem pay36_at (x : Vec Ideal S256x1536 .bf16) (m m' : IVec S144x256 1) (u : Vec Ideal S144x256 .f32) (w : FVec Ideal S144x256 .f32)
    (g1 : Vec Ideal S1x256 .f32) (d : Vec Ideal S144x1536 .f32) (y : S144x1536.Idx) :
    k0_pay36 (F := Ideal) x m m' u w g1 d y = (show EReal from d y)
      + ∑ t : Fin 256, (show EReal from k0_pay34 (F := Ideal) m m' u w g1 (ix2 (y 0) t)) * (show EReal from x (ix2 t (y 1))) := by
  unfold k0_pay36
  generalize k0_pay34 (F := Ideal) m m' u w g1 = q
  pointwise []

theorem pay37_at (x : Vec Ideal S256x1536 .bf16) (u : Vec Ideal S16x256 .f32) (d : Vec Ideal S16x1536 .f32) (y : S16x1536.Idx) :
    k0_pay37 (F := Ideal) x u d y = (show EReal from d y)
      + ∑ t : Fin 256, (show EReal from k0_pay35 (F := Ideal) u (ix2 (y 0) t)) * (show EReal from x (ix2 t (y 1))) := by
  unfold k0_pay37
  generalize k0_pay35 (F := Ideal) u = q
  pointwise []

end Cert.Proof.Ad

end
-- ==== Proof.AdLoop.lean ====
/-
  The two loops of the adapters body, an eighth of the columns at a time up to the seventh: the sums over the columns
  and the row maxima grow trip by trip, and the columns of the trips done have their products added.
-/
module

public import proofs.«01_k».proof.Proof.AdPay
public import proofs.«01_k».proof.Proof.Gen.AdaptersCmpIdeal.Loops
public import Idealize.ShloMosaic.Lib.Pipeline.ValueKit
public import Idealize.ShloMosaic.Lib.Pointwise
public import Idealize.ShloMosaic.Lib.WritesUnit
public import Idealize.ShloMosaic.Lib.Claim

@[expose] public section

set_option maxRecDepth 16384

noncomputable section

namespace Cert.Proof.Ad

open Cert.AdaptersCmpIdeal Cert.AdaptersCmpIdeal.Gen Idealize.ShloMosaic Idealize.ShloMosaic.TcCoe Idealize.SL.Sem

/-- A load through a unit rectangle whose offsets are known in closed form. -/
theorem ld_of {S : Shape} {e : EltTy} (X : S.Idx → Elt Ideal e) {off off' size : Fin S.rank → Nat} (ho : off = off')
    (inb : ∀ a, off a + size a ≤ S.size a) (x : (Rect.unit off size inb).shape.Idx) (i : S.Idx)
    (hi : ∀ a, (i a : Nat) = off' a + x a) : View.ld X (Rect.unit off size inb) x = X i := by
  subst ho
  exact View.ld_unit_apply_of _ _ _ _ _ i hi

/-- The term of a sum over the columns at column `n`, none beyond the last. -/
def term (f g : Fin 8960 → EReal) (n : ℕ) : EReal := if h : n < 8960 then f ⟨n, h⟩ * g ⟨n, h⟩ else 0

theorem sum_term (f g : Fin 8960 → EReal) : ∑ n ∈ Finset.range (1280 * 7), term f g n = ∑ n : Fin 8960, f n * g n := by
  rw [← Fin.sum_univ_eq_sum_range (term f g) 8960]
  exact Finset.sum_congr rfl fun n _ => dif_pos n.isLt

theorem sum_next (f g : Fin 8960 → EReal) (k : ℕ) (hk : k < 7) :
    ∑ n ∈ Finset.range (1280 * (k + 1)), term f g n
      = ∑ n ∈ Finset.range (1280 * k), term f g n
        + ∑ x : Fin 1280, f ⟨1280 * k + x.val, by omega⟩ * g ⟨1280 * k + x.val, by omega⟩ := by
  rw [Nat.mul_add, Nat.mul_one, Finset.sum_range_add]
  refine congrArg₂ (fun a b : EReal => a + b) rfl ?_
  rw [← Fin.sum_univ_eq_sum_range (fun x => term f g (1280 * k + x)) 1280]
  exact Finset.sum_congr rfl fun x _ => dif_pos (by omega)

variable (c : Dev nD) (i : grid0.Coords)
  (arg1 : Memref sig .tc .vmem S256x1536 .bf16) (harg1 : arg1.IsWhole)
  (arg2 : Memref sig .tc .vmem S256x8960 .bf16) (harg2 : arg2.IsWhole)
  (arg3 : Memref sig .tc .vmem S144x1536 .bf16) (harg3 : arg3.IsWhole)
  (arg4 : Memref sig .tc .vmem S16x1536 .bf16) (harg4 : arg4.IsWhole)
  (arg5 : Memref sig .tc .vmem S144x8960 .bf16) (harg5 : arg5.IsWhole)
  (arg6 : Memref sig .tc .vmem S16x8960 .bf16) (harg6 : arg6.IsWhole)
  (arg7 : Memref sig .tc .vmem S2x256 .i32) (harg7 : arg7.IsWhole)
  (arg8 : Memref sig .tc .vmem S2x256 .f32) (harg8 : arg8.IsWhole)
  (arg9 : Memref sig .tc .vmem S144x1536 .f32) (harg9 : arg9.IsWhole)
  (arg10 : Memref sig .tc .vmem S16x1536 .f32) (harg10 : arg10.IsWhole)
  (arg11 : Memref sig .tc .vmem S144x8960 .f32) (harg11 : arg11.IsWhole)
  (arg12 : Memref sig .tc .vmem S16x8960 .f32) (harg12 : arg12.IsWhole)
  (arg13 : Memref sig .tc .vmem S2x256 .f32) (harg13 : arg13.IsWhole)
  (arg14 : Memref sig .tc .vmem S256x8960 .fp8e5m2) (harg14 : arg14.IsWhole)
  (arg15 : Memref sig .tc .vmem S16x128 .f32) (harg15 : arg15.IsWhole)
  (arg16 : Memref sig .tc .vmem S256x128 .f32) (harg16 : arg16.IsWhole)
  (arg17 : Memref sig .tc .vmem S160x256 .bf16) (harg17 : arg17.IsWhole)
  (arg18 : Memref sig .tc .vmem S144x256 .f32) (harg18 : arg18.IsWhole)
  (arg19 : Memref sig .tc .vmem S16x256 .f32) (harg19 : arg19.IsWhole)
  (arg20 : Memref sig .tc .vmem S256x128 .bf16) (harg20 : arg20.IsWhole)
  (arg21 : Memref sig .tc .vmem S2x256x128 .f32) (harg21 : arg21.IsWhole)
  (v6 : FVec Ideal S144x256 .f32) (v37 v41 : IVec S144x256 1) (v48 v51 : FVec Ideal S144x256 .bf16) (v56 : FVec Ideal S16x256 .bf16)
  (X2 : BufTy.Contents (Elt Ideal) arg2.view.ty) (X5 : BufTy.Contents (Elt Ideal) arg5.view.ty)
  (X6 : BufTy.Contents (Elt Ideal) arg6.view.ty) (X21 : BufTy.Contents (Elt Ideal) arg21.view.ty)
  (G11 : BufTy.Contents (Elt Ideal) arg11.view.ty) (G12 : BufTy.Contents (Elt Ideal) arg12.view.ty)
  (G18 : BufTy.Contents (Elt Ideal) arg18.view.ty) (G19 : BufTy.Contents (Elt Ideal) arg19.view.ty)
  (G20 : BufTy.Contents (Elt Ideal) arg20.view.ty)

/-- The adapters' sums before trip `k`. -/
theorem u_upto (k : Nat) (hk : k ≤ 7) (y : S144x256.Idx) :
    arg18.view.read (Elt Ideal) (arg18.view.writes (Elt Ideal) G18 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v37 v41 v48 v51 v56 X2 X5 X6 X21 G11 G12 G18 G19 G20 k).2.2.1) y
      = (show EReal from arg18.view.read (Elt Ideal) G18 y) + ∑ n ∈ Finset.range (1280 * k),
          term (fun n => arg5.view.read (Elt Ideal) X5 (ix2 (y 0) n)) (fun n => arg2.view.read (Elt Ideal) X2 (ix2 (y 1) n)) n := by
  induction k with
  | zero => rw [Nat.mul_zero, Finset.sum_range_zero, add_zero]; rfl
  | succ k ih =>
    have ih := ih (by omega)
    rw [pb_k0_t1_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v37 v41 v48 v51 v56 X2 X5 X6 X21 G11 G12 G18 G19 G20 ⟨k, show k < 7 by omega⟩]
    dsimp only
    rw [View.writes_append, sum_next _ _ k (by omega), ← add_assoc, ← ih]
    unfold trip_k0_t1
    dsimp only
    refine (View.read_writes_cons_unit_of_mem arg18.view _ _ _ _ y y rfl (fun a => by
      match a with
      | ⟨0, _⟩ => show (y 0).val = 0 + (y 0).val; omega
      | ⟨1, _⟩ => show (y 1).val = 0 + (y 1).val; omega)).trans ?_
    rw [pay6_at]
    refine congrArg₂ (fun a b : EReal => a + b) ?_ (Finset.sum_congr rfl fun x _ => congrArg₂ (fun a b : EReal => a * b) ?_ ?_)
    · refine View.ld_unit_apply_of _ _ _ _ _ y fun a => ?_
      match a with
      | ⟨0, _⟩ => show (y 0).val = 0 + (y 0).val; omega
      | ⟨1, _⟩ => show (y 1).val = 0 + (y 1).val; omega
    · refine ld_of _ (k0_off2_eq _) _ _ (ix2 (y 0) (⟨1280 * k + x.val, by omega⟩ : Fin 8960) : S144x8960.Idx) fun a => ?_
      match a with
      | ⟨0, _⟩ => show (y 0).val = 0 + (y 0).val; omega
      | ⟨1, _⟩ => show 1280 * k + x.val = 1280 * k + x.val; rfl
    · refine ld_of _ (k0_off1_eq _) _ _ (ix2 (y 1) (⟨1280 * k + x.val, by omega⟩ : Fin 8960) : S256x8960.Idx) fun a => ?_
      match a with
      | ⟨0, _⟩ => show (y 1).val = 0 + (y 1).val; omega
      | ⟨1, _⟩ => show 1280 * k + x.val = 1280 * k + x.val; rfl

/-- The shared adapter's sums before trip `k`. -/
theorem us_upto (k : Nat) (hk : k ≤ 7) (y : S16x256.Idx) :
    arg19.view.read (Elt Ideal) (arg19.view.writes (Elt Ideal) G19 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v37 v41 v48 v51 v56 X2 X5 X6 X21 G11 G12 G18 G19 G20 k).2.2.2.1) y
      = (show EReal from arg19.view.read (Elt Ideal) G19 y) + ∑ n ∈ Finset.range (1280 * k),
          term (fun n => arg6.view.read (Elt Ideal) X6 (ix2 (y 0) n)) (fun n => arg2.view.read (Elt Ideal) X2 (ix2 (y 1) n)) n := by
  induction k with
  | zero => rw [Nat.mul_zero, Finset.sum_range_zero, add_zero]; rfl
  | succ k ih =>
    have ih := ih (by omega)
    rw [pb_k0_t1_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v37 v41 v48 v51 v56 X2 X5 X6 X21 G11 G12 G18 G19 G20 ⟨k, show k < 7 by omega⟩]
    dsimp only
    rw [View.writes_append, sum_next _ _ k (by omega), ← add_assoc, ← ih]
    unfold trip_k0_t1
    dsimp only
    refine (View.read_writes_cons_unit_of_mem arg19.view _ _ _ _ y y rfl (fun a => by
      match a with
      | ⟨0, _⟩ => show (y 0).val = 0 + (y 0).val; omega
      | ⟨1, _⟩ => show (y 1).val = 0 + (y 1).val; omega)).trans ?_
    rw [pay7_at]
    refine congrArg₂ (fun a b : EReal => a + b) ?_ (Finset.sum_congr rfl fun x _ => congrArg₂ (fun a b : EReal => a * b) ?_ ?_)
    · refine View.ld_unit_apply_of _ _ _ _ _ y fun a => ?_
      match a with
      | ⟨0, _⟩ => show (y 0).val = 0 + (y 0).val; omega
      | ⟨1, _⟩ => show (y 1).val = 0 + (y 1).val; omega
    · refine ld_of _ (k0_off2_eq _) _ _ (ix2 (y 0) (⟨1280 * k + x.val, by omega⟩ : Fin 8960) : S16x8960.Idx) fun a => ?_
      match a with
      | ⟨0, _⟩ => show (y 0).val = 0 + (y 0).val; omega
      | ⟨1, _⟩ => show 1280 * k + x.val = 1280 * k + x.val; rfl
    · refine ld_of _ (k0_off1_eq _) _ _ (ix2 (y 1) (⟨1280 * k + x.val, by omega⟩ : Fin 8960) : S256x8960.Idx) fun a => ?_
      match a with
      | ⟨0, _⟩ => show (y 1).val = 0 + (y 1).val; omega
      | ⟨1, _⟩ => show 1280 * k + x.val = 1280 * k + x.val; rfl

/-- What bounds a lane's running maximum before trip `k`. -/
theorem m_upto (k : Nat) (hk : k ≤ 7) (y : S256x128.Idx) (z : EReal) :
    (show EReal from arg20.view.read (Elt Ideal) (arg20.view.writes (Elt Ideal) G20 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v37 v41 v48 v51 v56 X2 X5 X6 X21 G11 G12 G18 G19 G20 k).2.2.2.2) y) ≤ z
      ↔ (show EReal from arg20.view.read (Elt Ideal) G20 y) ≤ z ∧ ∀ n : Fin 8960, n.val < 1280 * k → n.val % 128 = (y 1).val →
          FloatOps.absf (F := Ideal) (φ := .f32) (arg2.view.read (Elt Ideal) X2 (ix2 (y 0) n)) ≤ z := by
  induction k with
  | zero => exact ⟨fun h => ⟨h, fun n hn => absurd hn (by omega)⟩, fun h => h.1⟩
  | succ k ih =>
    have ih := ih (by omega)
    have hl : (y 1).val < 128 := (y 1).isLt
    rw [pb_k0_t1_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v37 v41 v48 v51 v56 X2 X5 X6 X21 G11 G12 G18 G19 G20 ⟨k, show k < 7 by omega⟩]
    dsimp only
    rw [View.writes_append]
    unfold trip_k0_t1
    dsimp only
    have he := View.read_writes_cons_unit_of_mem (Val := Elt Ideal) arg20.view (arg20.view.writes (Elt Ideal) G20 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v37 v41 v48 v51 v56 X2 X5 X6 X21 G11 G12 G18 G19 G20 k).2.2.2.2)
      inb_S256x128_S256x128_0_0 (k0_pay9 (F := Ideal) (View.ld (arg2.view.read (Elt Ideal) X2) (Rect.unit (k0_off1 ⟨k, show k < 7 by omega⟩) S256x1280.size (k0_off1_inb ⟨k, show k < 7 by omega⟩)))
        (k0_pay8 (F := Ideal) (View.ld (arg2.view.read (Elt Ideal) X2) (Rect.unit (k0_off1 ⟨k, show k < 7 by omega⟩) S256x1280.size (k0_off1_inb ⟨k, show k < 7 by omega⟩)))
          (View.ld (arg20.view.read (Elt Ideal) (arg20.view.writes (Elt Ideal) G20 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v37 v41 v48 v51 v56 X2 X5 X6 X21 G11 G12 G18 G19 G20 k).2.2.2.2)) (Rect.unit ![0, 0] S256x128.size inb_S256x128_S256x128_0_0)))) [] y y rfl (fun a => by
      match a with
      | ⟨0, _⟩ => show (y 0).val = 0 + (y 0).val; omega
      | ⟨1, _⟩ => show (y 1).val = 0 + (y 1).val; omega)
    refine (iff_of_eq (congrArg (fun w : EReal => w ≤ z) he)).trans ?_
    rw [pay9_le]
    have hm : View.ld (arg20.view.read (Elt Ideal) (arg20.view.writes (Elt Ideal) G20 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v37 v41 v48 v51 v56 X2 X5 X6 X21 G11 G12 G18 G19 G20 k).2.2.2.2)) (Rect.unit ![0, 0] S256x128.size inb_S256x128_S256x128_0_0) y = arg20.view.read (Elt Ideal) (arg20.view.writes (Elt Ideal) G20 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v37 v41 v48 v51 v56 X2 X5 X6 X21 G11 G12 G18 G19 G20 k).2.2.2.2) y := by
      refine View.ld_unit_apply_of _ _ _ _ _ y fun a => ?_
      match a with
      | ⟨0, _⟩ => show (y 0).val = 0 + (y 0).val; omega
      | ⟨1, _⟩ => show (y 1).val = 0 + (y 1).val; omega
    have hd : ∀ x : Fin 1280, View.ld (arg2.view.read (Elt Ideal) X2) (Rect.unit (k0_off1 ⟨k, show k < 7 by omega⟩) S256x1280.size (k0_off1_inb ⟨k, show k < 7 by omega⟩)) (ix2 (y 0) x : S256x1280.Idx)
        = arg2.view.read (Elt Ideal) X2 (ix2 (y 0) (⟨1280 * k + x.val, by omega⟩ : Fin 8960)) := fun x => by
      refine ld_of _ (k0_off1_eq _) _ _ (ix2 (y 0) (⟨1280 * k + x.val, by omega⟩ : Fin 8960) : S256x8960.Idx) fun a => ?_
      match a with
      | ⟨0, _⟩ => show (y 0).val = 0 + (y 0).val; omega
      | ⟨1, _⟩ => show 1280 * k + x.val = 1280 * k + x.val; rfl
    refine (and_congr (iff_of_eq (congrArg (fun w : EReal => w ≤ z) hm)) (forall_congr' fun s => iff_of_eq (congrArg (fun w => FloatOps.absf (F := Ideal) (φ := .f32) w ≤ z) (hd _)))).trans ?_
    rw [ih, and_assoc]
    refine and_congr_right fun _ => ?_
    constructor
    · rintro ⟨h1, h2⟩ n hn hnl
      by_cases hlt : n.val < 1280 * k
      · exact h1 n hlt hnl
      · have h := h2 ⟨(n.val - 1280 * k) / 128, by omega⟩
        have hc : n = ⟨1280 * k + (128 * ((n.val - 1280 * k) / 128) + (y 1).val), by omega⟩ := Fin.ext (by show n.val = 1280 * k + (128 * ((n.val - 1280 * k) / 128) + (y 1).val); omega)
        rw [hc]
        exact h
    · intro h
      refine ⟨fun n hn hnl => h n (by omega) hnl, fun s => h _ ?_ ?_⟩
      · show 1280 * k + (128 * s.val + (y 1).val) < 1280 * (k + 1); omega
      · show (1280 * k + (128 * s.val + (y 1).val)) % 128 = (y 1).val; omega

/-- The adapters' column gradients before trip `k`: the columns done have the two products added. -/
theorem db_upto (k : Nat) (hk : k ≤ 7) (y : S144x8960.Idx) :
    arg11.view.read (Elt Ideal) (arg11.view.writes (Elt Ideal) G11 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v37 v41 v48 v51 v56 X2 X5 X6 X21 G11 G12 G18 G19 G20 k).1) y
      = if (y 1).val < 1280 * k then (show EReal from arg11.view.read (Elt Ideal) G11 y) + ((∑ x : Fin 256, (show EReal from v48 (ix2 (y 0) x)) * ((show EReal from arg21.view.read (Elt Ideal) X21 (ix3 0 x (lane (y 1).val))) * (show EReal from arg2.view.read (Elt Ideal) X2 (ix2 x (y 1))))) + ∑ x : Fin 256, (show EReal from v51 (ix2 (y 0) x)) * ((show EReal from arg21.view.read (Elt Ideal) X21 (ix3 1 x (lane (y 1).val))) * (show EReal from arg2.view.read (Elt Ideal) X2 (ix2 x (y 1))))) else arg11.view.read (Elt Ideal) G11 y := by
  induction k with
  | zero => rw [if_neg (by omega)]; rfl
  | succ k ih =>
    have ih := ih (by omega)
    rw [pb_k0_t1_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v37 v41 v48 v51 v56 X2 X5 X6 X21 G11 G12 G18 G19 G20 ⟨k, show k < 7 by omega⟩]
    dsimp only
    rw [View.writes_append]
    unfold trip_k0_t1
    dsimp only
    by_cases hm : 1280 * k ≤ (y 1).val ∧ (y 1).val < 1280 * (k + 1)
    · have hx : (y 1).val - 1280 * k < 1280 := by omega
      have hl : ((y 1).val - 1280 * k) % 128 = (y 1).val % 128 := by omega
      rw [if_pos hm.2]
      rw [if_neg (by omega)] at ih
      refine (View.read_writes_cons_unit_of_mem arg11.view _ _ _ _ y (ix2 (y 0) (⟨(y 1).val - 1280 * k, hx⟩ : Fin 1280) : S144x1280.Idx)
        (k0_off3_eq ⟨k, show k < 7 by omega⟩) (fun a => by
          match a with
          | ⟨0, _⟩ => show (y 0).val = 0 + (y 0).val; omega
          | ⟨1, _⟩ => show (y 1).val = 1280 * k + ((y 1).val - 1280 * k); omega)).trans ?_
      rw [pay10_at]
      refine congrArg₂ (fun a b : EReal => a + b) ?_ (congrArg₂ (fun a b : EReal => a + b)
        (Finset.sum_congr rfl fun x _ => congrArg₂ (fun a b : EReal => a * b) rfl (congrArg₂ (fun a b : EReal => a * b) ?_ ?_))
        (Finset.sum_congr rfl fun x _ => congrArg₂ (fun a b : EReal => a * b) rfl (congrArg₂ (fun a b : EReal => a * b) ?_ ?_)))
      · refine Eq.trans (ld_of _ (k0_off3_eq _) _ _ y fun a => ?_) ih
        match a with
        | ⟨0, _⟩ => show (y 0).val = 0 + (y 0).val; omega
        | ⟨1, _⟩ => show (y 1).val = 1280 * k + ((y 1).val - 1280 * k); omega
      · refine View.ld_unit_apply_of _ _ _ _ _ (ix3 0 x (lane (y 1).val) : S2x256x128.Idx) fun a => ?_
        match a with
        | ⟨0, _⟩ => rfl
        | ⟨1, _⟩ => show x.val = 0 + x.val; omega
        | ⟨2, _⟩ => show (y 1).val % 128 = 0 + ((y 1).val - 1280 * k) % 128; omega
      · refine ld_of _ (k0_off1_eq _) _ _ (ix2 x (y 1) : S256x8960.Idx) fun a => ?_
        match a with
        | ⟨0, _⟩ => show x.val = 0 + x.val; omega
        | ⟨1, _⟩ => show (y 1).val = 1280 * k + ((y 1).val - 1280 * k); omega
      · refine View.ld_unit_apply_of _ _ _ _ _ (ix3 1 x (lane (y 1).val) : S2x256x128.Idx) fun a => ?_
        match a with
        | ⟨0, _⟩ => rfl
        | ⟨1, _⟩ => show x.val = 0 + x.val; omega
        | ⟨2, _⟩ => show (y 1).val % 128 = 0 + ((y 1).val - 1280 * k) % 128; omega
      · refine ld_of _ (k0_off1_eq _) _ _ (ix2 x (y 1) : S256x8960.Idx) fun a => ?_
        match a with
        | ⟨0, _⟩ => show x.val = 0 + x.val; omega
        | ⟨1, _⟩ => show (y 1).val = 1280 * k + ((y 1).val - 1280 * k); omega
    · refine (View.read_writes_cons_unit_of_not_mem arg11.view _ _ _ _ y (k0_off3_eq ⟨k, show k < 7 by omega⟩) 1
        (by show (y 1).val < 1280 * k ∨ 1280 * k + 1280 ≤ (y 1).val; omega)).trans ?_
      refine Eq.trans ih ?_
      by_cases h2 : (y 1).val < 1280 * k
      · rw [if_pos h2, if_pos (by omega)]
      · rw [if_neg h2, if_neg (by omega)]

/-- The shared adapter's column gradients before trip `k`. -/
theorem dbs_upto (k : Nat) (hk : k ≤ 7) (y : S16x8960.Idx) :
    arg12.view.read (Elt Ideal) (arg12.view.writes (Elt Ideal) G12 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v37 v41 v48 v51 v56 X2 X5 X6 X21 G11 G12 G18 G19 G20 k).2.1) y
      = if (y 1).val < 1280 * k then (show EReal from arg12.view.read (Elt Ideal) G12 y) + ∑ x : Fin 256, (show EReal from v56 (ix2 (y 0) x)) * (show EReal from arg2.view.read (Elt Ideal) X2 (ix2 x (y 1))) else arg12.view.read (Elt Ideal) G12 y := by
  induction k with
  | zero => rw [if_neg (by omega)]; rfl
  | succ k ih =>
    have ih := ih (by omega)
    rw [pb_k0_t1_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v37 v41 v48 v51 v56 X2 X5 X6 X21 G11 G12 G18 G19 G20 ⟨k, show k < 7 by omega⟩]
    dsimp only
    rw [View.writes_append]
    unfold trip_k0_t1
    dsimp only
    by_cases hm : 1280 * k ≤ (y 1).val ∧ (y 1).val < 1280 * (k + 1)
    · have hx : (y 1).val - 1280 * k < 1280 := by omega
      have hl : ((y 1).val - 1280 * k) % 128 = (y 1).val % 128 := by omega
      rw [if_pos hm.2]
      rw [if_neg (by omega)] at ih
      refine (View.read_writes_cons_unit_of_mem arg12.view _ _ _ _ y (ix2 (y 0) (⟨(y 1).val - 1280 * k, hx⟩ : Fin 1280) : S16x1280.Idx)
        (k0_off3_eq ⟨k, show k < 7 by omega⟩) (fun a => by
          match a with
          | ⟨0, _⟩ => show (y 0).val = 0 + (y 0).val; omega
          | ⟨1, _⟩ => show (y 1).val = 1280 * k + ((y 1).val - 1280 * k); omega)).trans ?_
      rw [pay11_at]
      refine congrArg₂ (fun a b : EReal => a + b) ?_ (Finset.sum_congr rfl fun x _ => congrArg₂ (fun a b : EReal => a * b) rfl ?_)
      · refine Eq.trans (ld_of _ (k0_off3_eq _) _ _ y fun a => ?_) ih
        match a with
        | ⟨0, _⟩ => show (y 0).val = 0 + (y 0).val; omega
        | ⟨1, _⟩ => show (y 1).val = 1280 * k + ((y 1).val - 1280 * k); omega
      · refine ld_of _ (k0_off1_eq _) _ _ (ix2 x (y 1) : S256x8960.Idx) fun a => ?_
        match a with
        | ⟨0, _⟩ => show x.val = 0 + x.val; omega
        | ⟨1, _⟩ => show (y 1).val = 1280 * k + ((y 1).val - 1280 * k); omega
    · refine (View.read_writes_cons_unit_of_not_mem arg12.view _ _ _ _ y (k0_off3_eq ⟨k, show k < 7 by omega⟩) 1
        (by show (y 1).val < 1280 * k ∨ 1280 * k + 1280 ≤ (y 1).val; omega)).trans ?_
      refine Eq.trans ih ?_
      by_cases h2 : (y 1).val < 1280 * k
      · rw [if_pos h2, if_pos (by omega)]
      · rw [if_neg h2, if_neg (by omega)]

/-- The codes after `k` trips: the columns done. -/
theorem codes_upto (G14 : BufTy.Contents (Elt Ideal) arg14.view.ty) (k : Nat) (hk : k ≤ 7) (y : S256x8960.Idx) (hy : (y 1).val < 1280 * k) :
    arg14.view.read (Elt Ideal) (arg14.view.writes (Elt Ideal) G14 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X21 k)) y
      = min (Ideal.ofBits .f32 0x47600000#32) (max (Ideal.ofBits .f32 0xC7600000#32)
          ((show EReal from arg2.view.read (Elt Ideal) X2 y) * (show EReal from arg21.view.read (Elt Ideal) X21 (ix3 0 (y 0) (lane (y 1).val))))) := by
  induction k with
  | zero => exact absurd hy (by omega)
  | succ k ih =>
    rw [pb_k0_t2_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X21 ⟨k, show k < 7 by omega⟩]
    unfold tripL_k0_t2 trip_k0_t2
    dsimp only
    by_cases hm : 1280 * k ≤ (y 1).val
    · have hx : (y 1).val - 1280 * k < 1280 := by omega
      refine (View.read_writes_cons_unit_of_mem arg14.view _ _ _ _ y (ix2 (y 0) (⟨(y 1).val - 1280 * k, hx⟩ : Fin 1280) : S256x1280.Idx)
        (k0_off5_eq ⟨k, show k < 7 by omega⟩) (fun a => by
          match a with
          | ⟨0, _⟩ => show (y 0).val = 0 + (y 0).val; omega
          | ⟨1, _⟩ => show (y 1).val = 1280 * k + ((y 1).val - 1280 * k); omega)).trans ?_
      rw [pay5_at]
      refine congrArg (fun b : EReal => min _ (max _ b)) (congrArg₂ (fun a b : EReal => a * b) ?_ ?_)
      · refine ld_of _ (k0_off5_eq _) _ _ y fun a => ?_
        match a with
        | ⟨0, _⟩ => show (y 0).val = 0 + (y 0).val; omega
        | ⟨1, _⟩ => show (y 1).val = 1280 * k + ((y 1).val - 1280 * k); omega
      · refine View.ld_unit_apply_of _ _ _ _ _ (ix3 0 (y 0) (lane (y 1).val) : S2x256x128.Idx) fun a => ?_
        match a with
        | ⟨0, _⟩ => rfl
        | ⟨1, _⟩ => show (y 0).val = 0 + (y 0).val; omega
        | ⟨2, _⟩ => show (y 1).val % 128 = 0 + ((y 1).val - 1280 * k) % 128; omega
    · refine (View.read_writes_cons_unit_of_not_mem arg14.view _ _ _ _ y (k0_off5_eq ⟨k, show k < 7 by omega⟩) 1
        (by show (y 1).val < 1280 * k ∨ 1280 * k + 1280 ≤ (y 1).val; omega)).trans ?_
      exact ih (by omega) (by omega)

end Cert.Proof.Ad

end
-- ==== Proof.AdKScale.lean ====
/-
  The kernel's scale: its eight comparisons are the search of `AdScale`, at every row and lane.
-/
module

public import proofs.«01_k».proof.Proof.AdPay
public import Idealize.ShloMosaic.Lib.Pipeline.ValueKit
public import Idealize.ShloMosaic.Lib.Pointwise
public import Idealize.ShloMosaic.Lib.WritesUnit
public import Idealize.ShloMosaic.Lib.Claim

@[expose] public section

set_option maxRecDepth 16384

noncomputable section

namespace Cert.Proof.Ad

open Cert.AdaptersCmpIdeal Cert.AdaptersCmpIdeal.Gen Idealize.ShloMosaic Idealize.ShloMosaic.TcCoe Idealize.SL.Sem

/-- One comparison, on the whole vector. -/
def stepV (r : FVec Ideal S256x128 .f32) (cur : IVec S256x128 32) (b : BitVec 32) : IVec S256x128 32 :=
  select (cmpf .oge r (bitcastToFloat .f32 (shli (addi (subi (addi cur (broadcast S256x128 b)) (broadcast S256x128 127#32))
    (broadcast S256x128 127#32)) (broadcast S256x128 23#32)))) (addi cur (broadcast S256x128 b)) cur

theorem stepV_at (r : FVec Ideal S256x128 .f32) (cur : IVec S256x128 32) (b : BitVec 32) (y : S256x128.Idx) :
    stepV r cur b y = step (r y) (cur y) b := by
  pointwise [stepV]
  rfl

/-- All eight. -/
def searchV (r : FVec Ideal S256x128 .f32) : IVec S256x128 32 :=
  stepV r (stepV r (stepV r (stepV r (stepV r (stepV r (stepV r (stepV r (broadcast S256x128 0#32) 128#32) 64#32) 32#32) 16#32) 8#32) 4#32) 2#32) 1#32

theorem searchV_at (r : FVec Ideal S256x128 .f32) (y : S256x128.Idx) : searchV r y = search (r y) := by
  unfold searchV search
  simp only [stepV_at]
  rfl

/-- The exponents from the field words. -/
def expV (r : FVec Ideal S256x128 .f32) (w : IVec S256x128 32) : IVec S256x128 32 :=
  select (cmpf .oeq r (broadcast S256x128 (Scalar.ofBits .f32 0x00000000#32))) (broadcast S256x128 0#32)
    (subi w (broadcast S256x128 126#32))

theorem expV_at (r : FVec Ideal S256x128 .f32) (w : IVec S256x128 32) (y : S256x128.Idx) :
    expV r w y = if (show EReal from r y) = 0 then 0#32 else IntOp.subi (w y) 126#32 := by
  pointwise [expV]
  try done

theorem pay43_eq (v : Vec Ideal S256x128 .bf16) :
    k0_pay43 (F := Ideal) (k0_pay38 (F := Ideal) v) (k0_pay41 (F := Ideal) (k0_pay38 (F := Ideal) v) (k0_pay39 (F := Ideal) v) (k0_pay40 (F := Ideal) v))
        (k0_pay42 (F := Ideal) (k0_pay38 (F := Ideal) v) (k0_pay39 (F := Ideal) v) (k0_pay40 (F := Ideal) v)) 4#32
      = expV (k0_pay38 (F := Ideal) v) (searchV (k0_pay38 (F := Ideal) v)) := rfl

/-- The largest lane of a row. -/
def rowMax (v : Vec Ideal S256x128 .bf16) (r : Fin 256) : EReal :=
  Finset.fold max (Ideal.ofBits .f32 0xFF800000#32) (fun l : Fin 128 => (show EReal from v (ix2 r l))) Finset.univ

theorem pay38_at (v : Vec Ideal S256x128 .bf16) (y : S256x128.Idx) : k0_pay38 (F := Ideal) v y = rowMax v (y 0) * inv := by
  pointwise [k0_pay38]
  rfl

theorem exp_at (v : Vec Ideal S256x128 .bf16) (y : S256x128.Idx) :
    expV (k0_pay38 (F := Ideal) v) (searchV (k0_pay38 (F := Ideal) v)) y = expo (rowMax v (y 0)) := by
  rw [expV_at, searchV_at, search_eq, pay38_at]
  unfold expo
  refine if_congr ?_ rfl rfl
  show rowMax v (y 0) * inv = 0 ↔ _
  rw [mul_eq_zero]
  exact or_iff_left inv_ne_zero

/-- The scale of a row, in every lane. -/
theorem scale_at (v : Vec Ideal S256x128 .bf16) (y : S256x128.Idx) :
    k0_pay44 (F := Ideal) (k0_pay38 (F := Ideal) v) (k0_pay41 (F := Ideal) (k0_pay38 (F := Ideal) v) (k0_pay39 (F := Ideal) v) (k0_pay40 (F := Ideal) v))
        (k0_pay42 (F := Ideal) (k0_pay38 (F := Ideal) v) (k0_pay39 (F := Ideal) v) (k0_pay40 (F := Ideal) v)) 4#32 y
      = two (expo (rowMax v (y 0))) := by
  rw [← exp_at v y]
  unfold k0_pay44
  rw [pay43_eq]
  generalize expV (k0_pay38 (F := Ideal) v) (searchV (k0_pay38 (F := Ideal) v)) = e
  pointwise []
  rfl

/-- One over the scale of a row, in every lane. -/
theorem gain_at (v : Vec Ideal S256x128 .bf16) (y : S1x256x128.Idx) :
    k0_pay4 (F := Ideal) (k0_pay45 (F := Ideal) (k0_pay38 (F := Ideal) v) (k0_pay41 (F := Ideal) (k0_pay38 (F := Ideal) v) (k0_pay39 (F := Ideal) v) (k0_pay40 (F := Ideal) v))
        (k0_pay42 (F := Ideal) (k0_pay38 (F := Ideal) v) (k0_pay39 (F := Ideal) v) (k0_pay40 (F := Ideal) v)) 4#32) k0_pay46 y
      = two (IntOp.subi 0#32 (expo (rowMax v (y 1)))) := by
  rw [show expo (rowMax v (y 1)) = _ from (exp_at v (ix2 (y 1) (y 2) : S256x128.Idx)).symm]
  unfold k0_pay45
  rw [pay43_eq]
  generalize expV (k0_pay38 (F := Ideal) v) (searchV (k0_pay38 (F := Ideal) v)) = e
  pointwise [k0_pay4, k0_pay46]
  rfl

end Cert.Proof.Ad

end
-- ==== Proof.AdBlock.lean ====
/-
  What one grid point of the adapters call makes of its 256 tokens, as functions of the blocks it reads: the hidden
  products, the column sums, the masks of the two chosen adapters, and from them every result.
-/
module

public import proofs.«01_k».proof.Proof.AdLoop
public import proofs.«01_k».proof.Proof.AdKScale
public import Idealize.ShloMosaic.Lib.Pipeline.ValueKit
public import Idealize.ShloMosaic.Lib.Pointwise
public import Idealize.ShloMosaic.Lib.WritesUnit
public import Idealize.ShloMosaic.Lib.Claim

@[expose] public section

set_option maxRecDepth 16384

noncomputable section

namespace Cert.Proof.Ad

open Cert.AdaptersCmpIdeal Cert.AdaptersCmpIdeal.Gen Idealize.ShloMosaic Idealize.ShloMosaic.TcCoe Idealize.SL.Sem

/-- The hidden products of the adapters. -/
def hB (x0 : Vec Ideal S256x1536 .bf16) (x2 : Vec Ideal S144x1536 .bf16) (y : S144x256.Idx) : EReal :=
  ∑ n : Fin 1536, (show EReal from x2 (ix2 (y 0) n)) * (show EReal from x0 (ix2 (y 1) n))

/-- The hidden products of the shared adapter. -/
def hsB (x0 : Vec Ideal S256x1536 .bf16) (x3 : Vec Ideal S16x1536 .bf16) (y : S16x256.Idx) : EReal :=
  ∑ n : Fin 1536, (show EReal from x3 (ix2 (y 0) n)) * (show EReal from x0 (ix2 (y 1) n))

/-- The output gradient against the adapters' second matrices. -/
def uB (x1 : Vec Ideal S256x8960 .bf16) (x4 : Vec Ideal S144x8960 .bf16) (y : S144x256.Idx) : EReal :=
  ∑ n : Fin 8960, (show EReal from x4 (ix2 (y 0) n)) * (show EReal from x1 (ix2 (y 1) n))

/-- The output gradient against the shared adapter's second matrix. -/
def usB (x1 : Vec Ideal S256x8960 .bf16) (x5 : Vec Ideal S16x8960 .bf16) (y : S16x256.Idx) : EReal :=
  ∑ n : Fin 8960, (show EReal from x5 (ix2 (y 0) n)) * (show EReal from x1 (ix2 (y 1) n))

/-- Whether choice `j` of a token is the adapter of a row. -/
def mB (x6 : Vec Ideal S2x256 .i32) (j : Fin 2) (y : S144x256.Idx) : BitVec 1 :=
  IntOp.cmpi .eq (BitVec.ofNat 32 ((y 0).val / 16)) (x6 (ix2 j (y 1)))

/-- The gated, masked and scaled column sums. -/
def gB (x1 : Vec Ideal S256x8960 .bf16) (x4 : Vec Ideal S144x8960 .bf16) (x6 : Vec Ideal S2x256 .i32) (x7 : Vec Ideal S2x256 .f32)
    (y : S144x256.Idx) : EReal :=
  (Scalar.select (mB x6 0 y) ((show EReal from x7 (ix2 0 (y 1))) * uB x1 x4 y) (0 : EReal)
    + Scalar.select (mB x6 1 y) ((show EReal from x7 (ix2 1 (y 1))) * uB x1 x4 y) (0 : EReal)) * lora

def daStep (d : Vec Ideal S144x1536 .f32) (x0 : Vec Ideal S256x1536 .bf16) (x1 : Vec Ideal S256x8960 .bf16) (x4 : Vec Ideal S144x8960 .bf16)
    (x6 : Vec Ideal S2x256 .i32) (x7 : Vec Ideal S2x256 .f32) : Vec Ideal S144x1536 .f32 :=
  fun y => (show EReal from d y) + ∑ t : Fin 256, gB x1 x4 x6 x7 (ix2 (y 0) t) * (show EReal from x0 (ix2 t (y 1)))

def dasStep (d : Vec Ideal S16x1536 .f32) (x0 : Vec Ideal S256x1536 .bf16) (x1 : Vec Ideal S256x8960 .bf16) (x5 : Vec Ideal S16x8960 .bf16) :
    Vec Ideal S16x1536 .f32 :=
  fun y => (show EReal from d y) + ∑ t : Fin 256, (usB x1 x5 (ix2 (y 0) t) * lora) * (show EReal from x0 (ix2 t (y 1)))

/-- The masked and scaled hidden products of choice `j`. -/
def hmB (x0 : Vec Ideal S256x1536 .bf16) (x2 : Vec Ideal S144x1536 .bf16) (x6 : Vec Ideal S2x256 .i32) (j : Fin 2) (y : S144x256.Idx) : EReal :=
  Scalar.select (mB x6 j y) (hB x0 x2 y * lora) (0 : EReal)

def dbStep (d : Vec Ideal S144x8960 .f32) (x0 : Vec Ideal S256x1536 .bf16) (x1 : Vec Ideal S256x8960 .bf16) (x2 : Vec Ideal S144x1536 .bf16)
    (x6 : Vec Ideal S2x256 .i32) (x7 : Vec Ideal S2x256 .f32) : Vec Ideal S144x8960 .f32 :=
  fun y => (show EReal from d y)
    + ((∑ t : Fin 256, hmB x0 x2 x6 0 (ix2 (y 0) t) * ((show EReal from x7 (ix2 0 t)) * (show EReal from x1 (ix2 t (y 1)))))
      + ∑ t : Fin 256, hmB x0 x2 x6 1 (ix2 (y 0) t) * ((show EReal from x7 (ix2 1 t)) * (show EReal from x1 (ix2 t (y 1)))))

def dbsStep (d : Vec Ideal S16x8960 .f32) (x0 : Vec Ideal S256x1536 .bf16) (x1 : Vec Ideal S256x8960 .bf16) (x3 : Vec Ideal S16x1536 .bf16) :
    Vec Ideal S16x8960 .f32 :=
  fun y => (show EReal from d y) + ∑ t : Fin 256, (hsB x0 x3 (ix2 (y 0) t) * lora) * (show EReal from x1 (ix2 t (y 1)))

def dgB (x0 : Vec Ideal S256x1536 .bf16) (x1 : Vec Ideal S256x8960 .bf16) (x2 : Vec Ideal S144x1536 .bf16) (x4 : Vec Ideal S144x8960 .bf16)
    (x6 : Vec Ideal S2x256 .i32) : Vec Ideal S2x256 .f32 :=
  fun y => lora * ∑ x : Fin 144, Scalar.select (mB x6 (y 0) (ix2 x (y 1))) (uB x1 x4 (ix2 x (y 1)) * hB x0 x2 (ix2 x (y 1))) (0 : EReal)

/-- A row's largest absolute value. -/
def amB (x1 : Vec Ideal S256x8960 .bf16) (r : Fin 256) : EReal :=
  Finset.fold max (Ideal.ofBits .f32 0xFF800000#32) (fun n : Fin 8960 => FloatOps.absf (F := Ideal) (φ := .f32) (x1 (ix2 r n))) Finset.univ

def codesB (x1 : Vec Ideal S256x8960 .bf16) : Vec Ideal S256x8960 .fp8e5m2 := fun y => code (amB x1 (y 0)) (x1 y)

def scolB (x1 : Vec Ideal S256x8960 .bf16) : Vec Ideal S256x128 .f32 := fun y => two (expo (amB x1 (y 0)))

def gutB (x1 : Vec Ideal S256x8960 .bf16) (x4 : Vec Ideal S144x8960 .bf16) (x5 : Vec Ideal S16x8960 .bf16) (x6 : Vec Ideal S2x256 .i32)
    (x7 : Vec Ideal S2x256 .f32) : Vec Ideal S160x256 .bf16 :=
  fun y => if h : (y 0).val < 144 then gB x1 x4 x6 x7 (ix2 (⟨(y 0).val, h⟩ : Fin 144) (y 1))
    else usB x1 x5 (ix2 (⟨(y 0).val - 144, by have h2 : (y 0).val < 160 := (y 0).isLt; omega⟩ : Fin 16) (y 1)) * lora

theorem absf_nonneg (d : EReal) : (0 : EReal) ≤ FloatOps.absf (F := Ideal) (φ := .f32) d := by
  show (0 : EReal) ≤ max d (-d)
  rcases le_total 0 d with h | h
  · exact le_max_of_le_left h
  · exact le_max_of_le_right (EReal.neg_nonneg.2 h)

/-- The largest lane of the running maxima is the row's largest absolute value. -/
theorem rowMax_eq (v : Vec Ideal S256x128 .bf16) (x1 : Vec Ideal S256x8960 .bf16) (r : Fin 256)
    (hv : ∀ (l : Fin 128) (z : EReal), (show EReal from v (ix2 r l)) ≤ z ↔ (0 : EReal) ≤ z ∧ ∀ n : Fin 8960, n.val % 128 = l.val →
      FloatOps.absf (F := Ideal) (φ := .f32) (x1 (ix2 r n)) ≤ z) : rowMax v r = amB x1 r := by
  refine eq_of_forall_ge_iff fun z => ?_
  unfold rowMax amB
  rw [Finset.fold_max_le, Finset.fold_max_le]
  refine and_congr_right fun _ => ?_
  constructor
  · intro h n _
    exact ((hv (lane n.val) z).1 (h _ (Finset.mem_univ _))).2 n rfl
  · intro h l _
    refine (hv l z).2 ⟨(absf_nonneg _).trans (h ⟨0, by decide⟩ (Finset.mem_univ _)), fun n _ => h n (Finset.mem_univ _)⟩

/-- A load of a whole argument. -/
theorem rd {S : Shape} {e : EltTy} (a : Memref sig .tc .vmem S e) (h : a.IsWhole) (x : Vec Ideal S e) {off : Fin S.rank → ℕ}
    (hz : off = fun _ => 0) (inb : ∀ b, off b + S.size b ≤ S.size b) :
    View.readAt (Elt Ideal) a.view (Rect.unit off S.size inb).toLoadRect (h.unread x) = x := by
  rw [View.readAt_eq_ld, View.ld_unit_zero hz, h.read_unread]

theorem z2 : (![0, 0] : Fin 2 → ℕ) = fun _ => 0 := by funext a; match a with | ⟨0, _⟩ => rfl | ⟨1, _⟩ => rfl

/-- A load of one row of two. -/
theorem rd_row {e : EltTy} (a : Memref sig .tc .vmem S2x256 e) (h : a.IsWhole) (x : Vec Ideal S2x256 e) (j : Fin 2)
    (inb : ∀ b, (![j.val, 0] : Fin 2 → ℕ) b + S1x256.size b ≤ S2x256.size b) (t : Fin 256) :
    View.readAt (Elt Ideal) a.view (Rect.unit (s := S2x256) ![j.val, 0] S1x256.size inb).toLoadRect (h.unread x) (ix2 0 t : S1x256.Idx) = x (ix2 j t) := by
  rw [View.readAt_eq_ld]
  refine (View.ld_unit_apply_of _ _ _ _ _ (ix2 j t : S2x256.Idx) fun b => ?_).trans (congrFun (h.read_unread x) _)
  match b with
  | ⟨0, _⟩ => show j.val = j.val + 0; omega
  | ⟨1, _⟩ => show t.val = 0 + t.val; omega

variable (c : Dev nD) (i : grid0.Coords)
  (arg1 : Memref sig .tc .vmem S256x1536 .bf16) (harg1 : arg1.IsWhole)
  (arg2 : Memref sig .tc .vmem S256x8960 .bf16) (harg2 : arg2.IsWhole)
  (arg3 : Memref sig .tc .vmem S144x1536 .bf16) (harg3 : arg3.IsWhole)
  (arg4 : Memref sig .tc .vmem S16x1536 .bf16) (harg4 : arg4.IsWhole)
  (arg5 : Memref sig .tc .vmem S144x8960 .bf16) (harg5 : arg5.IsWhole)
  (arg6 : Memref sig .tc .vmem S16x8960 .bf16) (harg6 : arg6.IsWhole)
  (arg7 : Memref sig .tc .vmem S2x256 .i32) (harg7 : arg7.IsWhole)
  (arg8 : Memref sig .tc .vmem S2x256 .f32) (harg8 : arg8.IsWhole)
  (arg9 : Memref sig .tc .vmem S144x1536 .f32) (harg9 : arg9.IsWhole)
  (arg10 : Memref sig .tc .vmem S16x1536 .f32) (harg10 : arg10.IsWhole)
  (arg11 : Memref sig .tc .vmem S144x8960 .f32) (harg11 : arg11.IsWhole)
  (arg12 : Memref sig .tc .vmem S16x8960 .f32) (harg12 : arg12.IsWhole)
  (arg13 : Memref sig .tc .vmem S2x256 .f32) (harg13 : arg13.IsWhole)
  (arg14 : Memref sig .tc .vmem S256x8960 .fp8e5m2) (harg14 : arg14.IsWhole)
  (arg15 : Memref sig .tc .vmem S16x128 .f32) (harg15 : arg15.IsWhole)
  (arg16 : Memref sig .tc .vmem S256x128 .f32) (harg16 : arg16.IsWhole)
  (arg17 : Memref sig .tc .vmem S160x256 .bf16) (harg17 : arg17.IsWhole)
  (arg18 : Memref sig .tc .vmem S144x256 .f32) (harg18 : arg18.IsWhole)
  (arg19 : Memref sig .tc .vmem S16x256 .f32) (harg19 : arg19.IsWhole)
  (arg20 : Memref sig .tc .vmem S256x128 .bf16) (harg20 : arg20.IsWhole)
  (arg21 : Memref sig .tc .vmem S2x256x128 .f32) (harg21 : arg21.IsWhole)
  (x0 : Vec Ideal S256x1536 .bf16) (x1 : Vec Ideal S256x8960 .bf16) (x2 : Vec Ideal S144x1536 .bf16) (x3 : Vec Ideal S16x1536 .bf16)
  (x4 : Vec Ideal S144x8960 .bf16) (x5 : Vec Ideal S16x8960 .bf16) (x6 : Vec Ideal S2x256 .i32) (x7 : Vec Ideal S2x256 .f32)
  (v6 : FVec Ideal S144x256 .f32) (v37 v41 : IVec S144x256 1) (v48 v51 : FVec Ideal S144x256 .bf16) (v56 : FVec Ideal S16x256 .bf16)
  (X21 : BufTy.Contents (Elt Ideal) arg21.view.ty)
  (G11 : BufTy.Contents (Elt Ideal) arg11.view.ty) (G12 : BufTy.Contents (Elt Ideal) arg12.view.ty)
  (G18 : BufTy.Contents (Elt Ideal) arg18.view.ty) (G19 : BufTy.Contents (Elt Ideal) arg19.view.ty)
  (G20 : BufTy.Contents (Elt Ideal) arg20.view.ty)

/-- The column sums a point has after its loop. -/
theorem u_read (L : List (View.Piece (Elt Ideal) S144x256 .f32)) (hL : ∀ y, (show EReal from arg18.view.read (Elt Ideal) (arg18.view.writes (Elt Ideal) arg18.view.junk L) y) = 0) :
    arg18.view.readCov ((pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v37 v41 v48 v51 v56 (harg2.unread x1) (harg5.unread x4) (harg6.unread x5) X21 G11 G12 (arg18.view.writes (Elt Ideal) arg18.view.junk L) G19 G20 (Scf.trips k0_t1_loop.lb k0_t1_loop.ub k0_t1_loop.st)).2.2.1 ++ L) (Rect.unit ![0, 0] S144x256.size inb_S144x256_S144x256_0_0).toLoadRect = uB x1 x4 := by
  funext y
  unfold View.readCov
  rw [View.readAt_eq_ld, View.ld_unit_zero z2, View.writes_append]
  refine (u_upto c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v37 v41 v48 v51 v56 (harg2.unread x1) (harg5.unread x4) (harg6.unread x5) X21 G11 G12 (arg18.view.writes (Elt Ideal) arg18.view.junk L) G19 G20 7 (le_refl 7) y).trans ?_
  rw [hL, zero_add, sum_term, harg2.read_unread, harg5.read_unread]
  rfl

/-- The shared adapter's column sums a point has after its loop. -/
theorem us_read (L : List (View.Piece (Elt Ideal) S16x256 .f32)) (hL : ∀ y, (show EReal from arg19.view.read (Elt Ideal) (arg19.view.writes (Elt Ideal) arg19.view.junk L) y) = 0) :
    arg19.view.readCov ((pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v37 v41 v48 v51 v56 (harg2.unread x1) (harg5.unread x4) (harg6.unread x5) X21 G11 G12 G18 (arg19.view.writes (Elt Ideal) arg19.view.junk L) G20 (Scf.trips k0_t1_loop.lb k0_t1_loop.ub k0_t1_loop.st)).2.2.2.1 ++ L) (Rect.unit ![0, 0] S16x256.size inb_S16x256_S16x256_0_0).toLoadRect = usB x1 x5 := by
  funext y
  unfold View.readCov
  rw [View.readAt_eq_ld, View.ld_unit_zero z2, View.writes_append]
  refine (us_upto c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v37 v41 v48 v51 v56 (harg2.unread x1) (harg5.unread x4) (harg6.unread x5) X21 G11 G12 G18 (arg19.view.writes (Elt Ideal) arg19.view.junk L) G20 7 (le_refl 7) y).trans ?_
  rw [hL, zero_add, sum_term, harg2.read_unread, harg6.read_unread]
  rfl

/-- The row maxima a point has after its loop. -/
theorem m_read (L : List (View.Piece (Elt Ideal) S256x128 .bf16)) (hL : ∀ y, (show EReal from arg20.view.read (Elt Ideal) (arg20.view.writes (Elt Ideal) arg20.view.junk L) y) = 0) (r : Fin 256) :
    rowMax (arg20.view.readCov ((pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v37 v41 v48 v51 v56 (harg2.unread x1) (harg5.unread x4) (harg6.unread x5) X21 G11 G12 G18 G19 (arg20.view.writes (Elt Ideal) arg20.view.junk L) (Scf.trips k0_t1_loop.lb k0_t1_loop.ub k0_t1_loop.st)).2.2.2.2 ++ L) (Rect.unit ![0, 0] S256x128.size inb_S256x128_S256x128_0_0).toLoadRect) r = amB x1 r := by
  unfold View.readCov
  rw [View.readAt_eq_ld, View.ld_unit_zero z2, View.writes_append]
  refine rowMax_eq _ _ _ fun l z => ?_
  refine (m_upto c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v37 v41 v48 v51 v56 (harg2.unread x1) (harg5.unread x4) (harg6.unread x5) X21 G11 G12 G18 G19 (arg20.view.writes (Elt Ideal) arg20.view.junk L) 7 (le_refl 7) (ix2 r l : S256x128.Idx) z).trans ?_
  rw [hL, harg2.read_unread]
  refine and_congr_right fun _ => forall_congr' fun n => ⟨fun h => h (by omega), fun h _ => h⟩

/-- The gates, in every lane. -/
theorem g_read (j : Fin 2) (t : Fin 256) (l : Fin 128) :
    (show EReal from arg21.view.read (Elt Ideal) (arg21.view.writes (Elt Ideal) arg21.view.junk
      [⟨Rect.unit (s := S2x256x128) ![1, 0, 0] S1x256x128.size inb_S2x256x128_S1x256x128_1_0_0, k0_pay26 (F := Ideal) (View.readAt (Elt Ideal) arg8.view (Rect.unit (s := S2x256) ![1, 0] S1x256.size inb_S2x256_S1x256_1_0).toLoadRect (harg8.unread x7))⟩,
        ⟨Rect.unit (s := S2x256x128) ![0, 0, 0] S1x256x128.size inb_S2x256x128_S1x256x128_0_0_0, k0_pay25 (F := Ideal) (View.readAt (Elt Ideal) arg8.view (Rect.unit (s := S2x256) ![0, 0] S1x256.size inb_S2x256_S1x256_0_0).toLoadRect (harg8.unread x7))⟩]) (ix3 j t l : S2x256x128.Idx))
      = x7 (ix2 j t) := by
  match j with
  | 0 =>
    refine (View.read_writes_cons_unit_of_not_mem arg21.view _ _ _ _ (ix3 0 t l : S2x256x128.Idx) rfl 0 (Or.inl (by show 0 < 1; omega))).trans ?_
    refine (View.read_writes_cons_unit_of_mem arg21.view _ _ _ _ (ix3 0 t l : S2x256x128.Idx) (ix3 0 t l : S1x256x128.Idx) rfl (fun a => by
      match a with
      | ⟨0, _⟩ => rfl
      | ⟨1, _⟩ => show t.val = 0 + t.val; omega
      | ⟨2, _⟩ => show l.val = 0 + l.val; omega)).trans ?_
    rw [pay25_at]
    exact rd_row arg8 harg8 x7 0 _ t
  | 1 =>
    refine (View.read_writes_cons_unit_of_mem arg21.view _ _ _ _ (ix3 1 t l : S2x256x128.Idx) (ix3 0 t l : S1x256x128.Idx) rfl (fun a => by
      match a with
      | ⟨0, _⟩ => rfl
      | ⟨1, _⟩ => show t.val = 0 + t.val; omega
      | ⟨2, _⟩ => show l.val = 0 + l.val; omega)).trans ?_
    rw [pay26_at]
    exact rd_row arg8 harg8 x7 1 _ t

/-- The column gradients a point leaves. -/
theorem db_read (hX : ∀ j t l, (show EReal from arg21.view.read (Elt Ideal) X21 (ix3 j t l : S2x256x128.Idx)) = x7 (ix2 j t))
    (h0 : ∀ y, (show EReal from v48 y) = hmB x0 x2 x6 0 y) (h1 : ∀ y, (show EReal from v51 y) = hmB x0 x2 x6 1 y) :
    arg11.view.read (Elt Ideal) (arg11.view.writes (Elt Ideal) G11 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v37 v41 v48 v51 v56 (harg2.unread x1) (harg5.unread x4) (harg6.unread x5) X21 G11 G12 G18 G19 G20 (Scf.trips k0_t1_loop.lb k0_t1_loop.ub k0_t1_loop.st)).1) = dbStep (arg11.view.read (Elt Ideal) G11) x0 x1 x2 x6 x7 := by
  funext y
  refine (db_upto c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v37 v41 v48 v51 v56 (harg2.unread x1) (harg5.unread x4) (harg6.unread x5) X21 G11 G12 G18 G19 G20 7 (le_refl 7) y).trans ?_
  have hy : (y 1).val < 8960 := (y 1).isLt
  rw [if_pos (by omega), harg2.read_unread]
  simp only [hX, h0, h1]
  rfl

/-- The shared adapter's column gradients a point leaves. -/
theorem dbs_read (h : ∀ y, (show EReal from v56 y) = hsB x0 x3 y * lora) :
    arg12.view.read (Elt Ideal) (arg12.view.writes (Elt Ideal) G12 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v37 v41 v48 v51 v56 (harg2.unread x1) (harg5.unread x4) (harg6.unread x5) X21 G11 G12 G18 G19 G20 (Scf.trips k0_t1_loop.lb k0_t1_loop.ub k0_t1_loop.st)).2.1) = dbsStep (arg12.view.read (Elt Ideal) G12) x0 x1 x3 := by
  funext y
  refine (dbs_upto c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v37 v41 v48 v51 v56 (harg2.unread x1) (harg5.unread x4) (harg6.unread x5) X21 G11 G12 G18 G19 G20 7 (le_refl 7) y).trans ?_
  have hy : (y 1).val < 8960 := (y 1).isLt
  rw [if_pos (by omega), harg2.read_unread]
  simp only [h]
  rfl

/-- The codes a point leaves. -/
theorem codes_read (G14 : BufTy.Contents (Elt Ideal) arg14.view.ty)
    (hX : ∀ t l, (show EReal from arg21.view.read (Elt Ideal) X21 (ix3 0 t l : S2x256x128.Idx)) = two (IntOp.subi 0#32 (expo (amB x1 t)))) :
    arg14.view.read (Elt Ideal) (arg14.view.writes (Elt Ideal) G14 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg2.unread x1) X21 (Scf.trips k0_t2_loop.lb k0_t2_loop.ub k0_t2_loop.st)))
      = codesB x1 := by
  funext y
  have hy : (y 1).val < 8960 := (y 1).isLt
  refine (codes_upto c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (harg2.unread x1) X21 G14 7 (le_refl 7) y (by omega)).trans ?_
  exact congrArg (fun b : EReal => min _ (max _ b)) (congrArg₂ (fun a b : EReal => a * b) (congrFun (harg2.read_unread x1) y) (hX (y 0) (lane (y 1).val)))

end Cert.Proof.Ad

end
-- ==== Proof.AdResults.lean ====
/-
  The results of the adapters call as functions of its arguments, token by token.
-/
module

public import proofs.«01_k».proof.Proof.AdPay
public import proofs.«01_k».proof.Proof.AdScale
public import Idealize.ShloMosaic.Lib.Pipeline.ValueKit
public import Idealize.ShloMosaic.Lib.Pointwise
public import Idealize.ShloMosaic.Lib.WritesUnit
public import Idealize.ShloMosaic.Lib.Claim

@[expose] public section

set_option maxRecDepth 16384

noncomputable section

namespace Cert.Proof.Ad

open Cert.AdaptersCmpIdeal Cert.AdaptersCmpIdeal.Gen Idealize.ShloMosaic Idealize.ShloMosaic.TcCoe Idealize.SL.Sem

variable (X : Vec Ideal S2048x1536 .bf16) (D : Vec Ideal S2048x8960 .bf16) (A : Vec Ideal S9x16x1536 .bf16)
  (B : Vec Ideal S9x8960x16 .bf16) (I : Vec Ideal S2048x2 .i32) (G : Vec Ideal S2048x2 .f32)
  (As : Vec Ideal S16x1536 .bf16) (Bs : Vec Ideal S8960x16 .bf16)

/-- The adapter of a stacked row. -/
def ad (e : Fin 144) : Fin 9 := ⟨e.val / 16, by omega⟩

/-- The rank of a stacked row. -/
def rk (e : Fin 144) : Fin 16 := ⟨e.val % 16, by omega⟩

/-- A token against a row of the adapters' first matrices. -/
def hF (s : Fin 2048) (e : Fin 144) : EReal :=
  ∑ n : Fin 1536, (show EReal from A (ix3 (ad e) (rk e) n)) * (show EReal from X (ix2 s n))

/-- A token against a row of the shared adapter's first matrix. -/
def hsF (s : Fin 2048) (r : Fin 16) : EReal := ∑ n : Fin 1536, (show EReal from As (ix2 r n)) * (show EReal from X (ix2 s n))

/-- A token's output gradient against a column of the adapters' second matrices. -/
def uF (s : Fin 2048) (e : Fin 144) : EReal :=
  ∑ n : Fin 8960, (show EReal from B (ix3 (ad e) n (rk e))) * (show EReal from D (ix2 s n))

/-- A token's output gradient against a column of the shared adapter's second matrix. -/
def usF (s : Fin 2048) (r : Fin 16) : EReal := ∑ n : Fin 8960, (show EReal from Bs (ix2 n r)) * (show EReal from D (ix2 s n))

/-- Whether choice `j` of a token is the adapter of a row. -/
def mF (j : Fin 2) (s : Fin 2048) (e : Fin 144) : BitVec 1 := IntOp.cmpi .eq (BitVec.ofNat 32 (e.val / 16)) (I (ix2 s j))

/-- The gated, masked and scaled column sums of a token. -/
def gF (s : Fin 2048) (e : Fin 144) : EReal :=
  (Scalar.select (mF I 0 s e) ((show EReal from G (ix2 s 0)) * uF D B s e) (0 : EReal)
    + Scalar.select (mF I 1 s e) ((show EReal from G (ix2 s 1)) * uF D B s e) (0 : EReal)) * lora

/-- The gradient of the adapters' first matrices. -/
def daF (y : S144x1536.Idx) : EReal := ∑ s : Fin 2048, gF D B I G s (y 0) * (show EReal from X (ix2 s (y 1)))

/-- The gradient of the shared adapter's first matrix. -/
def dasF (y : S16x1536.Idx) : EReal := ∑ s : Fin 2048, (usF D Bs s (y 0) * lora) * (show EReal from X (ix2 s (y 1)))

/-- The masked and scaled hidden products of choice `j`. -/
def hmF (j : Fin 2) (s : Fin 2048) (e : Fin 144) : EReal := Scalar.select (mF I j s e) (hF X A s e * lora) (0 : EReal)

/-- The gradient of the adapters' second matrices. -/
def dbF (y : S144x8960.Idx) : EReal :=
  ∑ s : Fin 2048, (hmF X A I 0 s (y 0) * ((show EReal from G (ix2 s 0)) * (show EReal from D (ix2 s (y 1))))
    + hmF X A I 1 s (y 0) * ((show EReal from G (ix2 s 1)) * (show EReal from D (ix2 s (y 1)))))

/-- The gradient of the shared adapter's second matrix. -/
def dbsF (y : S16x8960.Idx) : EReal := ∑ s : Fin 2048, (hsF X As s (y 0) * lora) * (show EReal from D (ix2 s (y 1)))

/-- The gradient of the gates. -/
def dgF (y : S2x2048.Idx) : EReal :=
  lora * ∑ e : Fin 144, Scalar.select (mF I (y 0) (y 1) e) (uF D B (y 1) e * hF X A (y 1) e) (0 : EReal)

/-- A token's largest absolute value. -/
def amF (s : Fin 2048) : EReal :=
  Finset.fold max (Ideal.ofBits .f32 0xFF800000#32) (fun n : Fin 8960 => FloatOps.absf (F := Ideal) (φ := .f32) (D (ix2 s n))) Finset.univ

/-- The codes of the output gradient. -/
def codesF (y : S2048x8960.Idx) : EReal := code (amF D (y 0)) (show EReal from D y)

/-- The scales of the tokens, 128 to a row. -/
def scaleF (y : S16x128.Idx) : EReal :=
  two (expo (amF D ⟨(y 0).val * 128 + (y 1).val, by have h0 : (y 0).val < 16 := (y 0).isLt; have h1 : (y 1).val < 128 := (y 1).isLt; omega⟩))

/-- The scale of a token, in every lane. -/
def scolF (y : S2048x128.Idx) : EReal := two (expo (amF D (y 0)))

/-- The weighted activations of the routed and the shared adapters. -/
def gutF (y : S160x2048.Idx) : EReal :=
  if h : (y 0).val < 144 then gF D B I G (y 1) ⟨(y 0).val, h⟩
  else usF D Bs (y 1) ⟨(y 0).val - 144, by have h2 : (y 0).val < 160 := (y 0).isLt; omega⟩ * lora

end Cert.Proof.Ad

end
-- ==== Proof.AdWhole.lean ====
/-
  The blocks the windows of the adapters call bring in, read as entries of its arguments.
-/
module

public import proofs.«01_k».proof.Proof.AdBlock
public import proofs.«01_k».proof.Proof.AdResults
public import proofs.«01_k».proof.Proof.Gen.AdaptersCmpIdeal.Points
public import proofs.«01_k».proof.Proof.CmpIdeal.Value
public import Idealize.ShloMosaic.Lib.Pipeline.ValueKit
public import Idealize.ShloMosaic.Lib.Pointwise
public import Idealize.ShloMosaic.Lib.WritesUnit
public import Idealize.ShloMosaic.Lib.Claim

@[expose] public section

set_option maxRecDepth 16384

noncomputable section

namespace Cert.Proof.Ad

open Cert.AdaptersCmpIdeal Cert.AdaptersCmpIdeal.Gen Idealize.ShloMosaic Idealize.ShloMosaic.TcCoe Idealize.SL.Sem

/-- Token `n`. -/
def tok (n : ℕ) : Fin 2048 := ⟨n % 2048, Nat.mod_lt _ (by decide)⟩

theorem tok_eq (n : ℕ) (h : n < 2048) : tok n = ⟨n, h⟩ := Fin.ext (Nat.mod_eq_of_lt h)

/-- Every window's block index at every point (decided). -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, t.val]
    ∧ win0_7.index t = ![0, t.val] ∧ win0_12.index t = ![0, t.val] ∧ win0_13.index t = ![t.val, 0]
    ∧ win0_15.index t = ![t.val, 0] ∧ win0_16.index t = ![0, t.val] ∧ t.val < 8 :=
  (by decide +kernel : ∀ t : Fin grid0.N, _)

theorem lt_8 (t : Fin cfg0.N) : t.val < 8 := (idx t).2.2.2.2.2.2.2.2.2.2.2.2

theorem tok_at (t : Fin cfg0.N) (r : Fin 256) :
    tok (t.val * 256 + r.val) = ⟨256 * t.val + r.val, by have := lt_8 t; omega⟩ := by
  rw [tok_eq _ (by have := lt_8 t; omega)]
  exact Fin.ext (by show t.val * 256 + r.val = 256 * t.val + r.val; omega)

variable (m : (ℓ : Loc nD τ sig) → Buf (Elt Ideal) ℓ) (c : Dev nD)

/-- The rows of the activations point `t` reads. -/
theorem iblk0 (t : Fin cfg0.N) (r : Fin 256) (n : Fin 1536) :
    iblk m c 0 t (ix2 r n) = m ((c : Thread nD τ).loc main_arg0) (ix2 (tok (t.val * 256 + r.val)) n) := by
  rw [tok_at]
  blk_ext! [iblk, V, idx t]

/-- The rows of the output gradient point `t` reads. -/
theorem iblk1 (t : Fin cfg0.N) (r : Fin 256) (n : Fin 8960) :
    iblk m c 1 t (ix2 r n) = m ((c : Thread nD τ).loc main_arg1) (ix2 (tok (t.val * 256 + r.val)) n) := by
  rw [tok_at]
  blk_ext! [iblk, V, idx t]

/-- The adapters' first matrices, stacked by the host. -/
theorem iblk2 (t : Fin cfg0.N) (e : Fin 144) (n : Fin 1536) :
    iblk m c 2 t (ix2 e n) = m ((c : Thread nD τ).loc main_arg2) (ix3 (ad e) (rk e) n) := by
  unfold ad rk
  blk_simp [iblk, idx t]
  entry_read
  pointwise
  blk_ext! [idx t]

/-- The shared adapter's first matrix, whole. -/
theorem iblk3 (t : Fin cfg0.N) : iblk m c 3 t = m ((c : Thread nD τ).loc main_arg6) := by
  blk_ext! [iblk, V, idx t]

/-- The adapters' second matrices, transposed and stacked by the host. -/
theorem iblk4 (t : Fin cfg0.N) (e : Fin 144) (n : Fin 8960) :
    iblk m c 4 t (ix2 e n) = m ((c : Thread nD τ).loc main_arg3) (ix3 (ad e) n (rk e)) := by
  unfold ad rk
  blk_simp [iblk, idx t]
  entry_read
  pointwise
  blk_ext! [idx t]

/-- The shared adapter's second matrix, transposed by the host. -/
theorem iblk5 (t : Fin cfg0.N) (r : Fin 16) (n : Fin 8960) :
    iblk m c 5 t (ix2 r n) = m ((c : Thread nD τ).loc main_arg7) (ix2 n r) := by
  blk_simp [iblk, idx t]
  entry_read
  pointwise
  blk_ext! [idx t]

/-- The choices of the tokens point `t` reads, transposed by the host. -/
theorem iblk6 (t : Fin cfg0.N) (j : Fin 2) (r : Fin 256) :
    iblk m c 6 t (ix2 j r) = m ((c : Thread nD τ).loc main_arg4) (ix2 (tok (t.val * 256 + r.val)) j) := by
  rw [tok_at]
  blk_simp [iblk, idx t]
  entry_read
  pointwise
  blk_ext! [idx t]

/-- The gates of the tokens point `t` reads, transposed by the host. -/
theorem iblk7 (t : Fin cfg0.N) (j : Fin 2) (r : Fin 256) :
    iblk m c 7 t (ix2 j r) = m ((c : Thread nD τ).loc main_arg5) (ix2 (tok (t.val * 256 + r.val)) j) := by
  rw [tok_at]
  blk_simp [iblk, idx t]
  entry_read
  pointwise
  blk_ext! [idx t]

end Cert.Proof.Ad

end
-- ==== Proof.AdCaseA.lean ====
/-
  What the first grid point of the adapters call leaves.
-/
module

public import proofs.«01_k».proof.Proof.AdBlock
public import proofs.«01_k».proof.Proof.CmpIdeal.Value
public import Idealize.ShloMosaic.Lib.Pipeline.ValueKit
public import Idealize.ShloMosaic.Lib.Pointwise
public import Idealize.ShloMosaic.Lib.WritesUnit
public import Idealize.ShloMosaic.Lib.Claim

@[expose] public section

set_option maxRecDepth 16384

noncomputable section

namespace Cert.Proof.Ad.A

open Cert.AdaptersCmpIdeal Cert.AdaptersCmpIdeal.Gen Idealize.ShloMosaic Idealize.ShloMosaic.TcCoe Idealize.SL.Sem

variable (c : Dev nD) (i : grid0.Coords)
  (arg1 : Memref sig .tc .vmem S256x1536 .bf16) (harg1 : arg1.IsWhole)
  (arg2 : Memref sig .tc .vmem S256x8960 .bf16) (harg2 : arg2.IsWhole)
  (arg3 : Memref sig .tc .vmem S144x1536 .bf16) (harg3 : arg3.IsWhole)
  (arg4 : Memref sig .tc .vmem S16x1536 .bf16) (harg4 : arg4.IsWhole)
  (arg5 : Memref sig .tc .vmem S144x8960 .bf16) (harg5 : arg5.IsWhole)
  (arg6 : Memref sig .tc .vmem S16x8960 .bf16) (harg6 : arg6.IsWhole)
  (arg7 : Memref sig .tc .vmem S2x256 .i32) (harg7 : arg7.IsWhole)
  (arg8 : Memref sig .tc .vmem S2x256 .f32) (harg8 : arg8.IsWhole)
  (arg9 : Memref sig .tc .vmem S144x1536 .f32) (harg9 : arg9.IsWhole)
  (arg10 : Memref sig .tc .vmem S16x1536 .f32) (harg10 : arg10.IsWhole)
  (arg11 : Memref sig .tc .vmem S144x8960 .f32) (harg11 : arg11.IsWhole)
  (arg12 : Memref sig .tc .vmem S16x8960 .f32) (harg12 : arg12.IsWhole)
  (arg13 : Memref sig .tc .vmem S2x256 .f32) (harg13 : arg13.IsWhole)
  (arg14 : Memref sig .tc .vmem S256x8960 .fp8e5m2) (harg14 : arg14.IsWhole)
  (arg15 : Memref sig .tc .vmem S16x128 .f32) (harg15 : arg15.IsWhole)
  (arg16 : Memref sig .tc .vmem S256x128 .f32) (harg16 : arg16.IsWhole)
  (arg17 : Memref sig .tc .vmem S160x256 .bf16) (harg17 : arg17.IsWhole)
  (arg18 : Memref sig .tc .vmem S144x256 .f32) (harg18 : arg18.IsWhole)
  (arg19 : Memref sig .tc .vmem S16x256 .f32) (harg19 : arg19.IsWhole)
  (arg20 : Memref sig .tc .vmem S256x128 .bf16) (harg20 : arg20.IsWhole)
  (arg21 : Memref sig .tc .vmem S2x256x128 .f32) (harg21 : arg21.IsWhole)
  (x0 : Vec Ideal S256x1536 .bf16) (x1 : Vec Ideal S256x8960 .bf16) (x2 : Vec Ideal S144x1536 .bf16) (x3 : Vec Ideal S16x1536 .bf16)
  (x4 : Vec Ideal S144x8960 .bf16) (x5 : Vec Ideal S16x8960 .bf16) (x6 : Vec Ideal S2x256 .i32) (x7 : Vec Ideal S2x256 .f32)

theorem u : kernelRun0_A.sl.v86 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 = uB x1 x4 := by
  refine u_read (x1 := x1) (x4 := x4) (hL := fun y => ?_) ..
  refine (View.read_writes_cons_unit_of_mem arg18.view _ _ _ _ y y rfl (fun a => (by match a with | ⟨0, _⟩ => exact (Nat.zero_add _).symm | ⟨1, _⟩ => exact (Nat.zero_add _).symm))).trans (zero27 y)

theorem us : kernelRun0_A.sl.v87 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 = usB x1 x5 := by
  refine us_read (x1 := x1) (x5 := x5) (hL := fun y => ?_) ..
  refine (View.read_writes_cons_unit_of_mem arg19.view _ _ _ _ y y rfl (fun a => (by match a with | ⟨0, _⟩ => exact (Nat.zero_add _).symm | ⟨1, _⟩ => exact (Nat.zero_add _).symm))).trans (zero28 y)

theorem mx (r : Fin 256) : rowMax (kernelRun0_A.sl.v142 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7) r = amB x1 r := by
  refine m_read (x1 := x1) (hL := fun y => ?_) (r := r) ..
  refine (View.read_writes_cons_unit_of_mem arg20.view _ _ _ _ y y rfl (fun a => (by match a with | ⟨0, _⟩ => exact (Nat.zero_add _).symm | ⟨1, _⟩ => exact (Nat.zero_add _).symm))).trans (zero29 y)

theorem xx : kernelRun0_A.sl.r (F := Ideal) c arg1 harg1 x0 = x0 := rd arg1 harg1 x0 z2 _

theorem h (y : S144x256.Idx) : kernelRun0_A.sl.r_1 (F := Ideal) c arg1 harg1 arg3 harg3 x0 x2 y = hB x0 x2 y := by
  unfold kernelRun0_A.sl.r_1
  rw [rd arg1 harg1 x0 z2, rd arg3 harg3 x2 z2]
  exact pay16_at x0 x2 y

theorem m0 (y : S144x256.Idx) : kernelRun0_A.sl.r_3 (F := Ideal) c arg7 harg7 x6 y = mB x6 0 y :=
  (pay19_at _ y).trans (congrArg (IntOp.cmpi .eq _) (rd_row arg7 harg7 x6 0 _ (y 1)))

theorem m1 (y : S144x256.Idx) : kernelRun0_A.sl.r_4 (F := Ideal) c arg7 harg7 x6 y = mB x6 1 y :=
  (pay20_at _ y).trans (congrArg (IntOp.cmpi .eq _) (rd_row arg7 harg7 x6 1 _ (y 1)))

theorem hm0 (y : S144x256.Idx) : kernelRun0_A.sl.r_5 (F := Ideal) c arg1 harg1 arg3 harg3 arg7 harg7 x0 x2 x6 y = hmB x0 x2 x6 0 y := by
  refine (pay22_at _ _ y).trans ?_
  unfold hmB
  rw [← h c arg1 harg1 arg3 harg3 x0 x2 y, ← m0 c arg7 harg7 x6 y]

theorem hm1 (y : S144x256.Idx) : kernelRun0_A.sl.r_6 (F := Ideal) c arg1 harg1 arg3 harg3 arg7 harg7 x0 x2 x6 y = hmB x0 x2 x6 1 y := by
  refine (pay23_at _ _ y).trans ?_
  unfold hmB
  rw [← h c arg1 harg1 arg3 harg3 x0 x2 y, ← m1 c arg7 harg7 x6 y]
  rfl

theorem hs (y : S16x256.Idx) : (show EReal from kernelRun0_A.sl.r_7 (F := Ideal) c arg1 harg1 arg4 harg4 x0 x3 y) = hsB x0 x3 y * lora := by
  refine (pay24_at _ y).trans (congrArg (fun b : EReal => b * lora) ?_)
  refine (congrFun (congrArg₂ (k0_pay17 (F := Ideal)) (rd arg1 harg1 x0 z2 _) (rd arg4 harg4 x3 z2 _)) y).trans ?_
  exact pay17_at x0 x3 y

theorem g (w : FVec Ideal S144x256 .f32) (hw : w = uB x1 x4) (y : S144x256.Idx) :
    k0_pay34 (F := Ideal) (kernelRun0_A.sl.r_3 c arg7 harg7 x6) (kernelRun0_A.sl.r_4 c arg7 harg7 x6) w (kernelRun0_A.sl.r_8 c arg8 harg8 x7)
      (View.readAt (Elt Ideal) arg8.view (Rect.unit (s := S2x256) ![1, 0] S1x256.size inb_S2x256_S1x256_1_0).toLoadRect (harg8.unread x7)) y = gB x1 x4 x6 x7 y := by
  subst hw
  refine (pay34_at _ _ _ _ _ y).trans ?_
  unfold gB
  rw [m0, m1]
  exact congrArg (fun b : EReal => b * lora) (congrArg₂ (fun a b : EReal => a + b)
    (congrArg (fun q : EReal => Scalar.select (mB x6 0 y) (q * uB x1 x4 y) (0 : EReal)) (rd_row arg8 harg8 x7 0 _ (y 1)))
    (congrArg (fun q : EReal => Scalar.select (mB x6 1 y) (q * uB x1 x4 y) (0 : EReal)) (rd_row arg8 harg8 x7 1 _ (y 1))))

theorem out8 (hc0 : cond0_0 i) : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 = daStep (fun _ => (0 : EReal)) x0 x1 x4 x6 x7 := by
  funext y
  unfold out0_A_8 kernelRun0_A
  dsimp only
  refine (View.read_writes_cons_unit_of_mem VO0_8 _ _ _ _ y y rfl (fun a => (by match a with | ⟨0, _⟩ => exact (Nat.zero_add _).symm | ⟨1, _⟩ => exact (Nat.zero_add _).symm))).trans ?_
  refine (pay36_at _ _ _ _ _ _ _ y).trans ?_
  refine congrArg₂ (fun a b : EReal => a + b) ((congrFun (View.readCov_unit_zero arg9.view z2 _ _) y).trans (zero14 y)) (Finset.sum_congr rfl fun t _ => congrArg₂ (fun a b : EReal => a * b) ?_ ?_)
  · exact g c arg7 harg7 arg8 harg8 x1 x4 x6 x7 _ (u c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7) _
  · exact congrFun (rd arg1 harg1 x0 z2 _) _

theorem out9 (hc0 : cond0_0 i) : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 = dasStep (fun _ => (0 : EReal)) x0 x1 x5 := by
  funext y
  unfold out0_A_9 kernelRun0_A
  dsimp only
  refine (View.read_writes_cons_unit_of_mem VO0_9 _ _ _ _ y y rfl (fun a => (by match a with | ⟨0, _⟩ => exact (Nat.zero_add _).symm | ⟨1, _⟩ => exact (Nat.zero_add _).symm))).trans ?_
  refine (pay37_at _ _ _ y).trans ?_
  refine congrArg₂ (fun a b : EReal => a + b) ((congrFun (View.readCov_unit_zero arg10.view z2 _ _) y).trans (zero15 y)) (Finset.sum_congr rfl fun t _ => congrArg₂ (fun a b : EReal => a * b) ?_ ?_)
  · refine (pay35_at _ _).trans (congrArg (fun b : EReal => b * lora) ?_)
    exact congrFun (us c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7) _
  · exact congrFun (rd arg1 harg1 x0 z2 _) _

theorem out10 (hc0 : cond0_0 i) : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 = dbStep (fun _ => (0 : EReal)) x0 x1 x2 x6 x7 := by
  have hcov := cover0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7
  unfold out0_A_10
  rw [View.read_writes_eq_canon _ _ _ hcov, ← View.read_writes_eq_canon arg11.view arg11.view.junk _ hcov]
  unfold kernelRun0_A
  dsimp only
  rw [View.writes_append]
  refine (db_read (x0 := x0) (x2 := x2) (x6 := x6) (x7 := x7) (hX := g_read arg8 harg8 arg21 x7) (h0 := hm0 c arg1 harg1 arg3 harg3 arg7 harg7 x0 x2 x6) (h1 := hm1 c arg1 harg1 arg3 harg3 arg7 harg7 x0 x2 x6) ..).trans ?_
  exact congrArg (fun d => dbStep d x0 x1 x2 x6 x7) (funext fun y => (View.read_writes_cons_unit_of_mem arg11.view _ _ _ _ y y rfl (fun a => (by match a with | ⟨0, _⟩ => exact (Nat.zero_add _).symm | ⟨1, _⟩ => exact (Nat.zero_add _).symm))).trans (zero12 y))

theorem out11 (hc0 : cond0_0 i) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 = dbsStep (fun _ => (0 : EReal)) x0 x1 x3 := by
  have hcov := cover0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7
  unfold out0_A_11
  rw [View.read_writes_eq_canon _ _ _ hcov, ← View.read_writes_eq_canon arg12.view arg12.view.junk _ hcov]
  unfold kernelRun0_A
  dsimp only
  rw [View.writes_append]
  refine (dbs_read (x0 := x0) (x3 := x3) (h := hs c arg1 harg1 arg4 harg4 x0 x3) ..).trans ?_
  exact congrArg (fun d => dbsStep d x0 x1 x3) (funext fun y => (View.read_writes_cons_unit_of_mem arg12.view _ _ _ _ y y rfl (fun a => (by match a with | ⟨0, _⟩ => exact (Nat.zero_add _).symm | ⟨1, _⟩ => exact (Nat.zero_add _).symm))).trans (zero13 y))

theorem out12 (hc0 : cond0_0 i) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 = dgB x0 x1 x2 x4 x6 := by
  funext y
  unfold out0_A_12 kernelRun0_A
  dsimp only
  unfold kernelRun0_A.sl.H12_2
  have hy : (y 0).val < 2 := (y 0).isLt
  by_cases h0 : (y 0).val = 0
  · have hy0 : y 0 = (0 : Fin 2) := Fin.ext h0
    refine (View.read_writes_cons_unit_of_not_mem VO0_12 _ _ _ _ y rfl 0 (Or.inl (by show (y 0).val < 1; omega))).trans ?_
    refine (View.read_writes_cons_unit_of_mem VO0_12 _ _ _ _ y (ix2 0 (y 1) : S1x256.Idx) rfl (fun a => by
      match a with
      | ⟨0, _⟩ => show (y 0).val = 0 + 0; omega
      | ⟨1, _⟩ => show (y 1).val = 0 + (y 1).val; omega)).trans ?_
    refine (pay31_at _ _ _ _).trans ?_
    unfold dgB
    rw [hy0]
    refine congrArg (fun b : EReal => lora * b) (Finset.sum_congr rfl fun x _ => ?_)
    rw [u, m0]
    exact congrArg (fun b : EReal => Scalar.select _ (_ * b) (0 : EReal)) (h c arg1 harg1 arg3 harg3 x0 x2 _)
  · have hy1 : y 0 = (1 : Fin 2) := Fin.ext (by show (y 0).val = 1; omega)
    refine (View.read_writes_cons_unit_of_mem VO0_12 _ _ _ _ y (ix2 0 (y 1) : S1x256.Idx) rfl (fun a => by
      match a with
      | ⟨0, _⟩ => show (y 0).val = 1 + 0; omega
      | ⟨1, _⟩ => show (y 1).val = 0 + (y 1).val; omega)).trans ?_
    refine (pay32_at _ _ _ _).trans ?_
    unfold dgB
    rw [hy1]
    refine congrArg (fun b : EReal => lora * b) (Finset.sum_congr rfl fun x _ => ?_)
    rw [u, m1]
    exact congrArg (fun b : EReal => Scalar.select _ (_ * b) (0 : EReal)) (h c arg1 harg1 arg3 harg3 x0 x2 _)

theorem out13 (hc0 : cond0_0 i) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 = codesB x1 := by
  have hcov := cover0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7
  unfold out0_A_13
  rw [View.read_writes_eq_canon _ _ _ hcov, ← View.read_writes_eq_canon arg14.view arg14.view.junk _ hcov]
  unfold kernelRun0_A
  dsimp only
  refine codes_read (x1 := x1) (hX := fun t l => ?_) ..
  refine (View.read_writes_cons_unit_of_mem arg21.view _ _ _ _ (ix3 0 t l : S2x256x128.Idx) (ix3 0 t l : S1x256x128.Idx) rfl (fun a => by
    match a with
    | ⟨0, _⟩ => rfl
    | ⟨1, _⟩ => show t.val = 0 + t.val; omega
    | ⟨2, _⟩ => show l.val = 0 + l.val; omega)).trans ?_
  refine (gain_at (kernelRun0_A.sl.v142 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7) _).trans ?_
  exact congrArg (fun a => two (IntOp.subi 0#32 (expo a))) (mx c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 t)

theorem out15 (hc0 : cond0_0 i) : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 = scolB x1 := by
  funext y
  unfold out0_A_15 kernelRun0_A
  dsimp only
  unfold kernelRun0_A.sl.H15_1
  refine (View.read_writes_cons_unit_of_mem VO0_15 _ _ _ _ y y rfl (fun a => (by match a with | ⟨0, _⟩ => exact (Nat.zero_add _).symm | ⟨1, _⟩ => exact (Nat.zero_add _).symm))).trans ?_
  refine (scale_at (kernelRun0_A.sl.v142 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7) y).trans ?_
  exact congrArg (fun a => two (expo a)) (mx c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 (y 0))

theorem out16 (hc0 : cond0_0 i) : out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 = gutB x1 x4 x5 x6 x7 := by
  funext y
  unfold out0_A_16 kernelRun0_A gutB
  dsimp only
  unfold kernelRun0_A.sl.H16_2
  have hy : (y 0).val < 160 := (y 0).isLt
  by_cases h0 : (y 0).val < 144
  · rw [dif_pos h0]
    refine (View.read_writes_cons_unit_of_not_mem VO0_16 _ _ _ _ y rfl 0 (Or.inl (by show (y 0).val < 144; omega))).trans ?_
    refine (View.read_writes_cons_unit_of_mem VO0_16 _ _ _ _ y (ix2 (⟨(y 0).val, h0⟩ : Fin 144) (y 1) : S144x256.Idx) rfl (fun a => by
      match a with
      | ⟨0, _⟩ => show (y 0).val = 0 + (y 0).val; omega
      | ⟨1, _⟩ => show (y 1).val = 0 + (y 1).val; omega)).trans ?_
    exact g c arg7 harg7 arg8 harg8 x1 x4 x6 x7 _ (u c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7) _
  · rw [dif_neg h0]
    refine (View.read_writes_cons_unit_of_mem VO0_16 _ _ _ _ y (ix2 (⟨(y 0).val - 144, by omega⟩ : Fin 16) (y 1) : S16x256.Idx) rfl (fun a => by
      match a with
      | ⟨0, _⟩ => show (y 0).val = 144 + ((y 0).val - 144); omega
      | ⟨1, _⟩ => show (y 1).val = 0 + (y 1).val; omega)).trans ?_
    refine (pay35_at _ _).trans (congrArg (fun b : EReal => b * lora) ?_)
    exact congrFun (us c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7) _

end Cert.Proof.Ad.A

end
-- ==== Proof.AdCaseB.lean ====
/-
  What the other grid points of the adapters call leave.
-/
module

public import proofs.«01_k».proof.Proof.AdBlock
public import proofs.«01_k».proof.Proof.CmpIdeal.Value
public import Idealize.ShloMosaic.Lib.Pipeline.ValueKit
public import Idealize.ShloMosaic.Lib.Pointwise
public import Idealize.ShloMosaic.Lib.WritesUnit
public import Idealize.ShloMosaic.Lib.Claim

@[expose] public section

set_option maxRecDepth 16384

noncomputable section

namespace Cert.Proof.Ad.B

open Cert.AdaptersCmpIdeal Cert.AdaptersCmpIdeal.Gen Idealize.ShloMosaic Idealize.ShloMosaic.TcCoe Idealize.SL.Sem

variable (c : Dev nD) (i : grid0.Coords)
  (arg1 : Memref sig .tc .vmem S256x1536 .bf16) (harg1 : arg1.IsWhole)
  (arg2 : Memref sig .tc .vmem S256x8960 .bf16) (harg2 : arg2.IsWhole)
  (arg3 : Memref sig .tc .vmem S144x1536 .bf16) (harg3 : arg3.IsWhole)
  (arg4 : Memref sig .tc .vmem S16x1536 .bf16) (harg4 : arg4.IsWhole)
  (arg5 : Memref sig .tc .vmem S144x8960 .bf16) (harg5 : arg5.IsWhole)
  (arg6 : Memref sig .tc .vmem S16x8960 .bf16) (harg6 : arg6.IsWhole)
  (arg7 : Memref sig .tc .vmem S2x256 .i32) (harg7 : arg7.IsWhole)
  (arg8 : Memref sig .tc .vmem S2x256 .f32) (harg8 : arg8.IsWhole)
  (arg9 : Memref sig .tc .vmem S144x1536 .f32) (harg9 : arg9.IsWhole)
  (arg10 : Memref sig .tc .vmem S16x1536 .f32) (harg10 : arg10.IsWhole)
  (arg11 : Memref sig .tc .vmem S144x8960 .f32) (harg11 : arg11.IsWhole)
  (arg12 : Memref sig .tc .vmem S16x8960 .f32) (harg12 : arg12.IsWhole)
  (arg13 : Memref sig .tc .vmem S2x256 .f32) (harg13 : arg13.IsWhole)
  (arg14 : Memref sig .tc .vmem S256x8960 .fp8e5m2) (harg14 : arg14.IsWhole)
  (arg15 : Memref sig .tc .vmem S16x128 .f32) (harg15 : arg15.IsWhole)
  (arg16 : Memref sig .tc .vmem S256x128 .f32) (harg16 : arg16.IsWhole)
  (arg17 : Memref sig .tc .vmem S160x256 .bf16) (harg17 : arg17.IsWhole)
  (arg18 : Memref sig .tc .vmem S144x256 .f32) (harg18 : arg18.IsWhole)
  (arg19 : Memref sig .tc .vmem S16x256 .f32) (harg19 : arg19.IsWhole)
  (arg20 : Memref sig .tc .vmem S256x128 .bf16) (harg20 : arg20.IsWhole)
  (arg21 : Memref sig .tc .vmem S2x256x128 .f32) (harg21 : arg21.IsWhole)
  (x0 : Vec Ideal S256x1536 .bf16) (x1 : Vec Ideal S256x8960 .bf16) (x2 : Vec Ideal S144x1536 .bf16) (x3 : Vec Ideal S16x1536 .bf16)
  (x4 : Vec Ideal S144x8960 .bf16) (x5 : Vec Ideal S16x8960 .bf16) (x6 : Vec Ideal S2x256 .i32) (x7 : Vec Ideal S2x256 .f32)
  (xo8 : Vec Ideal S144x1536 .f32) (xo9 : Vec Ideal S16x1536 .f32) (xo10 : Vec Ideal S144x8960 .f32) (xo11 : Vec Ideal S16x8960 .f32)

theorem u : kernelRun0_B.sl.v86 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 xo10 xo11 = uB x1 x4 := by
  refine u_read (x1 := x1) (x4 := x4) (hL := fun y => ?_) ..
  refine (View.read_writes_cons_unit_of_mem arg18.view _ _ _ _ y y rfl (fun a => (by match a with | ⟨0, _⟩ => exact (Nat.zero_add _).symm | ⟨1, _⟩ => exact (Nat.zero_add _).symm))).trans (zero27 y)

theorem us : kernelRun0_B.sl.v87 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 xo10 xo11 = usB x1 x5 := by
  refine us_read (x1 := x1) (x5 := x5) (hL := fun y => ?_) ..
  refine (View.read_writes_cons_unit_of_mem arg19.view _ _ _ _ y y rfl (fun a => (by match a with | ⟨0, _⟩ => exact (Nat.zero_add _).symm | ⟨1, _⟩ => exact (Nat.zero_add _).symm))).trans (zero28 y)

theorem mx (r : Fin 256) : rowMax (kernelRun0_B.sl.v142 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 xo10 xo11) r = amB x1 r := by
  refine m_read (x1 := x1) (hL := fun y => ?_) (r := r) ..
  refine (View.read_writes_cons_unit_of_mem arg20.view _ _ _ _ y y rfl (fun a => (by match a with | ⟨0, _⟩ => exact (Nat.zero_add _).symm | ⟨1, _⟩ => exact (Nat.zero_add _).symm))).trans (zero29 y)

theorem xx : kernelRun0_B.sl.r (F := Ideal) c arg1 harg1 x0 = x0 := rd arg1 harg1 x0 z2 _

theorem h (y : S144x256.Idx) : kernelRun0_B.sl.r_1 (F := Ideal) c arg1 harg1 arg3 harg3 x0 x2 y = hB x0 x2 y := by
  unfold kernelRun0_B.sl.r_1
  rw [rd arg1 harg1 x0 z2, rd arg3 harg3 x2 z2]
  exact pay16_at x0 x2 y

theorem m0 (y : S144x256.Idx) : kernelRun0_B.sl.r_3 (F := Ideal) c arg7 harg7 x6 y = mB x6 0 y :=
  (pay19_at _ y).trans (congrArg (IntOp.cmpi .eq _) (rd_row arg7 harg7 x6 0 _ (y 1)))

theorem m1 (y : S144x256.Idx) : kernelRun0_B.sl.r_4 (F := Ideal) c arg7 harg7 x6 y = mB x6 1 y :=
  (pay20_at _ y).trans (congrArg (IntOp.cmpi .eq _) (rd_row arg7 harg7 x6 1 _ (y 1)))

theorem hm0 (y : S144x256.Idx) : kernelRun0_B.sl.r_5 (F := Ideal) c arg1 harg1 arg3 harg3 arg7 harg7 x0 x2 x6 y = hmB x0 x2 x6 0 y := by
  refine (pay22_at _ _ y).trans ?_
  unfold hmB
  rw [← h c arg1 harg1 arg3 harg3 x0 x2 y, ← m0 c arg7 harg7 x6 y]

theorem hm1 (y : S144x256.Idx) : kernelRun0_B.sl.r_6 (F := Ideal) c arg1 harg1 arg3 harg3 arg7 harg7 x0 x2 x6 y = hmB x0 x2 x6 1 y := by
  refine (pay23_at _ _ y).trans ?_
  unfold hmB
  rw [← h c arg1 harg1 arg3 harg3 x0 x2 y, ← m1 c arg7 harg7 x6 y]
  rfl

theorem hs (y : S16x256.Idx) : (show EReal from kernelRun0_B.sl.r_7 (F := Ideal) c arg1 harg1 arg4 harg4 x0 x3 y) = hsB x0 x3 y * lora := by
  refine (pay24_at _ y).trans (congrArg (fun b : EReal => b * lora) ?_)
  refine (congrFun (congrArg₂ (k0_pay17 (F := Ideal)) (rd arg1 harg1 x0 z2 _) (rd arg4 harg4 x3 z2 _)) y).trans ?_
  exact pay17_at x0 x3 y

theorem g (w : FVec Ideal S144x256 .f32) (hw : w = uB x1 x4) (y : S144x256.Idx) :
    k0_pay34 (F := Ideal) (kernelRun0_B.sl.r_3 c arg7 harg7 x6) (kernelRun0_B.sl.r_4 c arg7 harg7 x6) w (kernelRun0_B.sl.r_8 c arg8 harg8 x7)
      (View.readAt (Elt Ideal) arg8.view (Rect.unit (s := S2x256) ![1, 0] S1x256.size inb_S2x256_S1x256_1_0).toLoadRect (harg8.unread x7)) y = gB x1 x4 x6 x7 y := by
  subst hw
  refine (pay34_at _ _ _ _ _ y).trans ?_
  unfold gB
  rw [m0, m1]
  exact congrArg (fun b : EReal => b * lora) (congrArg₂ (fun a b : EReal => a + b)
    (congrArg (fun q : EReal => Scalar.select (mB x6 0 y) (q * uB x1 x4 y) (0 : EReal)) (rd_row arg8 harg8 x7 0 _ (y 1)))
    (congrArg (fun q : EReal => Scalar.select (mB x6 1 y) (q * uB x1 x4 y) (0 : EReal)) (rd_row arg8 harg8 x7 1 _ (y 1))))

theorem out8 (hc0 : ¬cond0_0 i) : out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11 = daStep xo8 x0 x1 x4 x6 x7 := by
  funext y
  unfold out0_B_8 kernelRun0_B
  dsimp only
  unfold kernelRun0_B.sl.H8_1
  refine (View.read_writes_cons_unit_of_mem VO0_8 _ _ _ _ y y rfl (fun a => (by match a with | ⟨0, _⟩ => exact (Nat.zero_add _).symm | ⟨1, _⟩ => exact (Nat.zero_add _).symm))).trans ?_
  refine (pay36_at _ _ _ _ _ _ _ y).trans ?_
  refine congrArg₂ (fun a b : EReal => a + b) (congrFun (rd arg9 harg9 xo8 z2 _) y) (Finset.sum_congr rfl fun t _ => congrArg₂ (fun a b : EReal => a * b) ?_ ?_)
  · exact g c arg7 harg7 arg8 harg8 x1 x4 x6 x7 _ (u c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 xo10 xo11) _
  · exact congrFun (rd arg1 harg1 x0 z2 _) _

theorem out9 (hc0 : ¬cond0_0 i) : out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11 = dasStep xo9 x0 x1 x5 := by
  funext y
  unfold out0_B_9 kernelRun0_B
  dsimp only
  unfold kernelRun0_B.sl.H9_1
  refine (View.read_writes_cons_unit_of_mem VO0_9 _ _ _ _ y y rfl (fun a => (by match a with | ⟨0, _⟩ => exact (Nat.zero_add _).symm | ⟨1, _⟩ => exact (Nat.zero_add _).symm))).trans ?_
  refine (pay37_at _ _ _ y).trans ?_
  refine congrArg₂ (fun a b : EReal => a + b) (congrFun (rd arg10 harg10 xo9 z2 _) y) (Finset.sum_congr rfl fun t _ => congrArg₂ (fun a b : EReal => a * b) ?_ ?_)
  · refine (pay35_at _ _).trans (congrArg (fun b : EReal => b * lora) ?_)
    exact congrFun (us c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 xo10 xo11) _
  · exact congrFun (rd arg1 harg1 x0 z2 _) _

theorem out10 (hc0 : ¬cond0_0 i) : out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11 = dbStep xo10 x0 x1 x2 x6 x7 := by
  have hcov := cover0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11
  unfold out0_B_10
  rw [View.read_writes_eq_canon _ _ _ hcov, ← View.read_writes_eq_canon arg11.view (harg11.unread xo10) _ hcov]
  unfold kernelRun0_B
  dsimp only
  refine (db_read (x0 := x0) (x2 := x2) (x6 := x6) (x7 := x7) (hX := g_read arg8 harg8 arg21 x7) (h0 := hm0 c arg1 harg1 arg3 harg3 arg7 harg7 x0 x2 x6) (h1 := hm1 c arg1 harg1 arg3 harg3 arg7 harg7 x0 x2 x6) ..).trans ?_
  exact congrArg (fun d => dbStep d x0 x1 x2 x6 x7) (harg11.read_unread xo10)

theorem out11 (hc0 : ¬cond0_0 i) : out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11 = dbsStep xo11 x0 x1 x3 := by
  have hcov := cover0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11
  unfold out0_B_11
  rw [View.read_writes_eq_canon _ _ _ hcov, ← View.read_writes_eq_canon arg12.view (harg12.unread xo11) _ hcov]
  unfold kernelRun0_B
  dsimp only
  refine (dbs_read (x0 := x0) (x3 := x3) (h := hs c arg1 harg1 arg4 harg4 x0 x3) ..).trans ?_
  exact congrArg (fun d => dbsStep d x0 x1 x3) (harg12.read_unread xo11)

theorem out12 (hc0 : ¬cond0_0 i) : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11 = dgB x0 x1 x2 x4 x6 := by
  funext y
  unfold out0_B_12 kernelRun0_B
  dsimp only
  unfold kernelRun0_B.sl.H12_2
  have hy : (y 0).val < 2 := (y 0).isLt
  by_cases h0 : (y 0).val = 0
  · have hy0 : y 0 = (0 : Fin 2) := Fin.ext h0
    refine (View.read_writes_cons_unit_of_not_mem VO0_12 _ _ _ _ y rfl 0 (Or.inl (by show (y 0).val < 1; omega))).trans ?_
    refine (View.read_writes_cons_unit_of_mem VO0_12 _ _ _ _ y (ix2 0 (y 1) : S1x256.Idx) rfl (fun a => by
      match a with
      | ⟨0, _⟩ => show (y 0).val = 0 + 0; omega
      | ⟨1, _⟩ => show (y 1).val = 0 + (y 1).val; omega)).trans ?_
    refine (pay31_at _ _ _ _).trans ?_
    unfold dgB
    rw [hy0]
    refine congrArg (fun b : EReal => lora * b) (Finset.sum_congr rfl fun x _ => ?_)
    rw [u, m0]
    exact congrArg (fun b : EReal => Scalar.select _ (_ * b) (0 : EReal)) (h c arg1 harg1 arg3 harg3 x0 x2 _)
  · have hy1 : y 0 = (1 : Fin 2) := Fin.ext (by show (y 0).val = 1; omega)
    refine (View.read_writes_cons_unit_of_mem VO0_12 _ _ _ _ y (ix2 0 (y 1) : S1x256.Idx) rfl (fun a => by
      match a with
      | ⟨0, _⟩ => show (y 0).val = 1 + 0; omega
      | ⟨1, _⟩ => show (y 1).val = 0 + (y 1).val; omega)).trans ?_
    refine (pay32_at _ _ _ _).trans ?_
    unfold dgB
    rw [hy1]
    refine congrArg (fun b : EReal => lora * b) (Finset.sum_congr rfl fun x _ => ?_)
    rw [u, m1]
    exact congrArg (fun b : EReal => Scalar.select _ (_ * b) (0 : EReal)) (h c arg1 harg1 arg3 harg3 x0 x2 _)

theorem out13 (hc0 : ¬cond0_0 i) : out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11 = codesB x1 := by
  have hcov := cover0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11
  unfold out0_B_13
  rw [View.read_writes_eq_canon _ _ _ hcov, ← View.read_writes_eq_canon arg14.view arg14.view.junk _ hcov]
  unfold kernelRun0_B
  dsimp only
  refine codes_read (x1 := x1) (hX := fun t l => ?_) ..
  refine (View.read_writes_cons_unit_of_mem arg21.view _ _ _ _ (ix3 0 t l : S2x256x128.Idx) (ix3 0 t l : S1x256x128.Idx) rfl (fun a => by
    match a with
    | ⟨0, _⟩ => rfl
    | ⟨1, _⟩ => show t.val = 0 + t.val; omega
    | ⟨2, _⟩ => show l.val = 0 + l.val; omega)).trans ?_
  refine (gain_at (kernelRun0_B.sl.v142 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 xo10 xo11) _).trans ?_
  exact congrArg (fun a => two (IntOp.subi 0#32 (expo a))) (mx c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 xo10 xo11 t)

theorem out15 (hc0 : ¬cond0_0 i) : out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11 = scolB x1 := by
  funext y
  unfold out0_B_15 kernelRun0_B
  dsimp only
  unfold kernelRun0_B.sl.H15_1
  refine (View.read_writes_cons_unit_of_mem VO0_15 _ _ _ _ y y rfl (fun a => (by match a with | ⟨0, _⟩ => exact (Nat.zero_add _).symm | ⟨1, _⟩ => exact (Nat.zero_add _).symm))).trans ?_
  refine (scale_at (kernelRun0_B.sl.v142 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 xo10 xo11) y).trans ?_
  exact congrArg (fun a => two (expo a)) (mx c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 xo10 xo11 (y 0))

theorem out16 (hc0 : ¬cond0_0 i) : out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 xo8 xo9 xo10 xo11 = gutB x1 x4 x5 x6 x7 := by
  funext y
  unfold out0_B_16 kernelRun0_B gutB
  dsimp only
  unfold kernelRun0_B.sl.H16_2
  have hy : (y 0).val < 160 := (y 0).isLt
  by_cases h0 : (y 0).val < 144
  · rw [dif_pos h0]
    refine (View.read_writes_cons_unit_of_not_mem VO0_16 _ _ _ _ y rfl 0 (Or.inl (by show (y 0).val < 144; omega))).trans ?_
    refine (View.read_writes_cons_unit_of_mem VO0_16 _ _ _ _ y (ix2 (⟨(y 0).val, h0⟩ : Fin 144) (y 1) : S144x256.Idx) rfl (fun a => by
      match a with
      | ⟨0, _⟩ => show (y 0).val = 0 + (y 0).val; omega
      | ⟨1, _⟩ => show (y 1).val = 0 + (y 1).val; omega)).trans ?_
    exact g c arg7 harg7 arg8 harg8 x1 x4 x6 x7 _ (u c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 xo10 xo11) _
  · rw [dif_neg h0]
    refine (View.read_writes_cons_unit_of_mem VO0_16 _ _ _ _ y (ix2 (⟨(y 0).val - 144, by omega⟩ : Fin 16) (y 1) : S16x256.Idx) rfl (fun a => by
      match a with
      | ⟨0, _⟩ => show (y 0).val = 144 + ((y 0).val - 144); omega
      | ⟨1, _⟩ => show (y 1).val = 0 + (y 1).val; omega)).trans ?_
    refine (pay35_at _ _).trans (congrArg (fun b : EReal => b * lora) ?_)
    exact congrFun (us c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 xo10 xo11) _

end Cert.Proof.Ad.B

end
-- ==== Proof.AdFold.lean ====
/-
  What the adapters call leaves in its result arrays: sums over the tokens of the eight points for the four gradients that are
  accumulated, each point's own block for the others.
-/
module

public import proofs.«01_k».proof.Proof.AdWhole
public import proofs.«01_k».proof.Proof.AdCaseA
public import proofs.«01_k».proof.Proof.AdCaseB
public import Idealize.ShloMosaic.Lib.Pipeline.ValueKit
public import Idealize.ShloMosaic.Lib.Pointwise
public import Idealize.ShloMosaic.Lib.WritesUnit
public import Idealize.ShloMosaic.Lib.Claim

@[expose] public section

set_option maxRecDepth 16384

noncomputable section

namespace Cert.Proof.Ad

open Cert.AdaptersCmpIdeal Cert.AdaptersCmpIdeal.Gen Cert.AdaptersCmpIdeal.Value Idealize.ShloMosaic Idealize.ShloMosaic.TcCoe Idealize.SL.Sem

variable (m : (ℓ : Loc nD τ sig) → Buf (Elt Ideal) ℓ) (c : Dev nD)

/-! ## A point's blocks as parts of the arguments -/

/-- The arguments. -/
abbrev aX : Vec Ideal S2048x1536 .bf16 := m ((c : Thread nD τ).loc main_arg0)
abbrev aD : Vec Ideal S2048x8960 .bf16 := m ((c : Thread nD τ).loc main_arg1)
abbrev aA : Vec Ideal S9x16x1536 .bf16 := m ((c : Thread nD τ).loc main_arg2)
abbrev aB : Vec Ideal S9x8960x16 .bf16 := m ((c : Thread nD τ).loc main_arg3)
abbrev aI : Vec Ideal S2048x2 .i32 := m ((c : Thread nD τ).loc main_arg4)
abbrev aG : Vec Ideal S2048x2 .f32 := m ((c : Thread nD τ).loc main_arg5)
abbrev aAs : Vec Ideal S16x1536 .bf16 := m ((c : Thread nD τ).loc main_arg6)
abbrev aBs : Vec Ideal S8960x16 .bf16 := m ((c : Thread nD τ).loc main_arg7)

theorem hB_at (t : Fin cfg0.N) (y : S144x256.Idx) :
    hB (iblk m c 0 t) (iblk m c 2 t) y = hF (aX m c) (aA m c) (tok (t.val * 256 + (y 1).val)) (y 0) :=
  Finset.sum_congr rfl fun n _ => congrArg₂ (fun a b : EReal => a * b) (iblk2 m c t (y 0) n) (iblk0 m c t (y 1) n)

theorem hsB_at (t : Fin cfg0.N) (y : S16x256.Idx) :
    hsB (iblk m c 0 t) (iblk m c 3 t) y = hsF (aX m c) (aAs m c) (tok (t.val * 256 + (y 1).val)) (y 0) :=
  Finset.sum_congr rfl fun n _ => congrArg₂ (fun a b : EReal => a * b) (congrFun (iblk3 m c t) _) (iblk0 m c t (y 1) n)

theorem uB_at (t : Fin cfg0.N) (y : S144x256.Idx) :
    uB (iblk m c 1 t) (iblk m c 4 t) y = uF (aD m c) (aB m c) (tok (t.val * 256 + (y 1).val)) (y 0) :=
  Finset.sum_congr rfl fun n _ => congrArg₂ (fun a b : EReal => a * b) (iblk4 m c t (y 0) n) (iblk1 m c t (y 1) n)

theorem usB_at (t : Fin cfg0.N) (y : S16x256.Idx) :
    usB (iblk m c 1 t) (iblk m c 5 t) y = usF (aD m c) (aBs m c) (tok (t.val * 256 + (y 1).val)) (y 0) :=
  Finset.sum_congr rfl fun n _ => congrArg₂ (fun a b : EReal => a * b) (iblk5 m c t (y 0) n) (iblk1 m c t (y 1) n)

theorem mB_at (t : Fin cfg0.N) (j : Fin 2) (y : S144x256.Idx) :
    mB (iblk m c 6 t) j y = mF (aI m c) j (tok (t.val * 256 + (y 1).val)) (y 0) :=
  congrArg (fun b => IntOp.cmpi .eq (BitVec.ofNat 32 ((y 0).val / 16)) b) (iblk6 m c t j (y 1))

theorem gB_at (t : Fin cfg0.N) (y : S144x256.Idx) :
    gB (iblk m c 1 t) (iblk m c 4 t) (iblk m c 6 t) (iblk m c 7 t) y
      = gF (aD m c) (aB m c) (aI m c) (aG m c) (tok (t.val * 256 + (y 1).val)) (y 0) := by
  unfold gB gF
  rw [uB_at, mB_at, mB_at]
  exact congrArg₂ (fun a b : EReal => (Scalar.select _ (a * _) (0 : EReal) + Scalar.select _ (b * _) (0 : EReal)) * lora)
    (iblk7 m c t 0 (y 1)) (iblk7 m c t 1 (y 1))

theorem hmB_at (t : Fin cfg0.N) (j : Fin 2) (y : S144x256.Idx) :
    hmB (iblk m c 0 t) (iblk m c 2 t) (iblk m c 6 t) j y = hmF (aX m c) (aA m c) (aI m c) j (tok (t.val * 256 + (y 1).val)) (y 0) := by
  unfold hmB hmF
  rw [hB_at, mB_at]

theorem amB_at (t : Fin cfg0.N) (r : Fin 256) : amB (iblk m c 1 t) r = amF (aD m c) (tok (t.val * 256 + r.val)) :=
  congrArg (fun f => Finset.fold max _ f Finset.univ) (funext fun n => congrArg _ (iblk1 m c t r n))

/-! ## The accumulated gradients -/

/-- What is accumulated over the eight points, 256 tokens at each, is the sum over the tokens. -/
theorem fold8 {ι : Type} (a : (n : ℕ) → n < cfg0.N → ι → EReal) (f : ι → Fin 2048 → EReal)
    (h0 : ∀ h y, a 0 h y = 0 + ∑ r : Fin 256, f y (tok (0 * 256 + r.val)))
    (hs : ∀ n h y, a (n + 1) h y = a n (Nat.lt_of_succ_lt h) y + ∑ r : Fin 256, f y (tok ((n + 1) * 256 + r.val)))
    (h7 : 7 < cfg0.N) (y : ι) : a 7 h7 y = ∑ s : Fin 2048, f y s := by
  have key : ∀ n h, a n h y = ∑ p ∈ Finset.range (n + 1), ∑ r ∈ Finset.range 256, f y (tok (p * 256 + r)) := by
    intro n
    induction n with
    | zero =>
      intro h
      rw [h0, zero_add, Finset.sum_range_one, Finset.sum_range]
    | succ n ih =>
      intro h
      rw [hs, ih, Finset.sum_range_succ _ (n + 1), Finset.sum_range (fun r => f y (tok ((n + 1) * 256 + r)))]
  rw [key, ← Finset.sum_range_mul_split 8 256 (fun k => f y (tok k)), Finset.sum_range]
  exact Finset.sum_congr rfl fun s _ => congrArg (f y) (tok_eq s.val s.isLt)

/-- What a token adds to each of the accumulated gradients. -/
def daT (y : S144x1536.Idx) (s : Fin 2048) : EReal :=
  gF (aD m c) (aB m c) (aI m c) (aG m c) s (y 0) * (show EReal from aX m c (ix2 s (y 1)))

def dasT (y : S16x1536.Idx) (s : Fin 2048) : EReal :=
  (usF (aD m c) (aBs m c) s (y 0) * lora) * (show EReal from aX m c (ix2 s (y 1)))

def dbT (y : S144x8960.Idx) (s : Fin 2048) : EReal :=
  hmF (aX m c) (aA m c) (aI m c) 0 s (y 0) * ((show EReal from aG m c (ix2 s 0)) * (show EReal from aD m c (ix2 s (y 1))))
    + hmF (aX m c) (aA m c) (aI m c) 1 s (y 0) * ((show EReal from aG m c (ix2 s 1)) * (show EReal from aD m c (ix2 s (y 1))))

def dbsT (y : S16x8960.Idx) (s : Fin 2048) : EReal :=
  (hsF (aX m c) (aAs m c) s (y 0) * lora) * (show EReal from aD m c (ix2 s (y 1)))

theorem daStep_at (t : Fin cfg0.N) (d : Vec Ideal S144x1536 .f32) (y : S144x1536.Idx) :
    daStep d (iblk m c 0 t) (iblk m c 1 t) (iblk m c 4 t) (iblk m c 6 t) (iblk m c 7 t) y = (show EReal from d y) + ∑ r : Fin 256, daT m c y (tok (t.val * 256 + r.val)) :=
  congrArg (fun b : EReal => (show EReal from d y) + b) (Finset.sum_congr rfl fun r _ =>
    congrArg₂ (fun a b : EReal => a * b) (gB_at m c t _) (iblk0 m c t r (y 1)))

theorem dasStep_at (t : Fin cfg0.N) (d : Vec Ideal S16x1536 .f32) (y : S16x1536.Idx) :
    dasStep d (iblk m c 0 t) (iblk m c 1 t) (iblk m c 5 t) y = (show EReal from d y) + ∑ r : Fin 256, dasT m c y (tok (t.val * 256 + r.val)) :=
  congrArg (fun b : EReal => (show EReal from d y) + b) (Finset.sum_congr rfl fun r _ =>
    congrArg₂ (fun a b : EReal => (a * lora) * b) (usB_at m c t _) (iblk0 m c t r (y 1)))

theorem dbStep_at (t : Fin cfg0.N) (d : Vec Ideal S144x8960 .f32) (y : S144x8960.Idx) :
    dbStep d (iblk m c 0 t) (iblk m c 1 t) (iblk m c 2 t) (iblk m c 6 t) (iblk m c 7 t) y = (show EReal from d y) + ∑ r : Fin 256, dbT m c y (tok (t.val * 256 + r.val)) := by
  unfold dbStep
  rw [← Finset.sum_add_distrib]
  refine congrArg (fun b : EReal => (show EReal from d y) + b) (Finset.sum_congr rfl fun r _ =>
    congrArg₂ (fun a b : EReal => a + b) ?_ ?_)
  · exact congrArg₂ (fun a b : EReal => a * b) (hmB_at m c t 0 _)
      (congrArg₂ (fun a b : EReal => a * b) (iblk7 m c t 0 r) (iblk1 m c t r (y 1)))
  · exact congrArg₂ (fun a b : EReal => a * b) (hmB_at m c t 1 _)
      (congrArg₂ (fun a b : EReal => a * b) (iblk7 m c t 1 r) (iblk1 m c t r (y 1)))

theorem dbsStep_at (t : Fin cfg0.N) (d : Vec Ideal S16x8960 .f32) (y : S16x8960.Idx) :
    dbsStep d (iblk m c 0 t) (iblk m c 1 t) (iblk m c 3 t) y = (show EReal from d y) + ∑ r : Fin 256, dbsT m c y (tok (t.val * 256 + r.val)) :=
  congrArg (fun b : EReal => (show EReal from d y) + b) (Finset.sum_congr rfl fun r _ =>
    congrArg₂ (fun a b : EReal => (a * lora) * b) (hsB_at m c t _) (iblk1 m c t r (y 1)))

/-- The last point. -/
theorem lt_7 : 7 < cfg0.N := lt_of_lt_of_eq (by decide) N_0.symm

theorem mod_ne (n : ℕ) (h : n + 1 < cfg0.N) : ¬(n + 1) % 8 = 0 := by
  have h2 : n + 1 < 8 := lt_of_lt_of_eq h N_0
  omega

theorem acc8_zero (h : 0 < cfg0.N) (y : S144x1536.Idx) :
    (outsAt0 m c 0 h).1 y = 0 + ∑ r : Fin 256, daT m c y (tok (0 * 256 + r.val)) := by
  have e := congrArg (fun p => p.1) (outsAt0_A m c ⟨0, h⟩ rfl)
  dsimp only at e
  have e2 : (outsAt0 m c 0 h).1 = daStep (fun _ => (0 : EReal)) (iblk m c 0 ⟨0, h⟩) (iblk m c 1 ⟨0, h⟩) (iblk m c 4 ⟨0, h⟩) (iblk m c 6 ⟨0, h⟩) (iblk m c 7 ⟨0, h⟩) :=
    e.trans (A.out8 (hc0 := (hcond0_0 ⟨0, h⟩).mpr rfl) ..)
  rw [e2]
  exact daStep_at m c ⟨0, h⟩ _ y

theorem acc8_succ (n : ℕ) (h : n + 1 < cfg0.N) (y : S144x1536.Idx) :
    (outsAt0 m c (n + 1) h).1 y
      = (show EReal from (outsAt0 m c n (Nat.lt_of_succ_lt h)).1 y) + ∑ r : Fin 256, daT m c y (tok ((n + 1) * 256 + r.val)) := by
  have e := congrArg (fun p => p.1) (outsAt0_B m c ⟨n + 1, h⟩ (mod_ne n h))
  dsimp only at e
  have e2 : (outsAt0 m c (n + 1) h).1 = daStep (outsAt0 m c n (Nat.lt_of_succ_lt h)).1 (iblk m c 0 ⟨n + 1, h⟩) (iblk m c 1 ⟨n + 1, h⟩) (iblk m c 4 ⟨n + 1, h⟩) (iblk m c 6 ⟨n + 1, h⟩) (iblk m c 7 ⟨n + 1, h⟩) :=
    e.trans (B.out8 (hc0 := fun h2 => mod_ne n h ((hcond0_0 ⟨n + 1, h⟩).mp h2)) ..)
  rw [e2]
  exact daStep_at m c ⟨n + 1, h⟩ _ y

theorem acc8 (y : S144x1536.Idx) : (outsAt0 m c 7 lt_7).1 y = daF (aX m c) (aD m c) (aB m c) (aI m c) (aG m c) y :=
  fold8 (fun n h => (outsAt0 m c n h).1) (daT m c) (acc8_zero m c) (acc8_succ m c) lt_7 y

theorem final8 : (dats m 0 c).arrAt 8 cfg0.N = daF (aX m c) (aD m c) (aB m c) (aI m c) (aG m c) := by
  refine (dats m 0 c).arrAt_eq_of_after_last 8 ⟨7, lt_7⟩ (by decide +kernel) _ fun j => ?_
  rw [after0_8]
  exact acc8 m c j

theorem acc9_zero (h : 0 < cfg0.N) (y : S16x1536.Idx) :
    (outsAt0 m c 0 h).2.1 y = 0 + ∑ r : Fin 256, dasT m c y (tok (0 * 256 + r.val)) := by
  have e := congrArg (fun p => p.2.1) (outsAt0_A m c ⟨0, h⟩ rfl)
  dsimp only at e
  have e2 : (outsAt0 m c 0 h).2.1 = dasStep (fun _ => (0 : EReal)) (iblk m c 0 ⟨0, h⟩) (iblk m c 1 ⟨0, h⟩) (iblk m c 5 ⟨0, h⟩) :=
    e.trans (A.out9 (hc0 := (hcond0_0 ⟨0, h⟩).mpr rfl) ..)
  rw [e2]
  exact dasStep_at m c ⟨0, h⟩ _ y

theorem acc9_succ (n : ℕ) (h : n + 1 < cfg0.N) (y : S16x1536.Idx) :
    (outsAt0 m c (n + 1) h).2.1 y
      = (show EReal from (outsAt0 m c n (Nat.lt_of_succ_lt h)).2.1 y) + ∑ r : Fin 256, dasT m c y (tok ((n + 1) * 256 + r.val)) := by
  have e := congrArg (fun p => p.2.1) (outsAt0_B m c ⟨n + 1, h⟩ (mod_ne n h))
  dsimp only at e
  have e2 : (outsAt0 m c (n + 1) h).2.1 = dasStep (outsAt0 m c n (Nat.lt_of_succ_lt h)).2.1 (iblk m c 0 ⟨n + 1, h⟩) (iblk m c 1 ⟨n + 1, h⟩) (iblk m c 5 ⟨n + 1, h⟩) :=
    e.trans (B.out9 (hc0 := fun h2 => mod_ne n h ((hcond0_0 ⟨n + 1, h⟩).mp h2)) ..)
  rw [e2]
  exact dasStep_at m c ⟨n + 1, h⟩ _ y

theorem acc9 (y : S16x1536.Idx) : (outsAt0 m c 7 lt_7).2.1 y = dasF (aX m c) (aD m c) (aBs m c) y :=
  fold8 (fun n h => (outsAt0 m c n h).2.1) (dasT m c) (acc9_zero m c) (acc9_succ m c) lt_7 y

theorem final9 : (dats m 0 c).arrAt 9 cfg0.N = dasF (aX m c) (aD m c) (aBs m c) := by
  refine (dats m 0 c).arrAt_eq_of_after_last 9 ⟨7, lt_7⟩ (by decide +kernel) _ fun j => ?_
  rw [after0_9]
  exact acc9 m c j

theorem acc10_zero (h : 0 < cfg0.N) (y : S144x8960.Idx) :
    (outsAt0 m c 0 h).2.2.1 y = 0 + ∑ r : Fin 256, dbT m c y (tok (0 * 256 + r.val)) := by
  have e := congrArg (fun p => p.2.2.1) (outsAt0_A m c ⟨0, h⟩ rfl)
  dsimp only at e
  have e2 : (outsAt0 m c 0 h).2.2.1 = dbStep (fun _ => (0 : EReal)) (iblk m c 0 ⟨0, h⟩) (iblk m c 1 ⟨0, h⟩) (iblk m c 2 ⟨0, h⟩) (iblk m c 6 ⟨0, h⟩) (iblk m c 7 ⟨0, h⟩) :=
    e.trans (A.out10 (hc0 := (hcond0_0 ⟨0, h⟩).mpr rfl) ..)
  rw [e2]
  exact dbStep_at m c ⟨0, h⟩ _ y

theorem acc10_succ (n : ℕ) (h : n + 1 < cfg0.N) (y : S144x8960.Idx) :
    (outsAt0 m c (n + 1) h).2.2.1 y
      = (show EReal from (outsAt0 m c n (Nat.lt_of_succ_lt h)).2.2.1 y) + ∑ r : Fin 256, dbT m c y (tok ((n + 1) * 256 + r.val)) := by
  have e := congrArg (fun p => p.2.2.1) (outsAt0_B m c ⟨n + 1, h⟩ (mod_ne n h))
  dsimp only at e
  have e2 : (outsAt0 m c (n + 1) h).2.2.1 = dbStep (outsAt0 m c n (Nat.lt_of_succ_lt h)).2.2.1 (iblk m c 0 ⟨n + 1, h⟩) (iblk m c 1 ⟨n + 1, h⟩) (iblk m c 2 ⟨n + 1, h⟩) (iblk m c 6 ⟨n + 1, h⟩) (iblk m c 7 ⟨n + 1, h⟩) :=
    e.trans (B.out10 (hc0 := fun h2 => mod_ne n h ((hcond0_0 ⟨n + 1, h⟩).mp h2)) ..)
  rw [e2]
  exact dbStep_at m c ⟨n + 1, h⟩ _ y

theorem acc10 (y : S144x8960.Idx) : (outsAt0 m c 7 lt_7).2.2.1 y = dbF (aX m c) (aD m c) (aA m c) (aI m c) (aG m c) y :=
  fold8 (fun n h => (outsAt0 m c n h).2.2.1) (dbT m c) (acc10_zero m c) (acc10_succ m c) lt_7 y

theorem final10 : (dats m 0 c).arrAt 10 cfg0.N = dbF (aX m c) (aD m c) (aA m c) (aI m c) (aG m c) := by
  refine (dats m 0 c).arrAt_eq_of_after_last 10 ⟨7, lt_7⟩ (by decide +kernel) _ fun j => ?_
  rw [after0_10]
  exact acc10 m c j

theorem acc11_zero (h : 0 < cfg0.N) (y : S16x8960.Idx) :
    (outsAt0 m c 0 h).2.2.2.1 y = 0 + ∑ r : Fin 256, dbsT m c y (tok (0 * 256 + r.val)) := by
  have e := congrArg (fun p => p.2.2.2.1) (outsAt0_A m c ⟨0, h⟩ rfl)
  dsimp only at e
  have e2 : (outsAt0 m c 0 h).2.2.2.1 = dbsStep (fun _ => (0 : EReal)) (iblk m c 0 ⟨0, h⟩) (iblk m c 1 ⟨0, h⟩) (iblk m c 3 ⟨0, h⟩) :=
    e.trans (A.out11 (hc0 := (hcond0_0 ⟨0, h⟩).mpr rfl) ..)
  rw [e2]
  exact dbsStep_at m c ⟨0, h⟩ _ y

theorem acc11_succ (n : ℕ) (h : n + 1 < cfg0.N) (y : S16x8960.Idx) :
    (outsAt0 m c (n + 1) h).2.2.2.1 y
      = (show EReal from (outsAt0 m c n (Nat.lt_of_succ_lt h)).2.2.2.1 y) + ∑ r : Fin 256, dbsT m c y (tok ((n + 1) * 256 + r.val)) := by
  have e := congrArg (fun p => p.2.2.2.1) (outsAt0_B m c ⟨n + 1, h⟩ (mod_ne n h))
  dsimp only at e
  have e2 : (outsAt0 m c (n + 1) h).2.2.2.1 = dbsStep (outsAt0 m c n (Nat.lt_of_succ_lt h)).2.2.2.1 (iblk m c 0 ⟨n + 1, h⟩) (iblk m c 1 ⟨n + 1, h⟩) (iblk m c 3 ⟨n + 1, h⟩) :=
    e.trans (B.out11 (hc0 := fun h2 => mod_ne n h ((hcond0_0 ⟨n + 1, h⟩).mp h2)) ..)
  rw [e2]
  exact dbsStep_at m c ⟨n + 1, h⟩ _ y

theorem acc11 (y : S16x8960.Idx) : (outsAt0 m c 7 lt_7).2.2.2.1 y = dbsF (aX m c) (aD m c) (aAs m c) y :=
  fold8 (fun n h => (outsAt0 m c n h).2.2.2.1) (dbsT m c) (acc11_zero m c) (acc11_succ m c) lt_7 y

theorem final11 : (dats m 0 c).arrAt 11 cfg0.N = dbsF (aX m c) (aD m c) (aAs m c) := by
  refine (dats m 0 c).arrAt_eq_of_after_last 11 ⟨7, lt_7⟩ (by decide +kernel) _ fun j => ?_
  rw [after0_11]
  exact acc11 m c j

/-! ## The results each point writes for its own tokens -/

theorem out12 (t : Fin cfg0.N) : (outsAt0 m c t.val t.isLt).2.2.2.2.1 = dgB (iblk m c 0 t) (iblk m c 1 t) (iblk m c 2 t) (iblk m c 4 t) (iblk m c 6 t) := by
  by_cases h : t.val % 8 = 0
  · exact (congrArg (fun p => p.2.2.2.2.1) (outsAt0_A m c t h)).trans (A.out12 (hc0 := (hcond0_0 t).mpr h) ..)
  · exact (congrArg (fun p => p.2.2.2.2.1) (outsAt0_B m c t h)).trans (B.out12 (xo8 := (outsAt0 m c (t.val - 1) (Nat.lt_of_le_of_lt (Nat.sub_le _ _) t.isLt)).1)
      (xo9 := (outsAt0 m c (t.val - 1) (Nat.lt_of_le_of_lt (Nat.sub_le _ _) t.isLt)).2.1) (hc0 := fun h2 => h ((hcond0_0 t).mp h2)) ..)

theorem out13 (t : Fin cfg0.N) : (outsAt0 m c t.val t.isLt).2.2.2.2.2.1 = codesB (iblk m c 1 t) := by
  by_cases h : t.val % 8 = 0
  · exact (congrArg (fun p => p.2.2.2.2.2.1) (outsAt0_A m c t h)).trans (A.out13 (hc0 := (hcond0_0 t).mpr h) ..)
  · exact (congrArg (fun p => p.2.2.2.2.2.1) (outsAt0_B m c t h)).trans (B.out13 (xo8 := (outsAt0 m c (t.val - 1) (Nat.lt_of_le_of_lt (Nat.sub_le _ _) t.isLt)).1)
      (xo9 := (outsAt0 m c (t.val - 1) (Nat.lt_of_le_of_lt (Nat.sub_le _ _) t.isLt)).2.1) (hc0 := fun h2 => h ((hcond0_0 t).mp h2)) ..)

theorem out15 (t : Fin cfg0.N) : (outsAt0 m c t.val t.isLt).2.2.2.2.2.2.1 = scolB (iblk m c 1 t) := by
  by_cases h : t.val % 8 = 0
  · exact (congrArg (fun p => p.2.2.2.2.2.2.1) (outsAt0_A m c t h)).trans (A.out15 (hc0 := (hcond0_0 t).mpr h) ..)
  · exact (congrArg (fun p => p.2.2.2.2.2.2.1) (outsAt0_B m c t h)).trans (B.out15 (xo8 := (outsAt0 m c (t.val - 1) (Nat.lt_of_le_of_lt (Nat.sub_le _ _) t.isLt)).1)
      (xo9 := (outsAt0 m c (t.val - 1) (Nat.lt_of_le_of_lt (Nat.sub_le _ _) t.isLt)).2.1) (hc0 := fun h2 => h ((hcond0_0 t).mp h2)) ..)

theorem out16 (t : Fin cfg0.N) : (outsAt0 m c t.val t.isLt).2.2.2.2.2.2.2 = gutB (iblk m c 1 t) (iblk m c 4 t) (iblk m c 5 t) (iblk m c 6 t) (iblk m c 7 t) := by
  by_cases h : t.val % 8 = 0
  · exact (congrArg (fun p => p.2.2.2.2.2.2.2) (outsAt0_A m c t h)).trans (A.out16 (hc0 := (hcond0_0 t).mpr h) ..)
  · exact (congrArg (fun p => p.2.2.2.2.2.2.2) (outsAt0_B m c t h)).trans (B.out16 (xo8 := (outsAt0 m c (t.val - 1) (Nat.lt_of_le_of_lt (Nat.sub_le _ _) t.isLt)).1)
      (xo9 := (outsAt0 m c (t.val - 1) (Nat.lt_of_le_of_lt (Nat.sub_le _ _) t.isLt)).2.1) (hc0 := fun h2 => h ((hcond0_0 t).mp h2)) ..)

theorem dgB_at (t : Fin cfg0.N) (y : S2x256.Idx) :
    dgB (iblk m c 0 t) (iblk m c 1 t) (iblk m c 2 t) (iblk m c 4 t) (iblk m c 6 t) y
      = dgF (aX m c) (aD m c) (aA m c) (aB m c) (aI m c) (ix2 (y 0) (tok (t.val * 256 + (y 1).val))) :=
  congrArg (fun b : EReal => lora * b) (Finset.sum_congr rfl fun x _ =>
    congrArg₂ (fun q (b : EReal) => Scalar.select q b (0 : EReal)) (mB_at m c t (y 0) (ix2 x (y 1)))
      (congrArg₂ (fun a b : EReal => a * b) (uB_at m c t _) (hB_at m c t _)))

theorem codesB_at (t : Fin cfg0.N) (y : S256x8960.Idx) :
    codesB (iblk m c 1 t) y = codesF (aD m c) (ix2 (tok (t.val * 256 + (y 0).val)) (y 1)) :=
  congrArg₂ code (amB_at m c t (y 0)) ((congrArg (iblk m c 1 t) (by blk_ext!)).trans (iblk1 m c t (y 0) (y 1)))

theorem scolB_at (t : Fin cfg0.N) (y : S256x128.Idx) :
    scolB (iblk m c 1 t) y = scolF (aD m c) (ix2 (tok (t.val * 256 + (y 0).val)) (y 1)) :=
  congrArg (fun a => two (expo a)) (amB_at m c t (y 0))

theorem gutB_at (t : Fin cfg0.N) (y : S160x256.Idx) :
    gutB (iblk m c 1 t) (iblk m c 4 t) (iblk m c 5 t) (iblk m c 6 t) (iblk m c 7 t) y
      = gutF (aD m c) (aB m c) (aI m c) (aG m c) (aBs m c) (ix2 (y 0) (tok (t.val * 256 + (y 1).val))) :=
  dite_congr rfl (fun _ => gB_at m c t _) (fun _ => congrArg (fun a : EReal => a * lora) (usB_at m c t _))

theorem final12 : (dats m 0 c).arrAt 12 cfg0.N = dgF (aX m c) (aD m c) (aA m c) (aB m c) (aI m c) := by
  refine (dats m 0 c).arrAt_eq_of_covers 12 _ (by decide +kernel) (fun t _ y => ?_)
  blk_simp
  rw [after0_12, out12]
  refine (dgB_at m c t y).trans (congrArg (dgF (aX m c) (aD m c) (aA m c) (aB m c) (aI m c)) (Eq.trans (congrArg (fun a : Fin 2048 => ix2 (y 0) a) (tok_at t (y 1))) ?_))
  blk_ext! [idx t]

theorem final13 : (dats m 0 c).arrAt 13 cfg0.N = codesF (aD m c) := by
  refine (dats m 0 c).arrAt_eq_of_covers 13 _ (by decide +kernel) (fun t _ y => ?_)
  blk_simp
  rw [after0_13, out13]
  refine (codesB_at m c t y).trans (congrArg (codesF (aD m c)) (Eq.trans (congrArg (fun a : Fin 2048 => ix2 a (y 1)) (tok_at t (y 0))) ?_))
  blk_ext! [idx t]

theorem final15 : (dats m 0 c).arrAt 15 cfg0.N = scolF (aD m c) := by
  refine (dats m 0 c).arrAt_eq_of_covers 15 _ (by decide +kernel) (fun t _ y => ?_)
  blk_simp
  rw [after0_15, out15]
  refine (scolB_at m c t y).trans (congrArg (scolF (aD m c)) (Eq.trans (congrArg (fun a : Fin 2048 => ix2 a (y 1)) (tok_at t (y 0))) ?_))
  blk_ext! [idx t]

/-- The dense scales, from the rows that each point stored. -/
theorem final14 (X : Vec Ideal S16x128 .f32)
    (h : ∀ (p : Fin 16) (l : Fin 128) (hp : p.val / 2 < cfg0.N), X (ix2 p l) = (outsAt0 m c (p.val / 2) hp).2.2.2.2.2.2.1 (ix2 (rowTok p.val l) 0)) :
    X = scaleF (aD m c) := by
  refine funext fun y => ?_
  have h0 : (y 0).val < 16 := (y 0).isLt
  have h1 : (y 1).val < 128 := (y 1).isLt
  have hp : (y 0).val / 2 < cfg0.N := by rw [show cfg0.N = 8 from N_0]; omega
  refine (congrArg X (eq_ix2 y)).trans ((h (y 0) (y 1) hp).trans ((congrFun (out15 m c ⟨(y 0).val / 2, hp⟩) _).trans
    ((scolB_at m c ⟨(y 0).val / 2, hp⟩ _).trans (congrArg (fun s => two (expo (amF (aD m c) s))) (Fin.ext ?_)))))
  show ((y 0).val / 2 * 256 + (128 * ((y 0).val % 2) + (y 1).val)) % 2048 = (y 0).val * 128 + (y 1).val
  omega

theorem final16 : (dats m 0 c).arrAt 16 cfg0.N = gutF (aD m c) (aB m c) (aI m c) (aG m c) (aBs m c) := by
  refine (dats m 0 c).arrAt_eq_of_covers 16 _ (by decide +kernel) (fun t _ y => ?_)
  blk_simp
  rw [after0_16, out16]
  refine (gutB_at m c t y).trans (congrArg (gutF (aD m c) (aB m c) (aI m c) (aG m c) (aBs m c)) (Eq.trans (congrArg (fun a : Fin 2048 => ix2 (y 0) a) (tok_at t (y 1))) ?_))
  blk_ext! [idx t]

end Cert.Proof.Ad

end
-- ==== Proof.AdRefScale.lean ====
/-
  The reference's quantiser, read at an index.
-/
module

public import proofs.«01_k».proof.Proof.AdScale
public import proofs.«01_k».proof.Proof.Gen.AdaptersRefIdeal.Read
public import Idealize.ShloMosaic.Lib.Pipeline.ValueKit
public import Idealize.ShloMosaic.Lib.Pointwise
public import Idealize.ShloMosaic.Lib.WritesUnit
public import Idealize.ShloMosaic.Lib.Claim

@[expose] public section

set_option maxRecDepth 16384

noncomputable section

namespace Cert.Proof.AdRef

open Cert.Proof.Ad Cert.AdaptersRefIdeal Cert.AdaptersRefIdeal.Gen Idealize.ShloMosaic Idealize.ShloMosaic.TcCoe Idealize.SL.Sem

/-- The largest absolute value of each row. -/
def amaxV (v : Vec Ideal S2048x8960 .bf16) : FVec Ideal S2048x1 .f32 :=
  shapeCast S2048x1 (multiReduction .maximumf [1] S2048 (absf (k0_pay2 (F := Ideal) v)) 0xFF800000#32 reduces_S2048x8960_S2048 (.inl rfl) rfl)
    shapeCasts_S2048_S2048x1

/-- The comparisons of each row's ratio with the 255 powers of two. -/
def cmpV (m : FVec Ideal S2048x1 .f32) : IVec S2048x255 32 :=
  extui 32 (cmpf .oge (broadcastTo S2048x255 (mulf m (broadcast S2048x1 (Scalar.ofBits .f32 0x37924925#32))) broadcasts_S2048x1_S2048x255)
    (broadcastTo S2048x255 (bitcastToFloat .f32 (shli (addi (subi (iota .tc S1x255 32 [1] iota_S1x255_d1_w32) (broadcast S1x255 126#32))
      (broadcast S1x255 127#32)) (broadcast S1x255 23#32))) broadcasts_S1x255_S2048x255)) natLt_1_32

/-- The exponents from the comparisons. -/
def expoV (m : FVec Ideal S2048x1 .f32) (w : IVec S2048x255 32) : IVec S2048x1 32 :=
  select (cmpf .oeq m (broadcast S2048x1 (Scalar.ofBits .f32 0x00000000#32))) (broadcast S2048x1 0#32)
    (subi (shapeCast S2048x1 (multiReductionI .add [1] S2048 w 0#32 reduces_S2048x255_S2048 rfl) shapeCasts_S2048_S2048x1) (broadcast S2048x1 126#32))

theorem pay3_eq (v : Vec Ideal S2048x8960 .bf16) : k0_pay3 (F := Ideal) v = expoV (amaxV v) (cmpV (amaxV v)) := rfl

/-- A row's largest absolute value. -/
def amax (v : Vec Ideal S2048x8960 .bf16) (r : Fin 2048) : EReal :=
  Finset.fold max (Ideal.ofBits .f32 0xFF800000#32) (fun n : Fin 8960 => FloatOps.absf (F := Ideal) (φ := .f32) (v (ix2 r n))) Finset.univ

theorem amaxV_at (v : Vec Ideal S2048x8960 .bf16) (y : S2048x1.Idx) : amaxV v y = amax v (y 0) := by
  pointwise [amaxV, k0_pay2]
  rfl

theorem cmpV_at (m : FVec Ideal S2048x1 .f32) (y : S2048x255.Idx) : cmpV m y = vote (m (ix2 (y 0) 0) * inv) (y 1) := by
  pointwise [cmpV]
  rfl

theorem expoV_at (m : FVec Ideal S2048x1 .f32) (w : IVec S2048x255 32) (y : S2048x1.Idx) :
    expoV m w y = if m y = 0 then 0#32 else IntOp.subi (Finset.fold IntOp.addi 0#32 (fun x => w (ix2 (y 0) x)) Finset.univ) 126#32 := by
  pointwise [expoV]
  done

theorem pay3_at (v : Vec Ideal S2048x8960 .bf16) (y : S2048x1.Idx) : k0_pay3 (F := Ideal) v y = expo (amax v (y 0)) := by
  rw [pay3_eq, expoV_at, amaxV_at]
  unfold expo
  rw [← count_eq]
  refine if_congr Iff.rfl rfl (congrArg (fun w => IntOp.subi w 126#32) (congrArg (fun f => Finset.fold IntOp.addi 0#32 f Finset.univ) (funext fun x => ?_)))
  rw [cmpV_at, amaxV_at]
  rfl

/-- The codes. -/
theorem pay4_at (v : Vec Ideal S2048x8960 .bf16) (y : S2048x8960.Idx) : k0_pay4 (F := Ideal) v y = code (amax v (y 0)) (v y) := by
  have h := pay3_at v
  unfold k0_pay4
  revert h
  generalize k0_pay3 (F := Ideal) v = e
  intro h
  pointwise [k0_pay2]
  rw [h]
  rfl

/-- The scale. -/
theorem pay1_at (v : Vec Ideal S2048x8960 .bf16) (y : S2048x1.Idx) : k0_pay1 (F := Ideal) (k0_pay3 (F := Ideal) v) y = two (expo (amax v (y 0))) := by
  have h := pay3_at v
  revert h
  generalize k0_pay3 (F := Ideal) v = e
  intro h
  pointwise [k0_pay1]
  rw [h]
  rfl

end Cert.Proof.AdRef

end
-- ==== Proof.AdRef.lean ====
/-
  The reference of the adapters call, read at an index: its results as functions of the arguments.
-/
module

public import proofs.«01_k».proof.Proof.AdResults
public import proofs.«01_k».proof.Proof.AdRefScale
public import Idealize.ShloMosaic.Lib.Pipeline.ValueKit
public import Idealize.ShloMosaic.Lib.Pointwise
public import Idealize.ShloMosaic.Lib.WritesUnit
public import Idealize.ShloMosaic.Lib.Claim

@[expose] public section

set_option maxRecDepth 16384

noncomputable section

namespace Cert.Proof.AdRef

open Cert.Proof.Ad Cert.AdaptersRefIdeal Cert.AdaptersRefIdeal.Gen Cert.AdaptersRefIdeal.Read Idealize.ShloMosaic Idealize.ShloMosaic.TcCoe Idealize.SL.Sem

/-! ## The factor two -/

theorem lora_eq : lora = ((2 : ℝ) : EReal) := by
  have h : lora = pw 128 := rfl
  rw [h, pw_of_lt 128 (by decide) (by decide)]
  norm_num

/-- The same factor as a bf16 word. -/
theorem lora_bf16 : Ideal.ofBits .bf16 0x4000#16 = lora := by
  rw [lora_eq]
  simp [Ideal.ofBits, Ideal.ieee]
  rw [← EReal.coe_mul]
  norm_num

/-- The factor goes inside a sum. -/
theorem lora_sum {n : ℕ} (f : Fin n → EReal) : lora * ∑ s, f s = ∑ s, lora * f s := by
  rw [lora_eq]
  induction n with
  | zero => simp
  | succ n ih =>
    rw [Fin.sum_univ_succ, Fin.sum_univ_succ,
      EReal.left_distrib_of_nonneg_of_ne_top (EReal.coe_nonneg.mpr (by norm_num)) (EReal.coe_ne_top _), ih]

theorem lora_mul {u v b : EReal} (h : u = v) : lora * (u * b) = (v * lora) * b := by
  rw [h, ← mul_assoc, mul_comm lora]

theorem lora_select (p : BitVec 1) (a : EReal) : lora * Scalar.select p a (0 : EReal) = Scalar.select p (a * lora) (0 : EReal) := by
  unfold Scalar.select
  split
  · exact mul_comm _ _
  · exact mul_zero _

theorem ofBits_zero : Ideal.ofBits .f32 0x00000000#32 = 0 := by
  simp [Ideal.ofBits, Ideal.ieee]

variable (x0 : Vec Ideal S2048x1536 .bf16) (x1 : Vec Ideal S2048x8960 .bf16) (x2 : Vec Ideal S9x16x1536 .bf16)
  (x3 : Vec Ideal S9x8960x16 .bf16) (x4 : Vec Ideal S2048x2 .i32) (x5 : Vec Ideal S2048x2 .f32)
  (x6 : Vec Ideal S16x1536 .bf16) (x7 : Vec Ideal S8960x16 .bf16)

/-! ## The shared adapter -/

theorem us_at (s : Fin 2048) (r : Fin 16) : val_main_v57 (F := Ideal) x1 x7 (ix2 s r) = usF x1 x7 s r := by
  pointwise [val_main_v57, val_main_v56]
  exact Finset.sum_congr rfl fun n _ => mul_comm (G := EReal) _ _

theorem hs_at (s : Fin 2048) (r : Fin 16) : val_main_v58 (F := Ideal) x0 x6 (ix2 s r) = hsF x0 x6 s r := by
  pointwise [val_main_v58, val_main_v55]
  exact Finset.sum_congr rfl fun n _ => mul_comm (G := EReal) _ _

theorem das_at (y : S16x1536.Idx) : val_main_v64 (F := Ideal) x0 x1 x7 y = dasF x0 x1 x7 y := by
  have h := us_at x1 x7
  unfold val_main_v64 val_main_v62
  revert h
  generalize val_main_v57 (F := Ideal) x1 x7 = u
  intro h
  pointwise [val_main_v63, val_main_cst_8]
  refine (lora_sum _).trans (Finset.sum_congr rfl fun s _ => ?_)
  exact lora_mul (h _ _)

theorem dbs_at (y : S16x8960.Idx) : val_main_v61 (F := Ideal) x0 x1 x6 y = dbsF x0 x1 x6 y := by
  have h := hs_at x0 x6
  unfold val_main_v61 val_main_v59
  revert h
  generalize val_main_v58 (F := Ideal) x0 x6 = u
  intro h
  pointwise [val_main_v60, val_main_cst_7]
  refine (lora_sum _).trans (Finset.sum_congr rfl fun s _ => ?_)
  exact lora_mul (h _ _)

/-! ## The routed adapters -/

/-- A stacked row from its adapter and its rank. -/
def row (a : Fin 9) (r : Fin 16) : Fin 144 := ⟨16 * a.val + r.val, by omega⟩

theorem row_div (a : Fin 9) (r : Fin 16) : (row a r).val / 16 = a.val := by unfold row; show (16 * a.val + r.val) / 16 = a.val; omega

theorem ad_row (a : Fin 9) (r : Fin 16) : ad (row a r) = a := Fin.ext (row_div a r)

theorem rk_row (a : Fin 9) (r : Fin 16) : rk (row a r) = r :=
  Fin.ext (by unfold rk row; show (16 * a.val + r.val) % 16 = r.val; omega)

theorem row_ad (e : Fin 144) : row (ad e) (rk e) = e :=
  Fin.ext (by unfold ad rk row; show 16 * (e.val / 16) + e.val % 16 = e.val; omega)

theorem h_at (s : Fin 2048) (a : Fin 9) (r : Fin 16) : val_main_v2 (F := Ideal) x0 x2 (ix3 s a r) = hF x0 x2 s (row a r) := by
  unfold hF
  rw [ad_row, rk_row]
  pointwise [val_main_v2]
  exact Finset.sum_congr rfl fun n _ => mul_comm (G := EReal) _ _

theorem u_at (s : Fin 2048) (a : Fin 9) (r : Fin 16) : val_main_v3 (F := Ideal) x1 x3 (ix3 s a r) = uF x1 x3 s (row a r) := by
  unfold uF
  rw [ad_row, rk_row]
  pointwise [val_main_v3]
  exact Finset.sum_congr rfl fun n _ => mul_comm (G := EReal) _ _

/-- A comparison for equality does not mind the order. -/
theorem cmpi_eq_comm (a b : BitVec 32) : IntOp.cmpi .eq a b = IntOp.cmpi .eq b a := by
  unfold IntOp.cmpi
  show BitVec.ofBool (a == b) = BitVec.ofBool (b == a)
  rw [BEq.comm]

theorem chosen_at (s : Fin 2048) (j : Fin 2) (a : Fin 9) (r : Fin 16) :
    val_main_v9 (F := Ideal) x4 (ix3 s j a) = mF x4 j s (row a r) := by
  unfold mF
  rw [row_div, cmpi_eq_comm]
  pointwise [val_main_v9, val_main_v8, val_main_v7, val_main_v6, val_main_v5, val_main_v4]
  done

theorem gu_at (s : Fin 2048) (a : Fin 9) (r : Fin 16) :
    val_main_v51 (F := Ideal) x1 x3 x4 x5 (ix3 s a r) * lora = gF x1 x3 x4 x5 s (row a r) := by
  have h := u_at x1 x3
  have hm := chosen_at x4
  unfold val_main_v51 val_main_v50 val_main_v49 val_main_v48 val_main_v47 val_main_v46 val_main_v45 val_main_v44 val_main_v43 val_main_v42 val_main_v41 val_main_v40 val_main_v39
  revert h hm
  generalize val_main_v3 (F := Ideal) x1 x3 = u
  generalize val_main_v9 (F := Ideal) x4 = p
  intro h hm
  pointwise [val_main_cst_4, val_main_cst_5]
  rw [Fin.sum_univ_two, hm s 0 a r, hm s 1 a r, h]
  rfl

theorem dg_at (y : S2x2048.Idx) : val_main_v75 (F := Ideal) x0 x1 x2 x3 x4 y = dgF x0 x1 x2 x3 x4 y := by
  have h := h_at x0 x2
  have hu := u_at x1 x3
  have hm := chosen_at x4
  unfold val_main_v75 val_main_v20 val_main_v19 val_main_v18 val_main_v17 val_main_v16 val_main_v15 val_main_v14 val_main_v13 val_main_v12 val_main_v11 val_main_v10
  revert h hu hm
  generalize val_main_v3 (F := Ideal) x1 x3 = u
  generalize val_main_v2 (F := Ideal) x0 x2 = h2
  generalize val_main_v9 (F := Ideal) x4 = p
  intro h hu hm
  pointwise [val_main_cst, val_main_cst_0, val_main_cst_1]
  refine congrArg (fun b : EReal => lora * b) (Finset.sum_congr rfl fun x _ => ?_)
  refine congrArg₂ (fun q (b : EReal) => Scalar.select q b (0 : EReal)) ((hm _ _ _ (rk x)).trans ?_)
    (congrArg₂ (fun a b : EReal => a * b) ((hu _ (ad x) (rk x)).trans ?_) ((h _ (ad x) (rk x)).trans ?_))
  · exact congrArg (mF x4 _ _) (row_ad x)
  · exact congrArg (uF x1 x3 _) (row_ad x)
  · exact congrArg (hF x0 x2 _) (row_ad x)

theorem hp_at (q : Fin 4096) (a : Fin 9) (r : Fin 16) :
    lora * val_main_v35 (F := Ideal) x0 x2 x4 (ix3 q a r) = hmF x0 x2 x4 ⟨q.val % 2, by omega⟩ ⟨q.val / 2, by omega⟩ (row a r) := by
  have h := h_at x0 x2
  have hm := chosen_at x4
  unfold val_main_v35 val_main_v33 val_main_v32 val_main_v31 val_main_v30 val_main_v29 val_main_v28 val_main_v27
  revert h hm
  generalize val_main_v2 (F := Ideal) x0 x2 = h2
  generalize val_main_v9 (F := Ideal) x4 = p
  intro h hm
  pointwise [val_main_cst_2]
  unfold hmF
  rw [hm _ _ a r]
  exact congrArg (fun b : EReal => Scalar.select _ b (0 : EReal)) ((mul_comm _ _).trans (congrArg (fun b : EReal => b * lora) (h _ a r)))

theorem gdy_at (e0 : Vec Ideal S2048x8960 .f32) (q : Fin 4096) (n : Fin 8960) :
    val_main_v34 (F := Ideal) x5 e0 (ix2 q n)
      = (show EReal from x5 (ix2 (⟨q.val / 2, by omega⟩ : Fin 2048) (⟨q.val % 2, by omega⟩ : Fin 2)))
        * (show EReal from e0 (ix2 (⟨q.val / 2, by omega⟩ : Fin 2048) n)) := by
  pointwise [val_main_v34, val_main_v26, val_main_v25, val_main_v24, val_main_v23, val_main_v22, val_main_v21]
  done

/-- A sum over the tokens' choices in turn is a sum over the tokens. -/
theorem sum_pairs (f : Fin 2048 → Fin 2 → EReal) :
    ∑ q : Fin 4096, f ⟨q.val / 2, by omega⟩ ⟨q.val % 2, by omega⟩ = ∑ s : Fin 2048, (f s 0 + f s 1) :=
  (Equiv.sum_comp (finProdFinEquiv (m := 2048) (n := 2)).symm (fun p => f p.1 p.2)).trans
    ((Fintype.sum_prod_type _).trans (Finset.sum_congr rfl fun s _ => Fin.sum_univ_two _))

theorem da_at (y : S144x1536.Idx) : val_main_v73 (F := Ideal) x0 x1 x3 x4 x5 y = daF x0 x1 x3 x4 x5 y := by
  have h := gu_at x1 x3 x4 x5
  unfold val_main_v73 val_main_v54 val_main_v53 val_main_v52
  revert h
  generalize val_main_v51 (F := Ideal) x1 x3 x4 x5 = g
  intro h
  pointwise [val_main_cst_6]
  refine (lora_sum _).trans (Finset.sum_congr rfl fun s _ => ?_)
  refine (lora_mul rfl).trans (congrArg (fun a : EReal => a * _) ((h s (ad (y 0)) (rk (y 0))).trans ?_))
  exact congrArg (gF x1 x3 x4 x5 s) (row_ad (y 0))

theorem db_at (y : S144x8960.Idx) :
    val_main_v74 (F := Ideal) x0 x2 x4 x5 (extf (F := Ideal) .f32 (show FVec Ideal S2048x8960 .bf16 from x1) bitsLt_bf16_f32) y = dbF x0 x1 x2 x4 x5 y := by
  have h := hp_at x0 x2 x4
  have hg := gdy_at x5 (extf (F := Ideal) .f32 (show FVec Ideal S2048x8960 .bf16 from x1) bitsLt_bf16_f32)
  unfold val_main_v74 val_main_v38 val_main_v37 val_main_v36
  revert h hg
  generalize val_main_v35 (F := Ideal) x0 x2 x4 = p
  generalize val_main_v34 (F := Ideal) x5 _ = g
  intro h hg
  pointwise [val_main_cst_3]
  refine (lora_sum _).trans (Eq.trans (Finset.sum_congr rfl fun q _ => ?_) (sum_pairs fun s j =>
    hmF x0 x2 x4 j s (y 0) * ((show EReal from x5 (ix2 s j)) * (show EReal from x1 (ix2 s (y 1))))))
  refine (mul_assoc _ _ _).symm.trans (congrArg₂ (fun a b : EReal => a * b) ((h q (ad (y 0)) (rk (y 0))).trans ?_) (hg q (y 1)))
  exact congrArg (hmF x0 x2 x4 _ _) (row_ad (y 0))

theorem gut_at (y : S160x2048.Idx) : val_main_v72 (F := Ideal) x1 x3 x4 x5 x7 y = gutF x1 x3 x4 x5 x7 y := by
  have h := gu_at x1 x3 x4 x5
  have hs := us_at x1 x7
  unfold val_main_v72 val_main_v71 val_main_v68 val_main_v67 val_main_v66 val_main_v70 val_main_v69
  revert h hs
  generalize val_main_v51 (F := Ideal) x1 x3 x4 x5 = g
  generalize val_main_v57 (F := Ideal) x1 x7 = u
  intro h hs
  pointwise [val_main_cst_9, val_main_cst_10]
  refine dite_congr rfl (fun hy => ?_) (fun hy => ?_)
  · refine (congrArg₂ (fun a b : EReal => a * b) lora_bf16 rfl).trans ((mul_comm _ _).trans ((h (y 1) _ _).trans ?_))
    exact congrArg (gF x1 x3 x4 x5 (y 1)) (row_ad ⟨(y 0).val, hy⟩)
  · refine (congrArg₂ (fun a b : EReal => a * b) lora_bf16 rfl).trans ((mul_comm _ _).trans ?_)
    exact congrArg (fun a : EReal => a * lora) (hs (y 1) _)

/-! ## The quantiser -/

theorem amax_eq (s : Fin 2048) : amax x1 s = amF x1 s := rfl

variable (m : (ℓ : Loc nD τ sig) → Buf (Elt Ideal) ℓ) (c : Dev nD)

/-- Every window's block index at the one point (decided). -/
theorem idx : ∀ t : Fin cfg0.N, win0_0.index t = ![0, 0] ∧ win0_1.index t = ![0, 0] ∧ win0_2.index t = ![0, 0] :=
  (by decide +kernel : ∀ t : Fin grid0.N, _)

/-- The quantiser reads the output gradient whole. -/
theorem iblk0 : iblk m c 0 t0_0 = m ((c : Thread nD τ).loc main_arg1) := by
  blk_ext! [iblk, V, idx t0_0]

theorem codes_eq : Value.reg_main_v1_0 m c = codesF (m ((c : Thread nD τ).loc main_arg1)) := by
  unfold Value.reg_main_v1_0
  refine (dats m 0 c).arrAt_eq_of_after_last 1 t0_0 (by decide +kernel) _ fun j => ?_
  blk_simp
  rw [after0_1]
  frame_out
  rw [iblk0]
  exact pay4_at _ _

theorem scale_eq : Value.reg_main_v1_1 m c = fun y => two (expo (amF (m ((c : Thread nD τ).loc main_arg1)) (y 0))) := by
  unfold Value.reg_main_v1_1
  refine (dats m 0 c).arrAt_eq_of_after_last 2 t0_0 (by decide +kernel) _ fun j => ?_
  blk_simp
  rw [after0_2]
  frame_out
  rw [iblk0]
  exact pay1_at _ _

theorem scol_at (r : Vec Ideal S2048x1 .f32) (y : S2048x128.Idx) : val_main_v65 (F := Ideal) r y = r (ix2 (y 0) 0) := by
  pointwise [val_main_v65]

/-! ## The results after the run -/

theorem end_da : val_main_v73 (F := Ideal) (Value.exitV m c (Proc.devRef .tc main_arg0)) (Value.exitV m c (Proc.devRef .tc main_arg1)) (Value.exitV m c (Proc.devRef .tc main_arg3)) (Value.exitV m c (Proc.devRef .tc main_arg4)) (Value.exitV m c (Proc.devRef .tc main_arg5))
    = daF (m ((c : Thread nD τ).loc main_arg0)) (m ((c : Thread nD τ).loc main_arg1)) (m ((c : Thread nD τ).loc main_arg3)) (m ((c : Thread nD τ).loc main_arg4)) (m ((c : Thread nD τ).loc main_arg5)) := by
  rw [Value.exit_main_arg0 m c, Value.exit_main_arg1 m c, Value.exit_main_arg3 m c, Value.exit_main_arg4 m c, Value.exit_main_arg5 m c]
  exact funext fun y => da_at _ _ _ _ _ y

theorem end_das : val_main_v64 (F := Ideal) (Value.exitV m c (Proc.devRef .tc main_arg0)) (Value.exitV m c (Proc.devRef .tc main_arg1)) (Value.exitV m c (Proc.devRef .tc main_arg7))
    = dasF (m ((c : Thread nD τ).loc main_arg0)) (m ((c : Thread nD τ).loc main_arg1)) (m ((c : Thread nD τ).loc main_arg7)) := by
  rw [Value.exit_main_arg0 m c, Value.exit_main_arg1 m c, Value.exit_main_arg7 m c]
  exact funext fun y => das_at _ _ _ y

theorem end_db : val_main_v74 (F := Ideal) (Value.exitV m c (Proc.devRef .tc main_arg0)) (Value.exitV m c (Proc.devRef .tc main_arg2)) (Value.exitV m c (Proc.devRef .tc main_arg4)) (Value.exitV m c (Proc.devRef .tc main_arg5)) (Value.exitV m c (Proc.devRef .tc main_v0))
    = dbF (m ((c : Thread nD τ).loc main_arg0)) (m ((c : Thread nD τ).loc main_arg1)) (m ((c : Thread nD τ).loc main_arg2)) (m ((c : Thread nD τ).loc main_arg4)) (m ((c : Thread nD τ).loc main_arg5)) := by
  rw [Value.exit_main_arg0 m c, Value.exit_main_arg2 m c, Value.exit_main_arg4 m c, Value.exit_main_arg5 m c, Value.exit_main_v0 m c]
  exact funext fun y => db_at _ _ _ _ _ y

theorem end_dbs : val_main_v61 (F := Ideal) (Value.exitV m c (Proc.devRef .tc main_arg0)) (Value.exitV m c (Proc.devRef .tc main_arg1)) (Value.exitV m c (Proc.devRef .tc main_arg6))
    = dbsF (m ((c : Thread nD τ).loc main_arg0)) (m ((c : Thread nD τ).loc main_arg1)) (m ((c : Thread nD τ).loc main_arg6)) := by
  rw [Value.exit_main_arg0 m c, Value.exit_main_arg1 m c, Value.exit_main_arg6 m c]
  exact funext fun y => dbs_at _ _ _ y

theorem end_dg : val_main_v75 (F := Ideal) (Value.exitV m c (Proc.devRef .tc main_arg0)) (Value.exitV m c (Proc.devRef .tc main_arg1)) (Value.exitV m c (Proc.devRef .tc main_arg2)) (Value.exitV m c (Proc.devRef .tc main_arg3)) (Value.exitV m c (Proc.devRef .tc main_arg4))
    = dgF (m ((c : Thread nD τ).loc main_arg0)) (m ((c : Thread nD τ).loc main_arg1)) (m ((c : Thread nD τ).loc main_arg2)) (m ((c : Thread nD τ).loc main_arg3)) (m ((c : Thread nD τ).loc main_arg4)) := by
  rw [Value.exit_main_arg0 m c, Value.exit_main_arg1 m c, Value.exit_main_arg2 m c, Value.exit_main_arg3 m c, Value.exit_main_arg4 m c]
  exact funext fun y => dg_at _ _ _ _ _ y

theorem end_gut : val_main_v72 (F := Ideal) (Value.exitV m c (Proc.devRef .tc main_arg1)) (Value.exitV m c (Proc.devRef .tc main_arg3)) (Value.exitV m c (Proc.devRef .tc main_arg4)) (Value.exitV m c (Proc.devRef .tc main_arg5)) (Value.exitV m c (Proc.devRef .tc main_arg7))
    = gutF (m ((c : Thread nD τ).loc main_arg1)) (m ((c : Thread nD τ).loc main_arg3)) (m ((c : Thread nD τ).loc main_arg4)) (m ((c : Thread nD τ).loc main_arg5)) (m ((c : Thread nD τ).loc main_arg7)) := by
  rw [Value.exit_main_arg1 m c, Value.exit_main_arg3 m c, Value.exit_main_arg4 m c, Value.exit_main_arg5 m c, Value.exit_main_arg7 m c]
  exact funext fun y => gut_at _ _ _ _ _ y

theorem end_scale : val_main_v76 (F := Ideal) (Value.exitV m c (Proc.devRef .tc main_v1_1)) = scaleF (m ((c : Thread nD τ).loc main_arg1)) := by
  rw [Value.exit_main_v1_1 m c, scale_eq]
  exact funext fun y => (val_main_v76_apply _ y).trans (congrArg (fun s => two (expo (amF (m ((c : Thread nD τ).loc main_arg1)) s))) (Fin.ext (Nat.div_one _)))

theorem end_scol : val_main_v65 (F := Ideal) (Value.exitV m c (Proc.devRef .tc main_v1_1)) = scolF (m ((c : Thread nD τ).loc main_arg1)) := by
  rw [Value.exit_main_v1_1 m c, scale_eq]
  exact funext fun y => scol_at _ y

end Cert.Proof.AdRef

end
-- ==== Proof.lean ====
module

public import proofs.«01_k».proof.Defs
public import proofs.«01_k».proof.Proof.Gen.Base
public import proofs.«01_k».proof.Proof.Gen.Base.Skeleton
public import proofs.«01_k».proof.Proof.Gen.Base.Loops
public import proofs.«01_k».proof.Proof.Gen.Base.Launch
public import proofs.«01_k».proof.Proof.Gen.Base.Points
public import proofs.«01_k».proof.Proof.Gen.Base.Frame
public import proofs.«01_k».proof.Proof.Gen.BaseIdeal
public import proofs.«01_k».proof.Proof.Gen.BaseIdeal.Skeleton
public import proofs.«01_k».proof.Proof.Gen.BaseIdeal.Loops
public import proofs.«01_k».proof.Proof.Gen.BaseIdeal.Launch
public import proofs.«01_k».proof.Proof.Gen.BaseIdeal.Points
public import proofs.«01_k».proof.Proof.Gen.BaseIdeal.Frame
public import proofs.«01_k».proof.Proof.Gen.BaseRefIdeal
public import proofs.«01_k».proof.Proof.Gen.BaseRefIdeal.Skeleton
public import proofs.«01_k».proof.Proof.Gen.BaseRefIdeal.Launch
public import proofs.«01_k».proof.Proof.Gen.BaseRefIdeal.Points
public import proofs.«01_k».proof.Proof.Gen.BaseRefIdeal.Frame
public import proofs.«01_k».proof.Proof.Gen.BaseIdeal.Value
public import proofs.«01_k».proof.Proof.Gen.BaseRefIdeal.Run
public import proofs.«01_k».proof.Proof.Gen.BaseRefIdeal.Read
public import proofs.«01_k».proof.Proof.Equal
public import proofs.«01_k».proof.Proof.Gen.AdaptersCmp
public import proofs.«01_k».proof.Proof.Gen.AdaptersCmp.Skeleton
public import proofs.«01_k».proof.Proof.Gen.AdaptersCmp.Loops
public import proofs.«01_k».proof.Proof.Gen.AdaptersCmp.Launch
public import proofs.«01_k».proof.Proof.Gen.AdaptersCmp.Points
public import proofs.«01_k».proof.Proof.Gen.AdaptersCmpIdeal
public import proofs.«01_k».proof.Proof.Gen.AdaptersCmpIdeal.Skeleton
public import proofs.«01_k».proof.Proof.Gen.AdaptersCmpIdeal.Loops
public import proofs.«01_k».proof.Proof.Gen.AdaptersCmpIdeal.Launch
public import proofs.«01_k».proof.Proof.Gen.AdaptersCmpIdeal.Points
public import proofs.«01_k».proof.Proof.Gen.AdaptersRefIdeal
public import proofs.«01_k».proof.Proof.Gen.AdaptersRefIdeal.Skeleton
public import proofs.«01_k».proof.Proof.Gen.AdaptersRefIdeal.Launch
public import proofs.«01_k».proof.Proof.Gen.AdaptersRefIdeal.Points
public import proofs.«01_k».proof.Proof.Gen.AdaptersRefIdeal.Frame
public import proofs.«01_k».proof.Proof.Gen.AdaptersRefIdeal.Run
public import proofs.«01_k».proof.Proof.Gen.AdaptersRefIdeal.Read
public import proofs.«01_k».proof.Proof.Cmp.Frame
public import proofs.«01_k».proof.Proof.CmpIdeal.Frame
public import proofs.«01_k».proof.Proof.CmpIdeal.Value
public import proofs.«01_k».proof.Proof.AdFold
public import proofs.«01_k».proof.Proof.AdRef
public import Idealize.ShloMosaic.Adequacy
public import Idealize.ShloMosaic.Init

@[expose] public section

noncomputable section

namespace Cert.Proof

open Idealize.ShloMosaic Idealize.SL.Sem Cert.Base

/-- The base product and its reference end with equal results, element by element. -/
theorem algebraic : Cert.algebraic_BaseIdeal_BaseRefIdeal := by
  intro m g m' g' _ hagree
  refine ⟨fun c => Cert.BaseIdeal.Value.G7 m c, Cert.BaseIdeal.Value.run m g,
    (θ_run _ _ _).mono (fun r h c => ⟨(h c).1.trans ?_, (h c).2⟩) (Cert.BaseRefIdeal.Value.run m' g')⟩
  obtain ⟨h0, h1, h2, h3, h4, h5, h6⟩ := hagree c
  refine funext fun y => ?_
  refine Eq.trans ?_ (Base.G7_eq m c y).symm
  rw [← h0, ← h1, ← h2, ← h3, ← h4, ← h5, ← h6, BaseRef.reg0_eq, BaseRef.reg1_eq]
  exact BaseRef.ref_apply _ _ _ _ _ _ _ y

/-- The adapters call and its reference end with equal results, element by element. -/
theorem algebraicAd : Cert.algebraic_AdaptersCmpIdeal_AdaptersRefIdeal := by
  intro m g m' g' _ hagree
  refine ⟨fun c => Ad.daF (Ad.aX m c) (Ad.aD m c) (Ad.aB m c) (Ad.aI m c) (Ad.aG m c),
    fun c => Ad.dasF (Ad.aX m c) (Ad.aD m c) (Ad.aBs m c),
    fun c => Ad.dbF (Ad.aX m c) (Ad.aD m c) (Ad.aA m c) (Ad.aI m c) (Ad.aG m c),
    fun c => Ad.dbsF (Ad.aX m c) (Ad.aD m c) (Ad.aAs m c),
    fun c => Ad.dgF (Ad.aX m c) (Ad.aD m c) (Ad.aA m c) (Ad.aB m c) (Ad.aI m c),
    fun c => Ad.codesF (Ad.aD m c),
    fun c => Ad.scaleF (Ad.aD m c),
    fun c => Ad.scolF (Ad.aD m c),
    fun c => Ad.gutF (Ad.aD m c) (Ad.aB m c) (Ad.aI m c) (Ad.aG m c) (Ad.aBs m c),
    (θ_run _ _ _).mono (fun r h c => ⟨(h c).1.trans (Ad.final8 m c),
      (h c).2.1.trans (Ad.final9 m c),
      (h c).2.2.1.trans (Ad.final10 m c),
      (h c).2.2.2.1.trans (Ad.final11 m c),
      (h c).2.2.2.2.1.trans (Ad.final12 m c),
      (h c).2.2.2.2.2.1.trans (Ad.final13 m c),
      Ad.final14 m c _ (h c).2.2.2.2.2.2.1,
      (h c).2.2.2.2.2.2.2.1.trans (Ad.final15 m c),
      (h c).2.2.2.2.2.2.2.2.1.trans (Ad.final16 m c), (h c).2.2.2.2.2.2.2.2.2⟩)
      (Cert.AdaptersCmpIdeal.Value.run_blocks m g),
    (θ_run _ _ _).mono (fun r h c => ⟨(h c).1.trans ((Cert.AdaptersRefIdeal.Read.val_main_v73_eq _).trans ((AdRef.end_da m' c).trans ?_)),
      (h c).2.1.trans ((Cert.AdaptersRefIdeal.Read.val_main_v64_eq _).trans ((AdRef.end_das m' c).trans ?_)),
      (h c).2.2.1.trans ((Cert.AdaptersRefIdeal.Read.val_main_v74_eq _).trans ((AdRef.end_db m' c).trans ?_)),
      (h c).2.2.2.1.trans ((Cert.AdaptersRefIdeal.Read.val_main_v61_eq _).trans ((AdRef.end_dbs m' c).trans ?_)),
      (h c).2.2.2.2.1.trans ((Cert.AdaptersRefIdeal.Read.val_main_v75_eq _).trans ((AdRef.end_dg m' c).trans ?_)),
      (h c).2.2.2.2.2.1.trans ((AdRef.codes_eq m' c).trans ?_),
      (h c).2.2.2.2.2.2.1.trans ((Cert.AdaptersRefIdeal.Read.val_main_v76_eq _).trans ((AdRef.end_scale m' c).trans ?_)),
      (h c).2.2.2.2.2.2.2.1.trans ((Cert.AdaptersRefIdeal.Read.val_main_v65_eq _).trans ((AdRef.end_scol m' c).trans ?_)),
      (h c).2.2.2.2.2.2.2.2.1.trans ((Cert.AdaptersRefIdeal.Read.val_main_v72_eq _).trans ((AdRef.end_gut m' c).trans ?_)), (h c).2.2.2.2.2.2.2.2.2⟩)
      (Cert.AdaptersRefIdeal.Value.run m' g')⟩
  all_goals
    obtain ⟨h0, h1, h2, h3, h4, h5, h6, h7⟩ := hagree c
    simp only [h0, h1, h2, h3, h4, h5, h6, h7]

theorem claim : Cert.Claim := ⟨Cert.Base.Gen.facts, Cert.BaseIdeal.Gen.facts, Cert.BaseRefIdeal.Gen.facts,
  Cert.AdaptersCmp.Gen.facts, Cert.AdaptersCmpIdeal.Gen.facts, Cert.AdaptersRefIdeal.Gen.facts,
  fun m ρ _ => Cert.Base.Gen.frame m ρ, fun m ρ _ => Cert.BaseIdeal.Gen.frame m ρ,
  fun m ρ _ => Cert.BaseRefIdeal.Gen.frame m ρ, fun m ρ _ => Cert.AdaptersCmp.Gen.frame m ρ,
  fun m ρ _ => Cert.AdaptersCmpIdeal.Gen.frame m ρ, fun m ρ _ => Cert.AdaptersRefIdeal.Gen.frame m ρ,
  trivial, algebraic, trivial, algebraicAd⟩

end Cert.Proof

end
